-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Experts [hPre_tables : Cert.Pre_tables.Facts] (m : (ℓ : Loc Cert.Experts.nD Cert.Experts.τ Cert.Experts.sig) → Buf (Elt Bits) ℓ) : Prop :=
  ∀ c : Dev Cert.Experts.nD,
    (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).1 = (fun _ => 1#1)
    ∧ (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2.1 = (fun _ => 1#1)
    ∧ (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2.2 = (fun _ => 1#1)

def Pre_ExpertsIdeal [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2.1 = (fun _ => 1#1)
    ∧ (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2.2 = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_tables [hPre_tables : Cert.Pre_tables.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))).1 = (fun _ => 1#1)
    ∧ (Cert.Pre_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))).2.1 = (fun _ => 1#1)
    ∧ (Cert.Pre_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12))
      ∧ r.2.sem = fun _ => 0)

def quiescent_Experts [hExperts : Cert.Experts.Facts] [hPre_tables : Cert.Pre_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_tables [hExpertsRefIdeal : Cert.ExpertsRefIdeal.Facts] [hPre_tables : Cert.Pre_tables.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_tables m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def algebraic_InProjIdeal_ProjRefIdeal [hInProjIdeal : Cert.InProjIdeal.Facts] [hProjRefIdeal : Cert.ProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_InProjIdeal m →
    (∀ c : Dev Cert.InProjIdeal.nD,
      m' ((c.tc : Thread Cert.ProjRefIdeal.nD Cert.ProjRefIdeal.τ).loc Cert.ProjRefIdeal.main_arg0) = m ((c.tc : Thread Cert.InProjIdeal.nD Cert.InProjIdeal.τ).loc Cert.InProjIdeal.main_arg0)
      ∧ m' ((c.tc : Thread Cert.ProjRefIdeal.nD Cert.ProjRefIdeal.τ).loc Cert.ProjRefIdeal.main_arg1) = m ((c.tc : Thread Cert.InProjIdeal.nD Cert.InProjIdeal.τ).loc Cert.InProjIdeal.main_arg1)
      ∧ m' ((c.tc : Thread Cert.ProjRefIdeal.nD Cert.ProjRefIdeal.τ).loc Cert.ProjRefIdeal.main_arg2) = m ((c.tc : Thread Cert.InProjIdeal.nD Cert.InProjIdeal.τ).loc Cert.InProjIdeal.main_arg2)
      ∧ m' ((c.tc : Thread Cert.ProjRefIdeal.nD Cert.ProjRefIdeal.τ).loc Cert.ProjRefIdeal.main_arg3) = m ((c.tc : Thread Cert.InProjIdeal.nD Cert.InProjIdeal.τ).loc Cert.InProjIdeal.main_arg3)
      ∧ m' ((c.tc : Thread Cert.ProjRefIdeal.nD Cert.ProjRefIdeal.τ).loc Cert.ProjRefIdeal.main_arg4) = m ((c.tc : Thread Cert.InProjIdeal.nD Cert.InProjIdeal.τ).loc Cert.InProjIdeal.main_arg4)
      ∧ m' ((c.tc : Thread Cert.ProjRefIdeal.nD Cert.ProjRefIdeal.τ).loc Cert.ProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v12_0)) (v1 : (c : Dev Cert.InProjIdeal.nD) → Buf (Elt Ideal) ((c.tc : Thread Cert.InProjIdeal.nD Cert.InProjIdeal.τ).loc Cert.InProjIdeal.main_v12_1)) (v2 : (c : Dev Cert.InProjIdeal.nD) → Buf (Elt Ideal) ((c.tc : Thread Cert.InProjIdeal.nD Cert.InProjIdeal.τ).loc Cert.InProjIdeal.main_v12_2)) (v3 : (c : Dev Cert.InProjIdeal.nD) → Buf (Elt Ideal) ((c.tc : Thread Cert.InProjIdeal.nD Cert.InProjIdeal.τ).loc Cert.InProjIdeal.main_v12_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v12_0) = v0 c
          ∧ r.2.mem ((c.tc : Thread Cert.InProjIdeal.nD Cert.InProjIdeal.τ).loc Cert.InProjIdeal.main_v12_1) = v1 c
          ∧ r.2.mem ((c.tc : Thread Cert.InProjIdeal.nD Cert.InProjIdeal.τ).loc Cert.InProjIdeal.main_v12_2) = v2 c
          ∧ r.2.mem ((c.tc : Thread Cert.InProjIdeal.nD Cert.InProjIdeal.τ).loc Cert.InProjIdeal.main_v12_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v88) = v0 c
          ∧ r.2.mem ((c.tc : Thread Cert.ProjRefIdeal.nD Cert.ProjRefIdeal.τ).loc Cert.ProjRefIdeal.main_v90) = v1 c
          ∧ r.2.mem ((c.tc : Thread Cert.ProjRefIdeal.nD Cert.ProjRefIdeal.τ).loc Cert.ProjRefIdeal.main_v92) = v2 c
          ∧ r.2.mem ((c.tc : Thread Cert.ProjRefIdeal.nD Cert.ProjRefIdeal.τ).loc Cert.ProjRefIdeal.main_v93) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Mix_MixIdeal : Prop :=
  IdealRules.bf16_pair.BufferStatement Cert.MixIdeal.S87040x2x512 Cert.MixIdeal.S87040x1x512
  ∧ IdealRules.bf16_pair.BufferStatement Cert.MixIdeal.S1280x2x512 Cert.MixIdeal.S1280x1x512
  ∧ IdealRules.bf16_pair.Statement Cert.MixIdeal.S640x2x512 Cert.MixIdeal.S640x1x512
  ∧ IdealRules.bf16_pack.Statement Cert.MixIdeal.S640x512

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)) →
    ∃ (v0 : (c : Dev Cert.MixIdeal.nD) → Buf (Elt Ideal) ((c.tc : Thread Cert.MixIdeal.nD Cert.MixIdeal.τ).loc Cert.MixIdeal.main_v19_0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v19_0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v47) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12))

def preserves_Experts_ExpertsIdeal : Prop :=
  IdealRules.bf16_pair.BufferStatement Cert.ExpertsIdeal.S93184x2x512 Cert.ExpertsIdeal.S93184x1x512
  ∧ IdealRules.bf16_pair.BufferStatement Cert.ExpertsIdeal.S512x2x512 Cert.ExpertsIdeal.S512x1x512
  ∧ IdealRules.bf16_pair.Statement Cert.ExpertsIdeal.S512x2x512 Cert.ExpertsIdeal.S512x1x512
  ∧ IdealRules.bf16_pack.Statement Cert.ExpertsIdeal.S512x512
  ∧ IdealRules.bf16_pair.Statement Cert.ExpertsIdeal.S1024x512 Cert.ExpertsIdeal.S512x512
  ∧ IdealRules.bf16_pair.SelectZeroStatement Cert.ExpertsIdeal.S512x512

def algebraic_ExpertsIdeal_ExpertsRefIdeal [hExpertsIdeal : Cert.ExpertsIdeal.Facts] [hExpertsRefIdeal : Cert.ExpertsRefIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v2) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v23) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hProjRefIdeal : Cert.ProjRefIdeal.Facts) (hMix : Cert.Mix.Facts) (hMixIdeal : Cert.MixIdeal.Facts) (hMixRefIdeal : Cert.MixRefIdeal.Facts) (hExperts : Cert.Experts.Facts) (hExpertsIdeal : Cert.ExpertsIdeal.Facts) (hExpertsRefIdeal : Cert.ExpertsRefIdeal.Facts) (hPre_finite : Cert.Pre_finite.Facts) (hPre_tables : Cert.Pre_tables.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_ProjRefIdeal (hProjRefIdeal := hProjRefIdeal)
    ∧ quiescent_Mix (hMix := hMix)
    ∧ quiescent_MixIdeal (hMixIdeal := hMixIdeal)
    ∧ quiescent_MixRefIdeal (hMixRefIdeal := hMixRefIdeal)
    ∧ quiescent_Experts (hExperts := hExperts) (hPre_tables := hPre_tables)
    ∧ quiescent_ExpertsIdeal (hExpertsIdeal := hExpertsIdeal) (hPre_tables := hPre_tables)
    ∧ quiescent_ExpertsRefIdeal (hExpertsRefIdeal := hExpertsRefIdeal)
    ∧ quiescent_ExpertsRefIdeal_pre_tables (hExpertsRefIdeal := hExpertsRefIdeal) (hPre_tables := hPre_tables)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_ProjRefIdeal (hInProjIdeal := hInProjIdeal) (hProjRefIdeal := hProjRefIdeal)
    ∧ preserves_Mix_MixIdeal
    ∧ algebraic_MixIdeal_MixRefIdeal (hMixIdeal := hMixIdeal) (hMixRefIdeal := hMixRefIdeal)
    ∧ preserves_Experts_ExpertsIdeal
    ∧ algebraic_ExpertsIdeal_ExpertsRefIdeal (hExpertsIdeal := hExpertsIdeal) (hExpertsRefIdeal := hExpertsRefIdeal) (hPre_tables := hPre_tables)
-- ==== Pre_finite.lean ====
abbrev S8 : Shape := ⟨1, ![8]⟩
abbrev S8x8x4352x64 : Shape := ⟨4, ![8, 8, 4352, 64]⟩
abbrev S8x2x4352x64 : Shape := ⟨4, ![8, 2, 4352, 64]⟩
abbrev S_ : Shape := ⟨0, ![]⟩

class Facts : Prop where
  bcast_S_S8 : S_.BroadcastsInDim S8 (![] : Fin 0 → Fin S8.rank)
  bitsLt_bf16_f32 : FTy.bits .bf16 < FTy.bits .f32
  bcast_S_S8x8x4352x64 : S_.BroadcastsInDim S8x8x4352x64 (![] : Fin 0 → Fin S8x8x4352x64.rank)
  bcast_S_S8x2x4352x64 : S_.BroadcastsInDim S8x2x4352x64 (![] : Fin 0 → Fin S8x2x4352x64.rank)

variable [Facts]

def fn {F : FTy → Type} [FloatOps F] (main_arg0 : FVec F S8 .f32) (main_arg1 : FVec F S8x8x4352x64 .bf16) (main_arg2 : FVec F S8x2x4352x64 .bf16) (main_arg3 : FVec F S8x2x4352x64 .bf16) : IVec S8 1 × IVec S8x8x4352x64 1 × IVec S8x2x4352x64 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S8x8x4352x64 .f32 := (extf .f32 · bitsLt_bf16_f32) main_arg1
  let main_v4 : FVec F S8x8x4352x64 .f32 := Host.absf main_v3
  let main_cst_0 : FVec F S_ .f32 := constant S_ .f32 0x7F800000#32
  let main_v5 : FVec F S8x8x4352x64 .f32 := broadcastInDim S8x8x4352x64 ![] bcast_S_S8x8x4352x64 main_cst_0
  let main_v6 : IVec S8x8x4352x64 1 := cmpf .olt main_v4 main_v5
  let main_v7 : FVec F S8x2x4352x64 .f32 := (extf .f32 · bitsLt_bf16_f32) main_arg2
  let main_v8 : FVec F S8x2x4352x64 .f32 := Host.absf main_v7
  let main_cst_1 : FVec F S_ .f32 := constant S_ .f32 0x7F800000#32
  let main_v9 : FVec F S8x2x4352x64 .f32 := broadcastInDim S8x2x4352x64 ![] bcast_S_S8x2x4352x64 main_cst_1
  let main_v10 : IVec S8x2x4352x64 1 := cmpf .olt main_v8 main_v9
  (main_v2, main_v6, main_v10)
-- ==== Pre_tables.lean ====
abbrev S182 : Shape := ⟨1, ![182]⟩
abbrev S1 : Shape := ⟨1, ![1]⟩
abbrev S93184x1024 : Shape := ⟨2, ![93184, 1024]⟩
abbrev S2x16x1024x1024 : Shape := ⟨4, ![2, 16, 1024, 1024]⟩
abbrev S_ : Shape := ⟨0, ![]⟩

class Facts : Prop where
  bcast_S_S182 : S_.BroadcastsInDim S182 (![] : Fin 0 → Fin S182.rank)
  bcast_S_S1 : S_.BroadcastsInDim S1 (![] : Fin 0 → Fin S1.rank)

variable [Facts]

def fn {F : FTy → Type} [FloatOps F] (main_arg0 : IVec S182 32) (main_arg1 : IVec S1 32) (main_arg2 : FVec F S93184x1024 .bf16) (main_arg3 : FVec F S2x16x1024x1024 .f32) (main_arg4 : FVec F S2x16x1024x1024 .f32) (main_arg5 : FVec F S2x16x1024x1024 .f32) : IVec S182 1 × IVec S182 1 × IVec S1 1 :=
  let main_c : IVec S_ 32 := constantI S_ 32 0#32
  let main_v0 : IVec S182 32 := broadcastInDim S182 ![] bcast_S_S182 main_c
  let main_v1 : IVec S182 1 := cmpi .sge main_arg0 main_v0
  let main_c_0 : IVec S_ 32 := constantI S_ 32 16#32
  let main_v2 : IVec S182 32 := broadcastInDim S182 ![] bcast_S_S182 main_c_0
  let main_v3 : IVec S182 1 := cmpi .slt main_arg0 main_v2
  let main_c_1 : IVec S_ 32 := constantI S_ 32 1#32
  let main_v4 : IVec S1 32 := broadcastInDim S1 ![] bcast_S_S1 main_c_1
  let main_v5 : IVec S1 1 := cmpi .sge main_arg1 main_v4
  (main_v1, main_v3, main_v5)
-- ==== Kernel.lean ====
abbrev S8 : Shape := ⟨1, ![8]⟩
abbrev S8x8x4352x64 : Shape := ⟨4, ![8, 8, 4352, 64]⟩
abbrev S8x2x4352x64 : Shape := ⟨4, ![8, 2, 4352, 64]⟩
abbrev S8x4352x512 : Shape := ⟨3, ![8, 4352, 512]⟩
abbrev S1x8x256x64 : Shape := ⟨4, ![1, 8, 256, 64]⟩
abbrev S1x2x128x64 : Shape := ⟨4, ![1, 2, 128, 64]⟩
abbrev S1x2x256x64 : Shape := ⟨4, ![1, 2, 256, 64]⟩
abbrev S1x256x512 : Shape := ⟨3, ![1, 256, 512]⟩
abbrev S512x128 : Shape := ⟨2, ![512, 128]⟩
abbrev S512x1 : Shape := ⟨2, ![512, 1]⟩
abbrev S1x4x128x64 : Shape := ⟨4, ![1, 4, 128, 64]⟩
abbrev S4x128x64 : Shape := ⟨3, ![4, 128, 64]⟩
abbrev S512x64 : Shape := ⟨2, ![512, 64]⟩
abbrev S1x1x128x64 : Shape := ⟨4, ![1, 1, 128, 64]⟩
abbrev S128x64 : Shape := ⟨2, ![128, 64]⟩
abbrev S1x1x256x64 : Shape := ⟨4, ![1, 1, 256, 64]⟩
abbrev S256x64 : Shape := ⟨2, ![256, 64]⟩
abbrev S512x256 : Shape := ⟨2, ![512, 256]⟩
abbrev S1 : Shape := ⟨1, ![1]⟩
abbrev S512 : Shape := ⟨1, ![512]⟩
abbrev S128x512 : Shape := ⟨2, ![128, 512]⟩
abbrev S1x128x512 : Shape := ⟨3, ![1, 128, 512]⟩

abbrev nBuf : Space → Nat
  | .hbm => 5
  | .vmem => 20
  | .smem => 1
  | _ => 0

abbrev bufTy : (tb : Table) → Fin (tcTables nBuf tb) → BufTy
  | .hbm, ⟨0, _⟩ => ⟨S8, .f32⟩
  | .hbm, ⟨1, _⟩ => ⟨S8x8x4352x64, .bf16⟩
  | .hbm, ⟨2, _⟩ => ⟨S8x2x4352x64, .bf16⟩
  | .hbm, ⟨3, _⟩ => ⟨S8x2x4352x64, .bf16⟩
  | .hbm, ⟨4, _⟩ => ⟨S8x4352x512, .bf16⟩
  | .local _ .vmem, ⟨0, _⟩ => ⟨S1x8x256x64, .bf16⟩
  | .local _ .vmem, ⟨1, _⟩ => ⟨S1x8x256x64, .bf16⟩
  | .local _ .vmem, ⟨2, _⟩ => ⟨S1x2x128x64, .bf16⟩
  | .local _ .vmem, ⟨3, _⟩ => ⟨S1x2x128x64, .bf16⟩
  | .local _ .vmem, ⟨4, _⟩ => ⟨S1x2x256x64, .bf16⟩
  | .local _ .vmem, ⟨5, _⟩ => ⟨S1x2x256x64, .bf16⟩
  | .local _ .vmem, ⟨6, _⟩ => ⟨S1x2x128x64, .bf16⟩
  | .local _ .vmem, ⟨7, _⟩ => ⟨S1x2x128x64, .bf16⟩
  | .local _ .vmem, ⟨8, _⟩ => ⟨S1x2x128x64, .bf16⟩
  | .local _ .vmem, ⟨9, _⟩ => ⟨S1x2x128x64, .bf16⟩
  | .local _ .vmem, ⟨10, _⟩ => ⟨S1x2x256x64, .bf16⟩
  | .local _ .vmem, ⟨11, _⟩ => ⟨S1x2x256x64, .bf16⟩
  | .local _ .vmem, ⟨12, _⟩ => ⟨S1x2x128x64, .bf16⟩
  | .local _ .vmem, ⟨13, _⟩ => ⟨S1x2x128x64, .bf16⟩
  | .local _ .vmem, ⟨14, _⟩ => ⟨S1x2x256x64, .bf16⟩
  | .local _ .vmem, ⟨15, _⟩ => ⟨S1x2x256x64, .bf16⟩
  | .local _ .vmem, ⟨16, _⟩ => ⟨S1x2x256x64, .bf16⟩
  | .local _ .vmem, ⟨17, _⟩ => ⟨S1x2x256x64, .bf16⟩
  | .local _ .vmem, ⟨18, _⟩ => ⟨S1x256x512, .bf16⟩
  | .local _ .vmem, ⟨19, _⟩ => ⟨S1x256x512, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 17], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c33_i32 : BitVec 32 := 33#32
  let v2 : BitVec 32 := Scalar.minsi v1 c33_i32
  let c0_i32 : BitVec 32 := 0#32
  let c0_i32_1 : BitVec 32 := 0#32
  let c0_i32_2 : BitVec 32 := 0#32
  ![arg0.toNat, c0_i32.toNat, v2.toNat, c0_i32_1.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c33_i32 : BitVec 32 := 33#32
  let v2 : BitVec 32 := Scalar.minsi v1 c33_i32
  let c0_i32 : BitVec 32 := 0#32
  let c0_i32_1 : BitVec 32 := 0#32
  let c0_i32_2 : BitVec 32 := 0#32
  ![arg0.toNat, c0_i32.toNat, v2.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x128x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8 : Shape := ⟨1, ![8]⟩
abbrev S8x8x4352x64 : Shape := ⟨4, ![8, 8, 4352, 64]⟩
abbrev S8x2x4352x64 : Shape := ⟨4, ![8, 2, 4352, 64]⟩
abbrev S8x2x4x4352x64 : Shape := ⟨5, ![8, 2, 4, 4352, 64]⟩
abbrev S8x2x4x4352x4352 : Shape := ⟨5, ![8, 2, 4, 4352, 4352]⟩
abbrev S8x2x4x256x256 : Shape := ⟨5, ![8, 2, 4, 256, 256]⟩
abbrev S8x2x256x64 : Shape := ⟨4, ![8, 2, 256, 64]⟩
abbrev S1x2x4x1x1 : Shape := ⟨5, ![1, 2, 4, 1, 1]⟩
abbrev S8x2x4x256x1 : Shape := ⟨5, ![8, 2, 4, 256, 1]⟩
abbrev S8x2x4x256x257 : Shape := ⟨5, ![8, 2, 4, 256, 257]⟩
abbrev S_ : Shape := ⟨0, ![]⟩
abbrev S8x2x4x256 : Shape := ⟨4, ![8, 2, 4, 256]⟩
abbrev S8x2x64x4x256 : Shape := ⟨5, ![8, 2, 64, 4, 256]⟩
abbrev S8x256x2x4x64 : Shape := ⟨5, ![8, 256, 2, 4, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x2x4x4096x4096 : Shape := ⟨5, ![8, 2, 4, 4096, 4096]⟩
abbrev S8x2x4x4096x256 : Shape := ⟨5, ![8, 2, 4, 4096, 256]⟩
abbrev S8x2x4x4096x4352 : Shape := ⟨5, ![8, 2, 4, 4096, 4352]⟩
abbrev S8x2x4x4096x1 : Shape := ⟨5, ![8, 2, 4, 4096, 1]⟩
abbrev S8x2x4x4096x4353 : Shape := ⟨5, ![8, 2, 4, 4096, 4353]⟩
abbrev S8x2x4x4096 : Shape := ⟨4, ![8, 2, 4, 4096]⟩
abbrev S8x2x64x4x4096 : Shape := ⟨5, ![8, 2, 64, 4, 4096]⟩
abbrev S8x4096x2x4x64 : Shape := ⟨5, ![8, 4096, 2, 4, 64]⟩
abbrev S8x4352x2x4x64 : Shape := ⟨5, ![8, 4352, 2, 4, 64]⟩
abbrev S8x4352x512 : Shape := ⟨3, ![8, 4352, 512]⟩

abbrev nBuf : Space → Nat
  | .hbm => 73
  | .vmem => 0
  | .smem => 0
  | _ => 0

abbrev bufTy : (tb : Table) → Fin (tcTables nBuf tb) → BufTy
  | .hbm, ⟨0, _⟩ => ⟨S8, .f32⟩
  | .hbm, ⟨1, _⟩ => ⟨S8x8x4352x64, .bf16⟩
  | .hbm, ⟨2, _⟩ => ⟨S8x2x4352x64, .bf16⟩
  | .hbm, ⟨3, _⟩ => ⟨S8x2x4352x64, .bf16⟩
  | .hbm, ⟨4, _⟩ => ⟨S8x8x4352x64, .f32⟩
  | .hbm, ⟨5, _⟩ => ⟨S8x2x4x4352x64, .f32⟩
  | .hbm, ⟨6, _⟩ => ⟨S8x2x4352x64, .f32⟩
  | .hbm, ⟨7, _⟩ => ⟨S8x2x4352x64, .f32⟩
  | .hbm, ⟨8, _⟩ => ⟨S8x2x4x4352x4352, .f32⟩
  | .hbm, ⟨9, _⟩ => ⟨S8x2x4x256x256, .f32⟩
  | .hbm, ⟨10, _⟩ => ⟨S8x2x256x64, .f32⟩
  | .hbm, ⟨11, _⟩ => ⟨S1x2x4x1x1, .f32⟩
  | .hbm, ⟨12, _⟩ => ⟨S8x2x4x256x1, .f32⟩
  | .hbm, ⟨13, _⟩ => ⟨S8x2x4x256x257, .f32⟩
  | .hbm, ⟨14, _⟩ => ⟨S_, .f32⟩
  | .hbm, ⟨15, _⟩ => ⟨S8x2x4x256, .f32⟩
  | .hbm, ⟨16, _⟩ => ⟨S_, .f32⟩
  | .hbm, ⟨17, _⟩ => ⟨S8x2x4x256, .f32⟩
  | .hbm, ⟨18, _⟩ => ⟨S8x2x4x256, .f32⟩
  | .hbm, ⟨19, _⟩ => ⟨S8x2x4x256x1, .f32⟩
  | .hbm, ⟨20, _⟩ => ⟨S8x2x4x256x257, .f32⟩
  | .hbm, ⟨21, _⟩ => ⟨S8x2x4x256x257, .f32⟩
  | .hbm, ⟨22, _⟩ => ⟨S8x2x4x256x257, .f32⟩
  | .hbm, ⟨23, _⟩ => ⟨S_, .f32⟩
  | .hbm, ⟨24, _⟩ => ⟨S8x2x4x256, .f32⟩
  | .hbm, ⟨25, _⟩ => ⟨S8x2x4x256x1, .f32⟩
  | .hbm, ⟨26, _⟩ => ⟨S8x2x4x256x257, .f32⟩
  | .hbm, ⟨27, _⟩ => ⟨S8x2x4x256x257, .f32⟩
  | .hbm, ⟨28, _⟩ => ⟨S8x2x4x256x256, .f32⟩
  | .hbm, ⟨29, _⟩ => ⟨S8x2x64x4x256, .f32⟩
  | .hbm, ⟨30, _⟩ => ⟨S8x256x2x4x64, .f32⟩
  | .hbm, ⟨31, _⟩ => ⟨S4096, .i32⟩
  | .hbm, ⟨32, _⟩ => ⟨S4096x1, .i32⟩
  | .hbm, ⟨33, _⟩ => ⟨S4096, .i32⟩
  | .hbm, ⟨34, _⟩ => ⟨S1x4096, .i32⟩
  | .hbm, ⟨35, _⟩ => ⟨S4096x4096, .i32⟩
  | .hbm, ⟨36, _⟩ => ⟨S4096x4096, .i32⟩
  | .hbm, ⟨37, _⟩ => ⟨S4096x4096, .i32⟩
  | .hbm, ⟨38, _⟩ => ⟨S4096x4096, .i32⟩
  | .hbm, ⟨39, _⟩ => ⟨S_, .i32⟩
  | .hbm, ⟨40, _⟩ => ⟨S4096x4096, .i32⟩
  | .hbm, ⟨41, _⟩ => ⟨S4096x4096, .i1⟩
  | .hbm, ⟨42, _⟩ => ⟨S8x2x4x4096x4096, .f32⟩
  | .hbm, ⟨43, _⟩ => ⟨S_, .f32⟩
  | .hbm, ⟨44, _⟩ => ⟨S_, .f32⟩
  | .hbm, ⟨45, _⟩ => ⟨S8x2x4x4096x4096, .i1⟩
  | .hbm, ⟨46, _⟩ => ⟨S8x2x4x4096x4096, .f32⟩
  | .hbm, ⟨47, _⟩ => ⟨S8x2x4x4096x4096, .f32⟩
  | .hbm, ⟨48, _⟩ => ⟨S8x2x4x4096x256, .f32⟩
  | .hbm, ⟨49, _⟩ => ⟨S8x2x4x4096x4352, .f32⟩
  | .hbm, ⟨50, _⟩ => ⟨S1x2x4x1x1, .f32⟩
  | .hbm, ⟨51, _⟩ => ⟨S8x2x4x4096x1, .f32⟩
  | .hbm, ⟨52, _⟩ => ⟨S8x2x4x4096x4353, .f32⟩
  | .hbm, ⟨53, _⟩ => ⟨S_, .f32⟩
  | .hbm, ⟨54, _⟩ => ⟨S8x2x4x4096, .f32⟩
  | .hbm, ⟨55, _⟩ => ⟨S_, .f32⟩
  | .hbm, ⟨56, _⟩ => ⟨S8x2x4x4096, .f32⟩
  | .hbm, ⟨57, _⟩ => ⟨S8x2x4x4096, .f32⟩
  | .hbm, ⟨58, _⟩ => ⟨S8x2x4x4096x1, .f32⟩
  | .hbm, ⟨59, _⟩ => ⟨S8x2x4x4096x4353, .f32⟩
  | .hbm, ⟨60, _⟩ => ⟨S8x2x4x4096x4353, .f32⟩
  | .hbm, ⟨61, _⟩ => ⟨S8x2x4x4096x4353, .f32⟩
  | .hbm, ⟨62, _⟩ => ⟨S_, .f32⟩
  | .hbm, ⟨63, _⟩ => ⟨S8x2x4x4096, .f32⟩
  | .hbm, ⟨64, _⟩ => ⟨S8x2x4x4096x1, .f32⟩
  | .hbm, ⟨65, _⟩ => ⟨S8x2x4x4096x4353, .f32⟩
  | .hbm, ⟨66, _⟩ => ⟨S8x2x4x4096x4353, .f32⟩
  | .hbm, ⟨67, _⟩ => ⟨S8x2x4x4096x4352, .f32⟩
  | .hbm, ⟨68, _⟩ => ⟨S8x2x64x4x4096, .f32⟩
  | .hbm, ⟨69, _⟩ => ⟨S8x4096x2x4x64, .f32⟩
  | .hbm, ⟨70, _⟩ => ⟨S8x4352x2x4x64, .f32⟩
  | .hbm, ⟨71, _⟩ => ⟨S8x4352x512, .f32⟩
  | .hbm, ⟨72, _⟩ => ⟨S8x4352x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== InProj.lean ====
abbrev S8x4352x1024 : Shape := ⟨3, ![8, 4352, 1024]⟩
abbrev S16x1x6144 : Shape := ⟨3, ![16, 1, 6144]⟩
abbrev S1024 : Shape := ⟨1, ![1024]⟩
abbrev S1024x2688 : Shape := ⟨2, ![1024, 2688]⟩
abbrev S4096x64 : Shape := ⟨2, ![4096, 64]⟩
abbrev S_ : Shape := ⟨0, ![]⟩
abbrev S256x64 : Shape := ⟨2, ![256, 64]⟩
abbrev S4352x64 : Shape := ⟨2, ![4352, 64]⟩
abbrev S1x4352x1x64 : Shape := ⟨4, ![1, 4352, 1, 64]⟩
abbrev S1x4352x2x64 : Shape := ⟨4, ![1, 4352, 2, 64]⟩
abbrev S4352x128 : Shape := ⟨2, ![4352, 128]⟩
abbrev S1x1024 : Shape := ⟨2, ![1, 1024]⟩
abbrev S8x8x4352x64 : Shape := ⟨4, ![8, 8, 4352, 64]⟩
abbrev S8x2x4352x64 : Shape := ⟨4, ![8, 2, 4352, 64]⟩
abbrev S8x4352x1920 : Shape := ⟨3, ![8, 4352, 1920]⟩
abbrev S1x256x1024 : Shape := ⟨3, ![1, 256, 1024]⟩
abbrev S1x1x6144 : Shape := ⟨3, ![1, 1, 6144]⟩
abbrev S256x128 : Shape := ⟨2, ![256, 128]⟩
abbrev S1x8x256x64 : Shape := ⟨4, ![1, 8, 256, 64]⟩
abbrev S1x2x256x64 : Shape := ⟨4, ![1, 2, 256, 64]⟩
abbrev S1x256x1920 : Shape := ⟨3, ![1, 256, 1920]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S256x2688 : Shape := ⟨2, ![256, 2688]⟩
abbrev S1x1x256x64 : Shape := ⟨4, ![1, 1, 256, 64]⟩
abbrev S256x1920 : Shape := ⟨2, ![256, 1920]⟩

abbrev nBuf : Space → Nat
  | .hbm => 24
  | .vmem => 18
  | .smem => 0
  | _ => 0

abbrev bufTy : (tb : Table) → Fin (tcTables nBuf tb) → BufTy
  | .hbm, ⟨0, _⟩ => ⟨S8x4352x1024, .f32⟩
  | .hbm, ⟨1, _⟩ => ⟨S16x1x6144, .f32⟩
  | .hbm, ⟨2, _⟩ => ⟨S1024, .f32⟩
  | .hbm, ⟨3, _⟩ => ⟨S1024x2688, .f32⟩
  | .hbm, ⟨4, _⟩ => ⟨S4096x64, .f32⟩
  | .hbm, ⟨5, _⟩ => ⟨S4096x64, .f32⟩
  | .hbm, ⟨6, _⟩ => ⟨S_, .f32⟩
  | .hbm, ⟨7, _⟩ => ⟨S256x64, .f32⟩
  | .hbm, ⟨8, _⟩ => ⟨S4352x64, .f32⟩
  | .hbm, ⟨9, _⟩ => ⟨S_, .f32⟩
  | .hbm, ⟨10, _⟩ => ⟨S256x64, .f32⟩
  | .hbm, ⟨11, _⟩ => ⟨S4352x64, .f32⟩
  | .hbm, ⟨12, _⟩ => ⟨S1x4352x1x64, .f32⟩
  | .hbm, ⟨13, _⟩ => ⟨S1x4352x2x64, .f32⟩
  | .hbm, ⟨14, _⟩ => ⟨S4352x128, .f32⟩
  | .hbm, ⟨15, _⟩ => ⟨S1x4352x1x64, .f32⟩
  | .hbm, ⟨16, _⟩ => ⟨S1x4352x2x64, .f32⟩
  | .hbm, ⟨17, _⟩ => ⟨S4352x128, .f32⟩
  | .hbm, ⟨18, _⟩ => ⟨S1x1024, .f32⟩
  | .hbm, ⟨19, _⟩ => ⟨S1024x2688, .bf16⟩
  | .hbm, ⟨20, _⟩ => ⟨S8x8x4352x64, .bf16⟩
  | .hbm, ⟨21, _⟩ => ⟨S8x2x4352x64, .bf16⟩
  | .hbm, ⟨22, _⟩ => ⟨S8x2x4352x64, .bf16⟩
  | .hbm, ⟨23, _⟩ => ⟨S8x4352x1920, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x2688, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x8x256x64, .bf16⟩
  | .local _ .vmem, ⟨11, _⟩ => ⟨S1x8x256x64, .bf16⟩
  | .local _ .vmem, ⟨12, _⟩ => ⟨S1x2x256x64, .bf16⟩
  | .local _ .vmem, ⟨13, _⟩ => ⟨S1x2x256x64, .bf16⟩
  | .local _ .vmem, ⟨14, _⟩ => ⟨S1x2x256x64, .bf16⟩
  | .local _ .vmem, ⟨15, _⟩ => ⟨S1x2x256x64, .bf16⟩
  | .local _ .vmem, ⟨16, _⟩ => ⟨S1x256x1920, .f32⟩
  | .local _ .vmem, ⟨17, _⟩ => ⟨S1x256x1920, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c8_i32 : BitVec 32 := 8#32
  let v1 : BitVec 32 := Scalar.select v0 c8_i32 arg0
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1920 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ProjRefIdeal.lean ====
abbrev S8x4352x1024 : Shape := ⟨3, ![8, 4352, 1024]⟩
abbrev S16x1x6144 : Shape := ⟨3, ![16, 1, 6144]⟩
abbrev S1024 : Shape := ⟨1, ![1024]⟩
abbrev S1024x2688 : Shape := ⟨2, ![1024, 2688]⟩
abbrev S4096x64 : Shape := ⟨2, ![4096, 64]⟩
abbrev S_ : Shape := ⟨0, ![]⟩
abbrev S8x4352 : Shape := ⟨2, ![8, 4352]⟩
abbrev S8x4352x1 : Shape := ⟨3, ![8, 4352, 1]⟩
abbrev S1x1x1024 : Shape := ⟨3, ![1, 1, 1024]⟩
abbrev S16x1x1024 : Shape := ⟨3, ![16, 1, 1024]⟩
abbrev S8x256x1024 : Shape := ⟨3, ![8, 256, 1024]⟩
abbrev S8x4096x1024 : Shape := ⟨3, ![8, 4096, 1024]⟩
abbrev S8x1x1024 : Shape := ⟨3, ![8, 1, 1024]⟩
abbrev S8x4352x2688 : Shape := ⟨3, ![8, 4352, 2688]⟩
abbrev S8x4352x512 : Shape := ⟨3, ![8, 4352, 512]⟩
abbrev S8x4352x8x64 : Shape := ⟨4, ![8, 4352, 8, 64]⟩
abbrev S8x4352x128 : Shape := ⟨3, ![8, 4352, 128]⟩
abbrev S8x4352x2x64 : Shape := ⟨4, ![8, 4352, 2, 64]⟩
abbrev S8x4096x8x64 : Shape := ⟨4, ![8, 4096, 8, 64]⟩
abbrev S4096x1x64 : Shape := ⟨3, ![4096, 1, 64]⟩
abbrev S1x4096x1x64 : Shape := ⟨4, ![1, 4096, 1, 64]⟩
abbrev S8x4096x8x2x2x16 : Shape := ⟨6, ![8, 4096, 8, 2, 2, 16]⟩
abbrev S8x4096x8x2x1x16 : Shape := ⟨6, ![8, 4096, 8, 2, 1, 16]⟩
abbrev S8x4096x8x2x16 : Shape := ⟨5, ![8, 4096, 8, 2, 16]⟩
abbrev S8x256x8x64 : Shape := ⟨4, ![8, 256, 8, 64]⟩
abbrev S8x4096x2x64 : Shape := ⟨4, ![8, 4096, 2, 64]⟩
abbrev S8x4096x2x2x2x16 : Shape := ⟨6, ![8, 4096, 2, 2, 2, 16]⟩
abbrev S8x4096x2x2x1x16 : Shape := ⟨6, ![8, 4096, 2, 2, 1, 16]⟩
abbrev S8x4096x2x2x16 : Shape := ⟨5, ![8, 4096, 2, 2, 16]⟩
abbrev S8x256x2x64 : Shape := ⟨4, ![8, 256, 2, 64]⟩
abbrev S8x8x4352x64 : Shape := ⟨4, ![8, 8, 4352, 64]⟩
abbrev S8x2x4352x64 : Shape := ⟨4, ![8, 2, 4352, 64]⟩
abbrev S8x4352x1920 : Shape := ⟨3, ![8, 4352, 1920]⟩

abbrev nBuf : Space → Nat
  | .hbm => 106
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S16x1x6144, .f32⟩
  | .hbm, ⟨2, _⟩ => ⟨S1024, .f32⟩
  | .hbm, ⟨3, _⟩ => ⟨S1024x2688, .f32⟩
  | .hbm, ⟨4, _⟩ => ⟨S4096x64, .f32⟩
  | .hbm, ⟨5, _⟩ => ⟨S4096x64, .f32⟩
  | .hbm, ⟨6, _⟩ => ⟨S8x4352x1024, .f32⟩
  | .hbm, ⟨7, _⟩ => ⟨S_, .f32⟩
  | .hbm, ⟨8, _⟩ => ⟨S8x4352, .f32⟩
  | .hbm, ⟨9, _⟩ => ⟨S8x4352x1, .f32⟩
  | .hbm, ⟨10, _⟩ => ⟨S_, .f32⟩
  | .hbm, ⟨11, _⟩ => ⟨S8x4352x1, .f32⟩
  | .hbm, ⟨12, _⟩ => ⟨S8x4352x1, .f32⟩
  | .hbm, ⟨13, _⟩ => ⟨S_, .f32⟩
  | .hbm, ⟨14, _⟩ => ⟨S8x4352x1, .f32⟩
  | .hbm, ⟨15, _⟩ => ⟨S8x4352x1, .f32⟩
  | .hbm, ⟨16, _⟩ => ⟨S8x4352x1, .f32⟩
  | .hbm, ⟨17, _⟩ => ⟨S8x4352x1024, .f32⟩
  | .hbm, ⟨18, _⟩ => ⟨S8x4352x1024, .f32⟩
  | .hbm, ⟨19, _⟩ => ⟨S1x1x1024, .f32⟩
  | .hbm, ⟨20, _⟩ => ⟨S8x4352x1024, .f32⟩
  | .hbm, ⟨21, _⟩ => ⟨S8x4352x1024, .f32⟩
  | .hbm, ⟨22, _⟩ => ⟨S16x1x1024, .f32⟩
  | .hbm, ⟨23, _⟩ => ⟨S16x1x1024, .f32⟩
  | .hbm, ⟨24, _⟩ => ⟨S8x256x1024, .f32⟩
  | .hbm, ⟨25, _⟩ => ⟨S1x1x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S8x256x1024, .f32⟩
  | .hbm, ⟨30, _⟩ => ⟨S8x256x1024, .f32⟩
  | .hbm, ⟨31, _⟩ => ⟨S1x1x1024, .f32⟩
  | .hbm, ⟨32, _⟩ => ⟨S8x256x1024, .f32⟩
  | .hbm, ⟨33, _⟩ => ⟨S8x256x1024, .f32⟩
  | .hbm, ⟨34, _⟩ => ⟨S8x4096x1024, .f32⟩
  | .hbm, ⟨35, _⟩ => ⟨S8x1x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x4096x1024, .f32⟩
  | .hbm, ⟨40, _⟩ => ⟨S8x4096x1024, .f32⟩
  | .hbm, ⟨41, _⟩ => ⟨S8x1x1024, .f32⟩
  | .hbm, ⟨42, _⟩ => ⟨S8x4096x1024, .f32⟩
  | .hbm, ⟨43, _⟩ => ⟨S8x4096x1024, .f32⟩
  | .hbm, ⟨44, _⟩ => ⟨S8x4352x1024, .f32⟩
  | .hbm, ⟨45, _⟩ => ⟨S8x4352x2688, .f32⟩
  | .hbm, ⟨46, _⟩ => ⟨S8x4352x512, .f32⟩
  | .hbm, ⟨47, _⟩ => ⟨S8x4352x8x64, .f32⟩
  | .hbm, ⟨48, _⟩ => ⟨S8x4352x128, .f32⟩
  | .hbm, ⟨49, _⟩ => ⟨S8x4352x2x64, .f32⟩
  | .hbm, ⟨50, _⟩ => ⟨S8x4352x128, .f32⟩
  | .hbm, ⟨51, _⟩ => ⟨S8x4352x2x64, .f32⟩
  | .hbm, ⟨52, _⟩ => ⟨S8x4096x8x64, .f32⟩
  | .hbm, ⟨53, _⟩ => ⟨S4096x1x64, .f32⟩
  | .hbm, ⟨54, _⟩ => ⟨S1x4096x1x64, .f32⟩
  | .hbm, ⟨55, _⟩ => ⟨S8x4096x8x64, .f32⟩
  | .hbm, ⟨56, _⟩ => ⟨S8x4096x8x64, .f32⟩
  | .hbm, ⟨57, _⟩ => ⟨S8x4096x8x2x2x16, .f32⟩
  | .hbm, ⟨58, _⟩ => ⟨S8x4096x8x2x1x16, .f32⟩
  | .hbm, ⟨59, _⟩ => ⟨S8x4096x8x2x16, .f32⟩
  | .hbm, ⟨60, _⟩ => ⟨S8x4096x8x2x16, .f32⟩
  | .hbm, ⟨61, _⟩ => ⟨S8x4096x8x2x1x16, .f32⟩
  | .hbm, ⟨62, _⟩ => ⟨S8x4096x8x2x16, .f32⟩
  | .hbm, ⟨63, _⟩ => ⟨S8x4096x8x2x1x16, .f32⟩
  | .hbm, ⟨64, _⟩ => ⟨S8x4096x8x2x1x16, .f32⟩
  | .hbm, ⟨65, _⟩ => ⟨S8x4096x8x2x2x16, .f32⟩
  | .hbm, ⟨66, _⟩ => ⟨S8x4096x8x64, .f32⟩
  | .hbm, ⟨67, _⟩ => ⟨S4096x1x64, .f32⟩
  | .hbm, ⟨68, _⟩ => ⟨S1x4096x1x64, .f32⟩
  | .hbm, ⟨69, _⟩ => ⟨S8x4096x8x64, .f32⟩
  | .hbm, ⟨70, _⟩ => ⟨S8x4096x8x64, .f32⟩
  | .hbm, ⟨71, _⟩ => ⟨S8x4096x8x64, .f32⟩
  | .hbm, ⟨72, _⟩ => ⟨S8x256x8x64, .f32⟩
  | .hbm, ⟨73, _⟩ => ⟨S8x4352x8x64, .f32⟩
  | .hbm, ⟨74, _⟩ => ⟨S_, .f32⟩
  | .hbm, ⟨75, _⟩ => ⟨S8x4352x8x64, .f32⟩
  | .hbm, ⟨76, _⟩ => ⟨S8x4352x8x64, .f32⟩
  | .hbm, ⟨77, _⟩ => ⟨S8x4096x2x64, .f32⟩
  | .hbm, ⟨78, _⟩ => ⟨S4096x1x64, .f32⟩
  | .hbm, ⟨79, _⟩ => ⟨S1x4096x1x64, .f32⟩
  | .hbm, ⟨80, _⟩ => ⟨S8x4096x2x64, .f32⟩
  | .hbm, ⟨81, _⟩ => ⟨S8x4096x2x64, .f32⟩
  | .hbm, ⟨82, _⟩ => ⟨S8x4096x2x2x2x16, .f32⟩
  | .hbm, ⟨83, _⟩ => ⟨S8x4096x2x2x1x16, .f32⟩
  | .hbm, ⟨84, _⟩ => ⟨S8x4096x2x2x16, .f32⟩
  | .hbm, ⟨85, _⟩ => ⟨S8x4096x2x2x16, .f32⟩
  | .hbm, ⟨86, _⟩ => ⟨S8x4096x2x2x1x16, .f32⟩
  | .hbm, ⟨87, _⟩ => ⟨S8x4096x2x2x16, .f32⟩
  | .hbm, ⟨88, _⟩ => ⟨S8x4096x2x2x1x16, .f32⟩
  | .hbm, ⟨89, _⟩ => ⟨S8x4096x2x2x1x16, .f32⟩
  | .hbm, ⟨90, _⟩ => ⟨S8x4096x2x2x2x16, .f32⟩
  | .hbm, ⟨91, _⟩ => ⟨S8x4096x2x64, .f32⟩
  | .hbm, ⟨92, _⟩ => ⟨S4096x1x64, .f32⟩
  | .hbm, ⟨93, _⟩ => ⟨S1x4096x1x64, .f32⟩
  | .hbm, ⟨94, _⟩ => ⟨S8x4096x2x64, .f32⟩
  | .hbm, ⟨95, _⟩ => ⟨S8x4096x2x64, .f32⟩
  | .hbm, ⟨96, _⟩ => ⟨S8x4096x2x64, .f32⟩
  | .hbm, ⟨97, _⟩ => ⟨S8x256x2x64, .f32⟩
  | .hbm, ⟨98, _⟩ => ⟨S8x4352x2x64, .f32⟩
  | .hbm, ⟨99, _⟩ => ⟨S8x8x4352x64, .f32⟩
  | .hbm, ⟨100, _⟩ => ⟨S8x8x4352x64, .bf16⟩
  | .hbm, ⟨101, _⟩ => ⟨S8x2x4352x64, .f32⟩
  | .hbm, ⟨102, _⟩ => ⟨S8x2x4352x64, .bf16⟩
  | .hbm, ⟨103, _⟩ => ⟨S8x2x4352x64, .f32⟩
  | .hbm, ⟨104, _⟩ => ⟨S8x2x4352x64, .bf16⟩
  | .hbm, ⟨105, _⟩ => ⟨S8x4352x1920, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_4 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩

abbrev nD : Nat := 1
abbrev τ : Topo := Topo.v7x

variable {F : FTy → Type} [FloatOps F]
-- ==== Mix.lean ====
abbrev S8x4352x1024 : Shape := ⟨3, ![8, 4352, 1024]⟩
abbrev S8x4352x512 : Shape := ⟨3, ![8, 4352, 512]⟩
abbrev S16x1x6144 : Shape := ⟨3, ![16, 1, 6144]⟩
abbrev S512 : Shape := ⟨1, ![512]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S16x1024 : Shape := ⟨2, ![16, 1024]⟩
abbrev S32x1024 : Shape := ⟨2, ![32, 1024]⟩
abbrev S16x1 : Shape := ⟨2, ![16, 1]⟩
abbrev S1x512 : Shape := ⟨2, ![1, 512]⟩
abbrev S2x512 : Shape := ⟨2, ![2, 512]⟩
abbrev S1x1024 : Shape := ⟨2, ![1, 1024]⟩
abbrev S34816x1024 : Shape := ⟨2, ![34816, 1024]⟩
abbrev S34816x512 : Shape := ⟨2, ![34816, 512]⟩
abbrev S87040x512 : Shape := ⟨2, ![87040, 512]⟩
abbrev S2x34816 : Shape := ⟨2, ![2, 34816]⟩
abbrev S2176x128 : Shape := ⟨2, ![2176, 128]⟩
abbrev S512x1024 : Shape := ⟨2, ![512, 1024]⟩
abbrev S512x512 : Shape := ⟨2, ![512, 512]⟩
abbrev S1x1x6144 : Shape := ⟨3, ![1, 1, 6144]⟩
abbrev S1280x512 : Shape := ⟨2, ![1280, 512]⟩
abbrev S32x128 : Shape := ⟨2, ![32, 128]⟩
abbrev S256x512 : Shape := ⟨2, ![256, 512]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S32x256 : Shape := ⟨2, ![32, 256]⟩
abbrev S16x256 : Shape := ⟨2, ![16, 256]⟩
abbrev S1x256 : Shape := ⟨2, ![1, 256]⟩
abbrev S256x256 : Shape := ⟨2, ![256, 256]⟩
abbrev S16x16 : Shape := ⟨2, ![16, 16]⟩
abbrev S640x256 : Shape := ⟨2, ![640, 256]⟩
abbrev S640x1024 : Shape := ⟨2, ![640, 1024]⟩
abbrev S640x512 : Shape := ⟨2, ![640, 512]⟩
abbrev S2x256 : Shape := ⟨2, ![2, 256]⟩
abbrev S16x128 : Shape := ⟨2, ![16, 128]⟩

abbrev nBuf : Space → Nat
  | .hbm => 37
  | .vmem => 31
  | .smem => 0
  | _ => 0

abbrev bufTy : (tb : Table) → Fin (tcTables nBuf tb) → BufTy
  | .hbm, ⟨0, _⟩ => ⟨S8x4352x1024, .f32⟩
  | .hbm, ⟨1, _⟩ => ⟨S8x4352x512, .bf16⟩
  | .hbm, ⟨2, _⟩ => ⟨S8x4352x512, .f32⟩
  | .hbm, ⟨3, _⟩ => ⟨S8x4352x512, .f32⟩
  | .hbm, ⟨4, _⟩ => ⟨S8x4352x512, .f32⟩
  | .hbm, ⟨5, _⟩ => ⟨S8x4352x512, .bf16⟩
  | .hbm, ⟨6, _⟩ => ⟨S16x1x6144, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S1024, .f32⟩
  | .hbm, ⟨11, _⟩ => ⟨S1024x16, .f32⟩
  | .hbm, ⟨12, _⟩ => ⟨S16, .f32⟩
  | .hbm, ⟨13, _⟩ => ⟨S16x1024, .f32⟩
  | .hbm, ⟨14, _⟩ => ⟨S16x1024, .bf16⟩
  | .hbm, ⟨15, _⟩ => ⟨S16x1024, .f32⟩
  | .hbm, ⟨16, _⟩ => ⟨S16x1024, .f32⟩
  | .hbm, ⟨17, _⟩ => ⟨S16x1024, .f32⟩
  | .hbm, ⟨18, _⟩ => ⟨S16x1024, .bf16⟩
  | .hbm, ⟨19, _⟩ => ⟨S32x1024, .bf16⟩
  | .hbm, ⟨20, _⟩ => ⟨S16x1, .f32⟩
  | .hbm, ⟨21, _⟩ => ⟨S1x512, .f32⟩
  | .hbm, ⟨22, _⟩ => ⟨S1x512, .f32⟩
  | .hbm, ⟨23, _⟩ => ⟨S2x512, .f32⟩
  | .hbm, ⟨24, _⟩ => ⟨S1024x1024, .bf16⟩
  | .hbm, ⟨25, _⟩ => ⟨S1x1024, .f32⟩
  | .hbm, ⟨26, _⟩ => ⟨S34816x1024, .f32⟩
  | .hbm, ⟨27, _⟩ => ⟨S34816x512, .bf16⟩
  | .hbm, ⟨28, _⟩ => ⟨S34816x512, .f32⟩
  | .hbm, ⟨29, _⟩ => ⟨S34816x512, .f32⟩
  | .hbm, ⟨30, _⟩ => ⟨S34816x512, .f32⟩
  | .hbm, ⟨31, _⟩ => ⟨S34816x512, .bf16⟩
  | .hbm, ⟨32, _⟩ => ⟨S34816x1024, .f32⟩
  | .hbm, ⟨33, _⟩ => ⟨S87040x512, .i32⟩
  | .hbm, ⟨34, _⟩ => ⟨S2x34816, .i32⟩
  | .hbm, ⟨35, _⟩ => ⟨S2x34816, .f32⟩
  | .hbm, ⟨36, _⟩ => ⟨S2176x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S1x1x6144, .f32⟩
  | .local _ .vmem, ⟨13, _⟩ => ⟨S1x1x6144, .f32⟩
  | .local _ .vmem, ⟨14, _⟩ => ⟨S1x1x6144, .f32⟩
  | .local _ .vmem, ⟨15, _⟩ => ⟨S1x1x6144, .f32⟩
  | .local _ .vmem, ⟨16, _⟩ => ⟨S2x512, .f32⟩
  | .local _ .vmem, ⟨17, _⟩ => ⟨S1024x1024, .bf16⟩
  | .local _ .vmem, ⟨18, _⟩ => ⟨S1x1024, .f32⟩
  | .local _ .vmem, ⟨19, _⟩ => ⟨S32x1024, .bf16⟩
  | .local _ .vmem, ⟨20, _⟩ => ⟨S16x1, .f32⟩
  | .local _ .vmem, ⟨21, _⟩ => ⟨S512x1024, .f32⟩
  | .local _ .vmem, ⟨22, _⟩ => ⟨S512x1024, .f32⟩
  | .local _ .vmem, ⟨23, _⟩ => ⟨S1280x512, .i32⟩
  | .local _ .vmem, ⟨24, _⟩ => ⟨S1280x512, .i32⟩
  | .local _ .vmem, ⟨25, _⟩ => ⟨S2x512, .i32⟩
  | .local _ .vmem, ⟨26, _⟩ => ⟨S2x512, .i32⟩
  | .local _ .vmem, ⟨27, _⟩ => ⟨S2x512, .f32⟩
  | .local _ .vmem, ⟨28, _⟩ => ⟨S2x512, .f32⟩
  | .local _ .vmem, ⟨29, _⟩ => ⟨S32x128, .f32⟩
  | .local _ .vmem, ⟨30, _⟩ => ⟨S32x128, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v19_3 : Ref sig .tc := ⟨.hbm, 35, rfl⟩
abbrev main_v19_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [BitOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let c0_i32_0 : BitVec 32 := 0#32
  let v2 : BitVec 1 := Scalar.cmpi .eq c17_i32 c0_i32_0
  let c1_i32 : BitVec 32 := 1#32
  let v3 : BitVec 32 := Scalar.select v2 c1_i32 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 1 := Scalar.cmpi .slt v11 c1_i32_4
  let c17_i32_5 : BitVec 32 := 17#32
  let v13 : BitVec 32 := Scalar.divsi v1 c17_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c17_i32_5 c0_i32_8
  let v20 : BitVec 32 := Scalar.extui v19
  let c0_i32_9 : BitVec 32 := 0#32
  let v21 : BitVec 1 := Scalar.cmpi .slt c17_i32_5 c0_i32_9
  let v22 : BitVec 32 := Scalar.extui v21
  let v23 : BitVec 32 := Scalar.subi v20 v22
  let v24 : BitVec 1 := Scalar.cmpi .ne v18 v23
  let v25 : BitVec 32 := Scalar.remsi v1 c17_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c8_i32 : BitVec 32 := 8#32
  let v30 : BitVec 32 := Scalar.select v12 c8_i32 v29
  let c0_i32_12 : BitVec 32 := 0#32
  let c0_i32_13 : BitVec 32 := 0#32
  let c0_i32_14 : BitVec 32 := 0#32
  ![v30.toNat, c0_i32_12.toNat, c0_i32_13.toNat]

def cc0_transform_7 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let c0_i32 : BitVec 32 := 0#32
  let v2 : BitVec 1 := Scalar.cmpi .eq c17_i32 c0_i32
  let c1_i32_0 : BitVec 32 := 1#32
  let v3 : BitVec 32 := Scalar.select v2 c1_i32_0 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 1 := Scalar.cmpi .slt v11 c1_i32_4
  let c17_i32_5 : BitVec 32 := 17#32
  let v13 : BitVec 32 := Scalar.divsi v1 c17_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c17_i32_5 c0_i32_8
  let v20 : BitVec 32 := Scalar.extui v19
  let c0_i32_9 : BitVec 32 := 0#32
  let v21 : BitVec 1 := Scalar.cmpi .slt c17_i32_5 c0_i32_9
  let v22 : BitVec 32 := Scalar.extui v21
  let v23 : BitVec 32 := Scalar.subi v20 v22
  let v24 : BitVec 1 := Scalar.cmpi .ne v18 v23
  let v25 : BitVec 32 := Scalar.remsi v1 c17_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c8_i32 : BitVec 32 := 8#32
  let v30 : BitVec 32 := Scalar.select v12 c8_i32 v29
  let c0_i32_12 : BitVec 32 := 0#32
  let c0_i32_13 : BitVec 32 := 0#32
  let c0_i32_14 : BitVec 32 := 0#32
  ![v30.toNat, c0_i32_12.toNat, c0_i32_13.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1280x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MixIdeal.lean ====
abbrev S8x4352x1024 : Shape := ⟨3, ![8, 4352, 1024]⟩
abbrev S8x4352x512 : Shape := ⟨3, ![8, 4352, 512]⟩
abbrev S16x1x6144 : Shape := ⟨3, ![16, 1, 6144]⟩
abbrev S512 : Shape := ⟨1, ![512]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S16x1024 : Shape := ⟨2, ![16, 1024]⟩
abbrev S32x1024 : Shape := ⟨2, ![32, 1024]⟩
abbrev S16x1 : Shape := ⟨2, ![16, 1]⟩
abbrev S1x512 : Shape := ⟨2, ![1, 512]⟩
abbrev S2x512 : Shape := ⟨2, ![2, 512]⟩
abbrev S1x1024 : Shape := ⟨2, ![1, 1024]⟩
abbrev S34816x1024 : Shape := ⟨2, ![34816, 1024]⟩
abbrev S34816x512 : Shape := ⟨2, ![34816, 512]⟩
abbrev S87040x2x512 : Shape := ⟨3, ![87040, 2, 512]⟩
abbrev S2x34816 : Shape := ⟨2, ![2, 34816]⟩
abbrev S2176x128 : Shape := ⟨2, ![2176, 128]⟩
abbrev S87040x1x512 : Shape := ⟨3, ![87040, 1, 512]⟩
abbrev S87040x512 : Shape := ⟨2, ![87040, 512]⟩
abbrev S512x1024 : Shape := ⟨2, ![512, 1024]⟩
abbrev S512x512 : Shape := ⟨2, ![512, 512]⟩
abbrev S1x1x6144 : Shape := ⟨3, ![1, 1, 6144]⟩
abbrev S1280x512 : Shape := ⟨2, ![1280, 512]⟩
abbrev S1280x2x512 : Shape := ⟨3, ![1280, 2, 512]⟩
abbrev S1280x1x512 : Shape := ⟨3, ![1280, 1, 512]⟩
abbrev S32x128 : Shape := ⟨2, ![32, 128]⟩
abbrev S256x512 : Shape := ⟨2, ![256, 512]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S32x256 : Shape := ⟨2, ![32, 256]⟩
abbrev S16x256 : Shape := ⟨2, ![16, 256]⟩
abbrev S1x256 : Shape := ⟨2, ![1, 256]⟩
abbrev S256x256 : Shape := ⟨2, ![256, 256]⟩
abbrev S16x16 : Shape := ⟨2, ![16, 16]⟩
abbrev S640x256 : Shape := ⟨2, ![640, 256]⟩
abbrev S640x1024 : Shape := ⟨2, ![640, 1024]⟩
abbrev S640x512 : Shape := ⟨2, ![640, 512]⟩
abbrev S2x256 : Shape := ⟨2, ![2, 256]⟩
abbrev S16x128 : Shape := ⟨2, ![16, 128]⟩
abbrev S640x2x512 : Shape := ⟨3, ![640, 2, 512]⟩
abbrev S640x1x512 : Shape := ⟨3, ![640, 1, 512]⟩

abbrev nBuf : Space → Nat
  | .hbm => 37
  | .vmem => 31
  | .smem => 0
  | _ => 0

abbrev bufTy : (tb : Table) → Fin (tcTables nBuf tb) → BufTy
  | .hbm, ⟨0, _⟩ => ⟨S8x4352x1024, .f32⟩
  | .hbm, ⟨1, _⟩ => ⟨S8x4352x512, .bf16⟩
  | .hbm, ⟨2, _⟩ => ⟨S8x4352x512, .f32⟩
  | .hbm, ⟨3, _⟩ => ⟨S8x4352x512, .f32⟩
  | .hbm, ⟨4, _⟩ => ⟨S8x4352x512, .f32⟩
  | .hbm, ⟨5, _⟩ => ⟨S8x4352x512, .bf16⟩
  | .hbm, ⟨6, _⟩ => ⟨S16x1x6144, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S1024, .f32⟩
  | .hbm, ⟨11, _⟩ => ⟨S1024x16, .f32⟩
  | .hbm, ⟨12, _⟩ => ⟨S16, .f32⟩
  | .hbm, ⟨13, _⟩ => ⟨S16x1024, .f32⟩
  | .hbm, ⟨14, _⟩ => ⟨S16x1024, .bf16⟩
  | .hbm, ⟨15, _⟩ => ⟨S16x1024, .f32⟩
  | .hbm, ⟨16, _⟩ => ⟨S16x1024, .f32⟩
  | .hbm, ⟨17, _⟩ => ⟨S16x1024, .f32⟩
  | .hbm, ⟨18, _⟩ => ⟨S16x1024, .bf16⟩
  | .hbm, ⟨19, _⟩ => ⟨S32x1024, .bf16⟩
  | .hbm, ⟨20, _⟩ => ⟨S16x1, .f32⟩
  | .hbm, ⟨21, _⟩ => ⟨S1x512, .f32⟩
  | .hbm, ⟨22, _⟩ => ⟨S1x512, .f32⟩
  | .hbm, ⟨23, _⟩ => ⟨S2x512, .f32⟩
  | .hbm, ⟨24, _⟩ => ⟨S1024x1024, .bf16⟩
  | .hbm, ⟨25, _⟩ => ⟨S1x1024, .f32⟩
  | .hbm, ⟨26, _⟩ => ⟨S34816x1024, .f32⟩
  | .hbm, ⟨27, _⟩ => ⟨S34816x512, .bf16⟩
  | .hbm, ⟨28, _⟩ => ⟨S34816x512, .f32⟩
  | .hbm, ⟨29, _⟩ => ⟨S34816x512, .f32⟩
  | .hbm, ⟨30, _⟩ => ⟨S34816x512, .f32⟩
  | .hbm, ⟨31, _⟩ => ⟨S34816x512, .bf16⟩
  | .hbm, ⟨32, _⟩ => ⟨S34816x1024, .f32⟩
  | .hbm, ⟨33, _⟩ => ⟨S87040x2x512, .bf16⟩
  | .hbm, ⟨34, _⟩ => ⟨S2x34816, .i32⟩
  | .hbm, ⟨35, _⟩ => ⟨S2x34816, .f32⟩
  | .hbm, ⟨36, _⟩ => ⟨S2176x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S1x1x6144, .f32⟩
  | .local _ .vmem, ⟨13, _⟩ => ⟨S1x1x6144, .f32⟩
  | .local _ .vmem, ⟨14, _⟩ => ⟨S1x1x6144, .f32⟩
  | .local _ .vmem, ⟨15, _⟩ => ⟨S1x1x6144, .f32⟩
  | .local _ .vmem, ⟨16, _⟩ => ⟨S2x512, .f32⟩
  | .local _ .vmem, ⟨17, _⟩ => ⟨S1024x1024, .bf16⟩
  | .local _ .vmem, ⟨18, _⟩ => ⟨S1x1024, .f32⟩
  | .local _ .vmem, ⟨19, _⟩ => ⟨S32x1024, .bf16⟩
  | .local _ .vmem, ⟨20, _⟩ => ⟨S16x1, .f32⟩
  | .local _ .vmem, ⟨21, _⟩ => ⟨S512x1024, .f32⟩
  | .local _ .vmem, ⟨22, _⟩ => ⟨S512x1024, .f32⟩
  | .local _ .vmem, ⟨23, _⟩ => ⟨S1280x2x512, .bf16⟩
  | .local _ .vmem, ⟨24, _⟩ => ⟨S1280x2x512, .bf16⟩
  | .local _ .vmem, ⟨25, _⟩ => ⟨S2x512, .i32⟩
  | .local _ .vmem, ⟨26, _⟩ => ⟨S2x512, .i32⟩
  | .local _ .vmem, ⟨27, _⟩ => ⟨S2x512, .f32⟩
  | .local _ .vmem, ⟨28, _⟩ => ⟨S2x512, .f32⟩
  | .local _ .vmem, ⟨29, _⟩ => ⟨S32x128, .f32⟩
  | .local _ .vmem, ⟨30, _⟩ => ⟨S32x128, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v19_3 : Ref sig .tc := ⟨.hbm, 35, rfl⟩
abbrev main_v19_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let c0_i32_0 : BitVec 32 := 0#32
  let v2 : BitVec 1 := Scalar.cmpi .eq c17_i32 c0_i32_0
  let c1_i32 : BitVec 32 := 1#32
  let v3 : BitVec 32 := Scalar.select v2 c1_i32 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 1 := Scalar.cmpi .slt v11 c1_i32_4
  let c17_i32_5 : BitVec 32 := 17#32
  let v13 : BitVec 32 := Scalar.divsi v1 c17_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c17_i32_5 c0_i32_8
  let v20 : BitVec 32 := Scalar.extui v19
  let c0_i32_9 : BitVec 32 := 0#32
  let v21 : BitVec 1 := Scalar.cmpi .slt c17_i32_5 c0_i32_9
  let v22 : BitVec 32 := Scalar.extui v21
  let v23 : BitVec 32 := Scalar.subi v20 v22
  let v24 : BitVec 1 := Scalar.cmpi .ne v18 v23
  let v25 : BitVec 32 := Scalar.remsi v1 c17_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c8_i32 : BitVec 32 := 8#32
  let v30 : BitVec 32 := Scalar.select v12 c8_i32 v29
  let c0_i32_12 : BitVec 32 := 0#32
  let c0_i32_13 : BitVec 32 := 0#32
  let c0_i32_14 : BitVec 32 := 0#32
  ![v30.toNat, c0_i32_12.toNat, c0_i32_13.toNat]

def cc0_transform_7 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let c0_i32 : BitVec 32 := 0#32
  let v2 : BitVec 1 := Scalar.cmpi .eq c17_i32 c0_i32
  let c1_i32_0 : BitVec 32 := 1#32
  let v3 : BitVec 32 := Scalar.select v2 c1_i32_0 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 1 := Scalar.cmpi .slt v11 c1_i32_4
  let c17_i32_5 : BitVec 32 := 17#32
  let v13 : BitVec 32 := Scalar.divsi v1 c17_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c17_i32_5 c0_i32_8
  let v20 : BitVec 32 := Scalar.extui v19
  let c0_i32_9 : BitVec 32 := 0#32
  let v21 : BitVec 1 := Scalar.cmpi .slt c17_i32_5 c0_i32_9
  let v22 : BitVec 32 := Scalar.extui v21
  let v23 : BitVec 32 := Scalar.subi v20 v22
  let v24 : BitVec 1 := Scalar.cmpi .ne v18 v23
  let v25 : BitVec 32 := Scalar.remsi v1 c17_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c8_i32 : BitVec 32 := 8#32
  let v30 : BitVec 32 := Scalar.select v12 c8_i32 v29
  let c0_i32_12 : BitVec 32 := 0#32
  let c0_i32_13 : BitVec 32 := 0#32
  let c0_i32_14 : BitVec 32 := 0#32
  ![v30.toNat, c0_i32_12.toNat, c0_i32_13.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1280x2x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MixRefIdeal.lean ====
abbrev S8x4352x1024 : Shape := ⟨3, ![8, 4352, 1024]⟩
abbrev S8x4352x512 : Shape := ⟨3, ![8, 4352, 512]⟩
abbrev S16x1x6144 : Shape := ⟨3, ![16, 1, 6144]⟩
abbrev S512 : Shape := ⟨1, ![512]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S8x4352x8x64 : Shape := ⟨4, ![8, 4352, 8, 64]⟩
abbrev S_ : Shape := ⟨0, ![]⟩
abbrev S8x4352x8 : Shape := ⟨3, ![8, 4352, 8]⟩
abbrev S8x4352x8x1 : Shape := ⟨4, ![8, 4352, 8, 1]⟩
abbrev S1x1x512 : Shape := ⟨3, ![1, 1, 512]⟩
abbrev S16x1x1024 : Shape := ⟨3, ![16, 1, 1024]⟩
abbrev S8x256x1024 : Shape := ⟨3, ![8, 256, 1024]⟩
abbrev S1x1x1024 : Shape := ⟨3, ![1, 1, 1024]⟩
abbrev S8x4096x1024 : Shape := ⟨3, ![8, 4096, 1024]⟩
abbrev S8x1x1024 : Shape := ⟨3, ![8, 1, 1024]⟩
abbrev S34816x1024 : Shape := ⟨2, ![34816, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x4352x512, .bf16⟩
  | .hbm, ⟨2, _⟩ => ⟨S8x4352x512, .f32⟩
  | .hbm, ⟨3, _⟩ => ⟨S8x4352x512, .f32⟩
  | .hbm, ⟨4, _⟩ => ⟨S8x4352x512, .f32⟩
  | .hbm, ⟨5, _⟩ => ⟨S8x4352x512, .bf16⟩
  | .hbm, ⟨6, _⟩ => ⟨S16x1x6144, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S1024, .f32⟩
  | .hbm, ⟨11, _⟩ => ⟨S1024x16, .f32⟩
  | .hbm, ⟨12, _⟩ => ⟨S16, .f32⟩
  | .hbm, ⟨13, _⟩ => ⟨S8x4352x512, .f32⟩
  | .hbm, ⟨14, _⟩ => ⟨S8x4352x8x64, .f32⟩
  | .hbm, ⟨15, _⟩ => ⟨S_, .f32⟩
  | .hbm, ⟨16, _⟩ => ⟨S8x4352x8, .f32⟩
  | .hbm, ⟨17, _⟩ => ⟨S8x4352x8x1, .f32⟩
  | .hbm, ⟨18, _⟩ => ⟨S_, .f32⟩
  | .hbm, ⟨19, _⟩ => ⟨S8x4352x8x1, .f32⟩
  | .hbm, ⟨20, _⟩ => ⟨S8x4352x8x1, .f32⟩
  | .hbm, ⟨21, _⟩ => ⟨S8x4352x8x64, .f32⟩
  | .hbm, ⟨22, _⟩ => ⟨S8x4352x8x64, .f32⟩
  | .hbm, ⟨23, _⟩ => ⟨S8x4352x8x64, .f32⟩
  | .hbm, ⟨24, _⟩ => ⟨S_, .f32⟩
  | .hbm, ⟨25, _⟩ => ⟨S8x4352x8, .f32⟩
  | .hbm, ⟨26, _⟩ => ⟨S8x4352x8x1, .f32⟩
  | .hbm, ⟨27, _⟩ => ⟨S_, .f32⟩
  | .hbm, ⟨28, _⟩ => ⟨S8x4352x8x1, .f32⟩
  | .hbm, ⟨29, _⟩ => ⟨S8x4352x8x1, .f32⟩
  | .hbm, ⟨30, _⟩ => ⟨S8x4352x8x64, .f32⟩
  | .hbm, ⟨31, _⟩ => ⟨S8x4352x8x64, .f32⟩
  | .hbm, ⟨32, _⟩ => ⟨S_, .f32⟩
  | .hbm, ⟨33, _⟩ => ⟨S8x4352x8x1, .f32⟩
  | .hbm, ⟨34, _⟩ => ⟨S8x4352x8x1, .f32⟩
  | .hbm, ⟨35, _⟩ => ⟨S8x4352x8x1, .f32⟩
  | .hbm, ⟨36, _⟩ => ⟨S8x4352x8x64, .f32⟩
  | .hbm, ⟨37, _⟩ => ⟨S8x4352x8x64, .f32⟩
  | .hbm, ⟨38, _⟩ => ⟨S8x4352x512, .f32⟩
  | .hbm, ⟨39, _⟩ => ⟨S1x1x512, .f32⟩
  | .hbm, ⟨40, _⟩ => ⟨S8x4352x512, .f32⟩
  | .hbm, ⟨41, _⟩ => ⟨S8x4352x512, .f32⟩
  | .hbm, ⟨42, _⟩ => ⟨S1x1x512, .f32⟩
  | .hbm, ⟨43, _⟩ => ⟨S8x4352x512, .f32⟩
  | .hbm, ⟨44, _⟩ => ⟨S8x4352x512, .f32⟩
  | .hbm, ⟨45, _⟩ => ⟨S8x4352x512, .f32⟩
  | .hbm, ⟨46, _⟩ => ⟨S8x4352x512, .f32⟩
  | .hbm, ⟨47, _⟩ => ⟨S8x4352x512, .f32⟩
  | .hbm, ⟨48, _⟩ => ⟨S8x4352x512, .f32⟩
  | .hbm, ⟨49, _⟩ => ⟨S8x4352x1024, .f32⟩
  | .hbm, ⟨50, _⟩ => ⟨S8x4352x1024, .f32⟩
  | .hbm, ⟨51, _⟩ => ⟨S16x1x1024, .f32⟩
  | .hbm, ⟨52, _⟩ => ⟨S8x256x1024, .f32⟩
  | .hbm, ⟨53, _⟩ => ⟨S1x1x1024, .f32⟩
  | .hbm, ⟨54, _⟩ => ⟨S8x256x1024, .f32⟩
  | .hbm, ⟨55, _⟩ => ⟨S8x256x1024, .f32⟩
  | .hbm, ⟨56, _⟩ => ⟨S8x256x1024, .f32⟩
  | .hbm, ⟨57, _⟩ => ⟨S8x256x1024, .f32⟩
  | .hbm, ⟨58, _⟩ => ⟨S8x4096x1024, .f32⟩
  | .hbm, ⟨59, _⟩ => ⟨S8x1x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S8x4352x1024, .f32⟩
  | .hbm, ⟨65, _⟩ => ⟨S34816x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== Experts.lean ====
abbrev S182 : Shape := ⟨1, ![182]⟩
abbrev S1 : Shape := ⟨1, ![1]⟩
abbrev S93184x1024 : Shape := ⟨2, ![93184, 1024]⟩
abbrev S2x16x1024x1024 : Shape := ⟨4, ![2, 16, 1024, 1024]⟩
abbrev S93184x512 : Shape := ⟨2, ![93184, 512]⟩
abbrev S512x1024 : Shape := ⟨2, ![512, 1024]⟩
abbrev S512x512 : Shape := ⟨2, ![512, 512]⟩
abbrev S1x1x1024x1024 : Shape := ⟨4, ![1, 1, 1024, 1024]⟩
abbrev S1024x1024 : Shape := ⟨2, ![1024, 1024]⟩

abbrev nBuf : Space → Nat
  | .hbm => 7
  | .vmem => 21
  | .smem => 2
  | _ => 0

abbrev bufTy : (tb : Table) → Fin (tcTables nBuf tb) → BufTy
  | .hbm, ⟨0, _⟩ => ⟨S93184x1024, .bf16⟩
  | .hbm, ⟨1, _⟩ => ⟨S2x16x1024x1024, .f32⟩
  | .hbm, ⟨2, _⟩ => ⟨S2x16x1024x1024, .f32⟩
  | .hbm, ⟨3, _⟩ => ⟨S2x16x1024x1024, .f32⟩
  | .hbm, ⟨4, _⟩ => ⟨S93184x512, .i32⟩
  | .hbm, ⟨5, _⟩ => ⟨S93184x512, .i32⟩
  | .hbm, ⟨6, _⟩ => ⟨S93184x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .i32⟩
  | .local _ .vmem, ⟨3, _⟩ => ⟨S512x512, .i32⟩
  | .local _ .vmem, ⟨4, _⟩ => ⟨S512x512, .i32⟩
  | .local _ .vmem, ⟨5, _⟩ => ⟨S512x512, .i32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x1x1024x1024, .f32⟩
  | .local _ .vmem, ⟨11, _⟩ => ⟨S1x1x1024x1024, .f32⟩
  | .local _ .vmem, ⟨12, _⟩ => ⟨S512x512, .i32⟩
  | .local _ .vmem, ⟨13, _⟩ => ⟨S512x512, .i32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S512x512, .i32⟩
  | .local _ .vmem, ⟨18, _⟩ => ⟨S512x512, .i32⟩
  | .local _ .vmem, ⟨19, _⟩ => ⟨S512x1024, .bf16⟩
  | .local _ .vmem, ⟨20, _⟩ => ⟨S512x1024, .bf16⟩
  | .local _ .smem, ⟨0, _⟩ => ⟨S182, .i32⟩
  | .local _ .smem, ⟨1, _⟩ => ⟨S1, .i32⟩
  | _, _ => ⟨S93184x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17

abbrev nD : Nat := 1
abbrev τ : Topo := Topo.v7x

variable {F : FTy → Type} [BitOps F]

abbrev grid0 : Pipeline.Grid := ⟨1, ![182], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![182], ![false]⟩

abbrev pre1 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (i : grid1.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k1_cond2 (i : grid1.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k1_cond3 (i : grid1.Coords) (v16 : BitVec 32) : BitVec 1 :=
  let arg0 : BitVec 32 := BitVec.ofNat 32 (i 0).val
  let v17 : BitVec 1 := Scalar.cmpi .sge arg0 v16
  let v18 : BitVec 32 := Scalar.extui v17
  let c0_i32_4 : BitVec 32 := 0#32
  let v19 : BitVec 1 := Scalar.cmpi .ne v18 c0_i32_4
  v19

def cc1_transform_0 (inb_S1_S1_0 : ∀ a, (![0] : Fin 1 → Nat) a + S1.size a ≤ S1.size a) (numel1_S1 : S1.numel = 1) (pf : pre1.Contents (Elt F)) (i : grid1.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc1_transform_1 (k1_off1_inb : ∀ i : grid1.Coords, ∀ a, (k1_off1 i) a + S1.size a ≤ S182.size a) (numel1_S1 : S1.numel = 1) (pf : pre1.Contents (Elt F)) (i : grid1.Coords) : Fin 4 → Nat :=
  let arg0 : BitVec 32 := BitVec.ofNat 32 (i 0).val
  let v0 : Index := Scalar.indexCast arg0
  let v1 : BitVec 32 := pf.at 0 (Rect.unit (s := S182) ![v0.toNat] S1.size (k1_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc1_transform_2 (k1_off1_inb : ∀ i : grid1.Coords, ∀ a, (k1_off1 i) a + S1.size a ≤ S182.size a) (numel1_S1 : S1.numel = 1) (pf : pre1.Contents (Elt F)) (i : grid1.Coords) : Fin 4 → Nat :=
  let arg0 : BitVec 32 := BitVec.ofNat 32 (i 0).val
  let v0 : Index := Scalar.indexCast arg0
  let v1 : BitVec 32 := pf.at 0 (Rect.unit (s := S182) ![v0.toNat] S1.size (k1_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc1_transform_3 (k1_off1_inb : ∀ i : grid1.Coords, ∀ a, (k1_off1 i) a + S1.size a ≤ S182.size a) (numel1_S1 : S1.numel = 1) (pf : pre1.Contents (Elt F)) (i : grid1.Coords) : Fin 4 → Nat :=
  let arg0 : BitVec 32 := BitVec.ofNat 32 (i 0).val
  let v0 : Index := Scalar.indexCast arg0
  let v1 : BitVec 32 := pf.at 0 (Rect.unit (s := S182) ![v0.toNat] S1.size (k1_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![182], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]
-- ==== ExpertsIdeal.lean ====
abbrev S182 : Shape := ⟨1, ![182]⟩
abbrev S1 : Shape := ⟨1, ![1]⟩
abbrev S93184x1024 : Shape := ⟨2, ![93184, 1024]⟩
abbrev S2x16x1024x1024 : Shape := ⟨4, ![2, 16, 1024, 1024]⟩
abbrev S93184x2x512 : Shape := ⟨3, ![93184, 2, 512]⟩
abbrev S93184x1x512 : Shape := ⟨3, ![93184, 1, 512]⟩
abbrev S93184x512 : Shape := ⟨2, ![93184, 512]⟩
abbrev S512x1024 : Shape := ⟨2, ![512, 1024]⟩
abbrev S512x512 : Shape := ⟨2, ![512, 512]⟩
abbrev S512x2x512 : Shape := ⟨3, ![512, 2, 512]⟩
abbrev S512x1x512 : Shape := ⟨3, ![512, 1, 512]⟩
abbrev S1x1x1024x1024 : Shape := ⟨4, ![1, 1, 1024, 1024]⟩
abbrev S1024x1024 : Shape := ⟨2, ![1024, 1024]⟩
abbrev S1024x512 : Shape := ⟨2, ![1024, 512]⟩

abbrev nBuf : Space → Nat
  | .hbm => 7
  | .vmem => 21
  | .smem => 2
  | _ => 0

abbrev bufTy : (tb : Table) → Fin (tcTables nBuf tb) → BufTy
  | .hbm, ⟨0, _⟩ => ⟨S93184x1024, .bf16⟩
  | .hbm, ⟨1, _⟩ => ⟨S2x16x1024x1024, .f32⟩
  | .hbm, ⟨2, _⟩ => ⟨S2x16x1024x1024, .f32⟩
  | .hbm, ⟨3, _⟩ => ⟨S2x16x1024x1024, .f32⟩
  | .hbm, ⟨4, _⟩ => ⟨S93184x2x512, .bf16⟩
  | .hbm, ⟨5, _⟩ => ⟨S93184x2x512, .bf16⟩
  | .hbm, ⟨6, _⟩ => ⟨S93184x1024, .bf16⟩
  | .local _ .vmem, ⟨0, _⟩ => ⟨S512x1024, .bf16⟩
  | .local _ .vmem, ⟨1, _⟩ => ⟨S512x1024, .bf16⟩
  | .local _ .vmem, ⟨2, _⟩ => ⟨S512x2x512, .bf16⟩
  | .local _ .vmem, ⟨3, _⟩ => ⟨S512x2x512, .bf16⟩
  | .local _ .vmem, ⟨4, _⟩ => ⟨S512x2x512, .bf16⟩
  | .local _ .vmem, ⟨5, _⟩ => ⟨S512x2x512, .bf16⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x1x1024x1024, .f32⟩
  | .local _ .vmem, ⟨11, _⟩ => ⟨S1x1x1024x1024, .f32⟩
  | .local _ .vmem, ⟨12, _⟩ => ⟨S512x2x512, .bf16⟩
  | .local _ .vmem, ⟨13, _⟩ => ⟨S512x2x512, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S512x2x512, .bf16⟩
  | .local _ .vmem, ⟨18, _⟩ => ⟨S512x2x512, .bf16⟩
  | .local _ .vmem, ⟨19, _⟩ => ⟨S512x1024, .bf16⟩
  | .local _ .vmem, ⟨20, _⟩ => ⟨S512x1024, .bf16⟩
  | .local _ .smem, ⟨0, _⟩ => ⟨S182, .i32⟩
  | .local _ .smem, ⟨1, _⟩ => ⟨S1, .i32⟩
  | _, _ => ⟨S93184x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17

abbrev nD : Nat := 1
abbrev τ : Topo := Topo.v7x

variable {F : FTy → Type} [FloatOps F]

abbrev grid0 : Pipeline.Grid := ⟨1, ![182], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![182], ![false]⟩

abbrev pre1 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (i : grid1.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k1_cond2 (i : grid1.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k1_cond3 (i : grid1.Coords) (v16 : BitVec 32) : BitVec 1 :=
  let arg0 : BitVec 32 := BitVec.ofNat 32 (i 0).val
  let v17 : BitVec 1 := Scalar.cmpi .sge arg0 v16
  let v18 : BitVec 32 := Scalar.extui v17
  let c0_i32_4 : BitVec 32 := 0#32
  let v19 : BitVec 1 := Scalar.cmpi .ne v18 c0_i32_4
  v19

def cc1_transform_0 (inb_S1_S1_0 : ∀ a, (![0] : Fin 1 → Nat) a + S1.size a ≤ S1.size a) (numel1_S1 : S1.numel = 1) (pf : pre1.Contents (Elt F)) (i : grid1.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, 0, c0_i32.toNat]

def cc1_transform_1 (k1_off1_inb : ∀ i : grid1.Coords, ∀ a, (k1_off1 i) a + S1.size a ≤ S182.size a) (numel1_S1 : S1.numel = 1) (pf : pre1.Contents (Elt F)) (i : grid1.Coords) : Fin 4 → Nat :=
  let arg0 : BitVec 32 := BitVec.ofNat 32 (i 0).val
  let v0 : Index := Scalar.indexCast arg0
  let v1 : BitVec 32 := pf.at 0 (Rect.unit (s := S182) ![v0.toNat] S1.size (k1_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc1_transform_2 (k1_off1_inb : ∀ i : grid1.Coords, ∀ a, (k1_off1 i) a + S1.size a ≤ S182.size a) (numel1_S1 : S1.numel = 1) (pf : pre1.Contents (Elt F)) (i : grid1.Coords) : Fin 4 → Nat :=
  let arg0 : BitVec 32 := BitVec.ofNat 32 (i 0).val
  let v0 : Index := Scalar.indexCast arg0
  let v1 : BitVec 32 := pf.at 0 (Rect.unit (s := S182) ![v0.toNat] S1.size (k1_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc1_transform_3 (k1_off1_inb : ∀ i : grid1.Coords, ∀ a, (k1_off1 i) a + S1.size a ≤ S182.size a) (numel1_S1 : S1.numel = 1) (pf : pre1.Contents (Elt F)) (i : grid1.Coords) : Fin 4 → Nat :=
  let arg0 : BitVec 32 := BitVec.ofNat 32 (i 0).val
  let v0 : Index := Scalar.indexCast arg0
  let v1 : BitVec 32 := pf.at 0 (Rect.unit (s := S182) ![v0.toNat] S1.size (k1_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage1_0 : Fin 2 → Memref sig .tc .vmem S512x2x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x2x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![182], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]
-- ==== ExpertsRefIdeal.lean ====
abbrev S182 : Shape := ⟨1, ![182]⟩
abbrev S1 : Shape := ⟨1, ![1]⟩
abbrev S93184x1024 : Shape := ⟨2, ![93184, 1024]⟩
abbrev S2x16x1024x1024 : Shape := ⟨4, ![2, 16, 1024, 1024]⟩
abbrev S182x512x1024 : Shape := ⟨3, ![182, 512, 1024]⟩
abbrev S1x16x1024x1024 : Shape := ⟨4, ![1, 16, 1024, 1024]⟩
abbrev S16x1024x1024 : Shape := ⟨3, ![16, 1024, 1024]⟩
abbrev S182x1 : Shape := ⟨2, ![182, 1]⟩
abbrev S182x1024x1024 : Shape := ⟨3, ![182, 1024, 1024]⟩
abbrev S_ : Shape := ⟨0, ![]⟩
abbrev S182x1x1 : Shape := ⟨3, ![182, 1, 1]⟩
abbrev S1x1x1 : Shape := ⟨3, ![1, 1, 1]⟩

abbrev nBuf : Space → Nat
  | .hbm => 45
  | .vmem => 0
  | .smem => 0
  | _ => 0

abbrev bufTy : (tb : Table) → Fin (tcTables nBuf tb) → BufTy
  | .hbm, ⟨0, _⟩ => ⟨S182, .i32⟩
  | .hbm, ⟨1, _⟩ => ⟨S1, .i32⟩
  | .hbm, ⟨2, _⟩ => ⟨S93184x1024, .bf16⟩
  | .hbm, ⟨3, _⟩ => ⟨S2x16x1024x1024, .f32⟩
  | .hbm, ⟨4, _⟩ => ⟨S2x16x1024x1024, .f32⟩
  | .hbm, ⟨5, _⟩ => ⟨S2x16x1024x1024, .f32⟩
  | .hbm, ⟨6, _⟩ => ⟨S182x512x1024, .bf16⟩
  | .hbm, ⟨7, _⟩ => ⟨S182x512x1024, .f32⟩
  | .hbm, ⟨8, _⟩ => ⟨S1x16x1024x1024, .f32⟩
  | .hbm, ⟨9, _⟩ => ⟨S16x1024x1024, .f32⟩
  | .hbm, ⟨10, _⟩ => ⟨S182x1, .i32⟩
  | .hbm, ⟨11, _⟩ => ⟨S182x1024x1024, .f32⟩
  | .hbm, ⟨12, _⟩ => ⟨S182x512x1024, .f32⟩
  | .hbm, ⟨13, _⟩ => ⟨S1x16x1024x1024, .f32⟩
  | .hbm, ⟨14, _⟩ => ⟨S16x1024x1024, .f32⟩
  | .hbm, ⟨15, _⟩ => ⟨S182x1, .i32⟩
  | .hbm, ⟨16, _⟩ => ⟨S182x1024x1024, .f32⟩
  | .hbm, ⟨17, _⟩ => ⟨S182x512x1024, .f32⟩
  | .hbm, ⟨18, _⟩ => ⟨S182x512x1024, .f32⟩
  | .hbm, ⟨19, _⟩ => ⟨S182x512x1024, .f32⟩
  | .hbm, ⟨20, _⟩ => ⟨S_, .f32⟩
  | .hbm, ⟨21, _⟩ => ⟨S182x512x1024, .f32⟩
  | .hbm, ⟨22, _⟩ => ⟨S182x512x1024, .f32⟩
  | .hbm, ⟨23, _⟩ => ⟨S_, .f32⟩
  | .hbm, ⟨24, _⟩ => ⟨S182x512x1024, .f32⟩
  | .hbm, ⟨25, _⟩ => ⟨S182x512x1024, .f32⟩
  | .hbm, ⟨26, _⟩ => ⟨S182x512x1024, .f32⟩
  | .hbm, ⟨27, _⟩ => ⟨S182x512x1024, .f32⟩
  | .hbm, ⟨28, _⟩ => ⟨S1x16x1024x1024, .f32⟩
  | .hbm, ⟨29, _⟩ => ⟨S16x1024x1024, .f32⟩
  | .hbm, ⟨30, _⟩ => ⟨S182x1, .i32⟩
  | .hbm, ⟨31, _⟩ => ⟨S182x1024x1024, .f32⟩
  | .hbm, ⟨32, _⟩ => ⟨S182x512x1024, .f32⟩
  | .hbm, ⟨33, _⟩ => ⟨S182, .i32⟩
  | .hbm, ⟨34, _⟩ => ⟨S182x1x1, .i32⟩
  | .hbm, ⟨35, _⟩ => ⟨S1x1x1, .i32⟩
  | .hbm, ⟨36, _⟩ => ⟨S182x1x1, .i32⟩
  | .hbm, ⟨37, _⟩ => ⟨S182x1x1, .i1⟩
  | .hbm, ⟨38, _⟩ => ⟨S_, .f32⟩
  | .hbm, ⟨39, _⟩ => ⟨S_, .f32⟩
  | .hbm, ⟨40, _⟩ => ⟨S182x512x1024, .i1⟩
  | .hbm, ⟨41, _⟩ => ⟨S182x512x1024, .f32⟩
  | .hbm, ⟨42, _⟩ => ⟨S182x512x1024, .f32⟩
  | .hbm, ⟨43, _⟩ => ⟨S182x512x1024, .bf16⟩
  | .hbm, ⟨44, _⟩ => ⟨S93184x1024, .bf16⟩
  | _, _ => ⟨S182, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_call2_v0 : Ref sig .tc := ⟨.hbm, 18, rfl⟩
abbrev main_call2_v1 : Ref sig .tc := ⟨.hbm, 19, rfl⟩
abbrev main_call2_cst : Ref sig .tc := ⟨.hbm, 20, rfl⟩
abbrev main_call2_v2 : Ref sig .tc := ⟨.hbm, 21, rfl⟩
abbrev main_call2_v3 : Ref sig .tc := ⟨.hbm, 22, rfl⟩
abbrev main_call2_cst_0 : Ref sig .tc := ⟨.hbm, 23, rfl⟩
abbrev main_call2_v4 : Ref sig .tc := ⟨.hbm, 24, rfl⟩
abbrev main_call2_v5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call3_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_call4_v0 : Ref sig .tc := ⟨.hbm, 39, rfl⟩
abbrev main_call4_v1 : Ref sig .tc := ⟨.hbm, 40, rfl⟩
abbrev main_call4_v2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Proof.At.Softmax.lean ====
module

public import Idealize.ShloMosaic.Lib.Pointwise

@[expose] public section

set_option maxRecDepth 16384

noncomputable section

namespace Cert.Proof.At

open Idealize.ShloMosaic

/-- Key `k` is seen by query row `T`: it is one of the 256 context keys, or both lie in the latent part and are at most
    128 places apart. -/
def Seen (T k : ℕ) : Prop := k < 256 ∨ (256 ≤ T ∧ k ≤ T + 128 ∧ T ≤ k + 128)

instance (T k : ℕ) : Decidable (Seen T k) := inferInstanceAs (Decidable (_ ∨ _))

/-- The scores of row `T`: −∞ at the keys it does not see. -/
def masked (sc : ℕ → EReal) (T k : ℕ) : EReal := if Seen T k then sc k else ⊥

/-- The maximum of the 4352 scores and the sink logit. -/
def top (S : ℕ → EReal) (a : EReal) : EReal := max ((Finset.univ : Finset (Fin 4352)).fold max ⊥ fun k : Fin 4352 => S k) a

/-- The softmax's denominator: the sum of the exponentials, the sink's among them. -/
def den (S : ℕ → EReal) (a : EReal) : EReal := (∑ k : Fin 4352, Ideal.exp (S k - top S a)) + Ideal.exp (a - top S a)

/-- The attention's value at one row and column: the exponentials' weighted sum over the denominator. -/
def soft (S V : ℕ → EReal) (a : EReal) : EReal :=
  Ideal.div (∑ k : Fin 4352, Ideal.exp (S k - top S a) * V k) (den S a)

/-- −∞ less anything is −∞, and its exponential is zero. -/
theorem exp_bot_sub (x : EReal) : Ideal.exp (⊥ - x) = 0 := by
  have h : (⊥ : EReal) - x = ⊥ := by rw [sub_eq_add_neg, EReal.bot_add]
  rw [h]; rfl

/-- Two maxima with the same upper bounds are equal: `top` from its upper bounds. -/
theorem top_le_iff (S : ℕ → EReal) (a c : EReal) : top S a ≤ c ↔ (∀ k, k < 4352 → S k ≤ c) ∧ a ≤ c := by
  unfold top
  rw [max_le_iff, Finset.fold_max_le]
  constructor
  · rintro ⟨⟨_, h⟩, h2⟩
    exact ⟨fun k hk => h ⟨k, hk⟩ (Finset.mem_univ _), h2⟩
  · rintro ⟨h, h2⟩
    exact ⟨⟨bot_le, fun k _ => h k k.isLt⟩, h2⟩

section Blocks
variable (Q rr : ℕ)

/-- The scores against the block of keys before row block `Q`. -/
def bP (sc : ℕ → EReal) (t : ℕ) : EReal := if 3 ≤ Q ∧ rr ≤ t then sc (128 * (Q - 1) + t) else ⊥
/-- The scores against row block `Q`'s own keys. -/
def bC (sc : ℕ → EReal) (t : ℕ) : EReal := if 2 ≤ Q then sc (128 * Q + t) else ⊥
/-- The scores against the block of keys after row block `Q`. -/
def bN (sc : ℕ → EReal) (t : ℕ) : EReal := if (2 ≤ Q ∧ Q ≤ 32) ∧ t ≤ rr then sc (128 * (Q + 1) + t) else ⊥

/-- The maximum over the three latent blocks and the context's two halves is the maximum over all keys. -/
theorem top_blocks (sc : ℕ → EReal) (a : EReal) (hQ : Q < 34) (hr : rr < 128) :
    max ((Finset.univ : Finset (Fin 128)).fold max ⊥ fun t : Fin 128 =>
      max (max (bP Q rr sc t) (bC Q sc t)) (max (max (bN Q rr sc t) (sc t)) (sc (128 + t)))) a
      = top (masked sc (128 * Q + rr)) a := by
  refine eq_of_forall_ge_iff fun c => ?_
  rw [top_le_iff, max_le_iff, Finset.fold_max_le]
  refine and_congr_left fun _ => ?_
  simp only [bot_le, true_and, Finset.mem_univ, forall_const, max_le_iff]
  constructor
  · intro h k hk
    unfold masked
    split
    next hs =>
      unfold Seen at hs
      have hm := h ⟨k % 128, Nat.mod_lt _ (by decide)⟩
      obtain ⟨⟨h1, h2⟩, ⟨h3, h4⟩, h5⟩ := hm
      simp only at h1 h2 h3 h4 h5
      have hd := Nat.div_add_mod k 128
      have hl : k % 128 < 128 := Nat.mod_lt _ (by decide)
      by_cases k0 : k < 128
      · rwa [Nat.mod_eq_of_lt k0] at h4
      by_cases k1 : k < 256
      · have : 128 + k % 128 = k := by omega
        rwa [this] at h5
      have hc : k / 128 + 1 = Q ∨ k / 128 = Q ∨ k / 128 = Q + 1 := by omega
      rcases hc with hc | hc | hc
      · unfold bP at h1
        rw [if_pos (by omega)] at h1
        have : 128 * (Q - 1) + k % 128 = k := by omega
        rwa [this] at h1
      · unfold bC at h2
        rw [if_pos (by omega)] at h2
        have : 128 * Q + k % 128 = k := by omega
        rwa [this] at h2
      · unfold bN at h3
        rw [if_pos (by omega)] at h3
        have : 128 * (Q + 1) + k % 128 = k := by omega
        rwa [this] at h3
    next => exact bot_le
  · intro h t
    have ht := t.isLt
    have key : ∀ k, k < 4352 → Seen (128 * Q + rr) k → sc k ≤ c := fun k hk hs => by
      have := h k hk; unfold masked at this; rwa [if_pos hs] at this
    unfold Seen at key
    refine ⟨⟨?_, ?_⟩, ⟨?_, ?_⟩, ?_⟩
    · unfold bP; split
      · exact key _ (by omega) (by omega)
      · exact bot_le
    · unfold bC; split
      · exact key _ (by omega) (by omega)
      · exact bot_le
    · unfold bN; split
      · exact key _ (by omega) (by omega)
      · exact bot_le
    · exact key _ (by omega) (by omega)
    · exact key _ (by omega) (by omega)

/-- A sum over all keys whose terms vanish outside the context and one stretch `[a, a + n)` is the two stretches' sum. -/
theorem sum_stretch (f : ℕ → EReal) (a n : ℕ) (h1 : 256 ≤ a) (h2 : a + n ≤ 4352)
    (h0 : ∀ k, 256 ≤ k → k < 4352 → (k < a ∨ a + n ≤ k) → f k = 0) :
    ∑ k : Fin 4352, f k = ∑ t : Fin 256, f t + ∑ t : Fin n, f (a + t) := by
  rw [Fin.sum_univ_eq_sum_range f 4352, Fin.sum_univ_eq_sum_range f 256, Fin.sum_univ_eq_sum_range (fun t => f (a + t)) n,
    ← Finset.sum_range_add_sum_Ico f (show 256 ≤ 4352 by decide), ← Finset.sum_Ico_consecutive f h1 (show a ≤ 4352 by omega),
    ← Finset.sum_Ico_consecutive f (show a ≤ a + n by omega) h2,
    Finset.sum_eq_zero (s := Finset.Ico 256 a) (fun k hk => by rw [Finset.mem_Ico] at hk; exact h0 k (by omega) (by omega) (by omega)),
    Finset.sum_eq_zero (s := Finset.Ico (a + n) 4352) (fun k hk => by rw [Finset.mem_Ico] at hk; exact h0 k (by omega) (by omega) (by omega)),
    zero_add, add_zero, Finset.sum_Ico_eq_sum_range]
  congr 2
  rw [Nat.add_sub_cancel_left]

/-- A sum over `m + n` consecutive keys from `a` is the sum over the first `m` and that over the next `n`. -/
theorem sum_two (f : ℕ → EReal) (a m n : ℕ) :
    ∑ t : Fin (m + n), f (a + t) = ∑ t : Fin m, f (a + t) + ∑ t : Fin n, f (a + m + t) := by
  rw [Fin.sum_univ_add]
  congr 1
  exact Finset.sum_congr rfl fun t _ => by rw [Fin.val_natAdd, Nat.add_assoc]

/-- A sum over all keys of what vanishes where row `128·Q + rr` does not see the key is the sum over the three latent
    blocks and the context. -/
theorem sum_blocks (f : EReal → ℕ → EReal) (hf : ∀ k, f ⊥ k = 0) (sc : ℕ → EReal) (hQ : Q < 34) (hr : rr < 128) :
    ∑ t : Fin 128, f (bP Q rr sc t) (128 * (Q - 1) + t) + ∑ t : Fin 128, f (bC Q sc t) (128 * Q + t)
      + ∑ t : Fin 128, f (bN Q rr sc t) (128 * (Q + 1) + t) + ∑ t : Fin 256, f (sc t) t
      = ∑ k : Fin 4352, f (masked sc (128 * Q + rr) k) k := by
  have hX : ∑ t : Fin 256, f (sc t) t = ∑ t : Fin 256, f (masked sc (128 * Q + rr) t) t :=
    Finset.sum_congr rfl fun t _ => by unfold masked; rw [if_pos (show Seen _ _ from Or.inl t.isLt)]
  have hbot : ∀ k, ¬ Seen (128 * Q + rr) k → f (masked sc (128 * Q + rr) k) k = 0 := fun k hk => by
    unfold masked; rw [if_neg hk, hf]
  have hP : 3 ≤ Q → ∑ t : Fin 128, f (bP Q rr sc t) (128 * (Q - 1) + t)
      = ∑ t : Fin 128, f (masked sc (128 * Q + rr) (128 * (Q - 1) + t)) (128 * (Q - 1) + t) := fun h3 =>
    Finset.sum_congr rfl fun t _ => by
      have := t.isLt
      unfold bP masked
      by_cases ht : rr ≤ t
      · rw [if_pos ⟨h3, ht⟩, if_pos (by unfold Seen; omega)]
      · rw [if_neg (fun h => ht h.2), if_neg (by unfold Seen; omega)]
  have hP0 : Q < 3 → ∑ t : Fin 128, f (bP Q rr sc t) (128 * (Q - 1) + t) = 0 := fun h3 =>
    Finset.sum_eq_zero fun t _ => by unfold bP; rw [if_neg (by omega), hf]
  have hC : 2 ≤ Q → ∑ t : Fin 128, f (bC Q sc t) (128 * Q + t)
      = ∑ t : Fin 128, f (masked sc (128 * Q + rr) (128 * Q + t)) (128 * Q + t) := fun h2 =>
    Finset.sum_congr rfl fun t _ => by
      have := t.isLt
      unfold bC masked
      rw [if_pos h2, if_pos (by unfold Seen; omega)]
  have hC0 : Q < 2 → ∑ t : Fin 128, f (bC Q sc t) (128 * Q + t) = 0 := fun h3 =>
    Finset.sum_eq_zero fun t _ => by unfold bC; rw [if_neg (by omega), hf]
  have hN : 2 ≤ Q → Q ≤ 32 → ∑ t : Fin 128, f (bN Q rr sc t) (128 * (Q + 1) + t)
      = ∑ t : Fin 128, f (masked sc (128 * Q + rr) (128 * (Q + 1) + t)) (128 * (Q + 1) + t) := fun h2 h3 =>
    Finset.sum_congr rfl fun t _ => by
      have := t.isLt
      unfold bN masked
      by_cases ht : (t : ℕ) ≤ rr
      · rw [if_pos ⟨⟨h2, h3⟩, ht⟩, if_pos (by unfold Seen; omega)]
      · rw [if_neg (fun h => ht h.2), if_neg (by unfold Seen; omega)]
  have hN0 : ¬ (2 ≤ Q ∧ Q ≤ 32) → ∑ t : Fin 128, f (bN Q rr sc t) (128 * (Q + 1) + t) = 0 := fun h3 =>
    Finset.sum_eq_zero fun t _ => by unfold bN; rw [if_neg (fun h => h3 h.1), hf]
  have two := sum_two (fun k => f (masked sc (128 * Q + rr) k) k)
  have str := sum_stretch (fun k => f (masked sc (128 * Q + rr) k) k)
  rw [hX]
  by_cases q2 : Q < 2
  · rw [hP0 (by omega), hC0 q2, hN0 (by omega), str 256 0 (by omega) (by omega)
      fun k h1 h2 _ => hbot k (by unfold Seen; omega)]
    simp
  by_cases q3 : Q < 3
  · obtain rfl : Q = 2 := by omega
    rw [hP0 (by omega), hC (by omega), hN (by omega) (by omega), str 256 (128 + 128) (by omega) (by omega)
      fun k h1 h2 _ => hbot k (by unfold Seen; omega), two, zero_add, add_comm]
  by_cases q33 : Q ≤ 32
  · rw [hP (by omega), hC (by omega), hN (by omega) (by omega), str (128 * (Q - 1)) (128 + 128 + 128) (by omega) (by omega)
      fun k h1 h2 _ => hbot k (by unfold Seen; omega), two, two,
      show 128 * (Q - 1) + 128 = 128 * Q by omega, show 128 * (Q - 1) + (128 + 128) = 128 * (Q + 1) by omega, add_comm]
  · rw [hP (by omega), hC (by omega), hN0 (by omega), str (128 * (Q - 1)) (128 + 128) (by omega) (by omega)
      fun k h1 h2 _ => hbot k (by unfold Seen; omega), two,
      show 128 * (Q - 1) + 128 = 128 * Q by omega, add_zero, add_comm]

end Blocks

end Cert.Proof.At
end
-- ==== Proof.At.Chain.lean ====
module

public import proofs.«01_k».proof.Proof.Gen.KernelIdeal.Skeleton
public import proofs.«01_k».proof.Proof.At.Softmax
public import Idealize.ShloMosaic.Lib.WordCmp

@[expose] public section

set_option maxRecDepth 16384

noncomputable section

namespace Cert.Proof.At

open Cert.KernelIdeal Cert.KernelIdeal.Gen Idealize.ShloMosaic Idealize.ShloMosaic.TcCoe Idealize.SL.Sem

/-- The named mask value is −∞ at the ideal values. -/
theorem mask_eq : (Named.named (F := Ideal) κ "mask" 0xF149F2CA#32 : Ideal .f32) = (⊥ : EReal) := rfl

/-- One chain of the kernel's body: 512 rows (four query heads by 128 queries), the block of keys before, the queries'
    own block, the block after, and the context; `s` the rows' sink logits. -/
def chain (bp bc bn : BitVec 1) (q : FVec Ideal S512x64 .bf16) (kp kc kn vp vc vn : FVec Ideal S128x64 .bf16)
    (kx vx : Vec Ideal S1x1x256x64 .bf16) (s : FVec Ideal S512x1 .f32) : FVec Ideal S512x64 .f32 :=
  let p := k0_pay35 (F := Ideal) bp k0_pay4 q kp
  let c := k0_pay39 (F := Ideal) bc q kc
  let n := k0_pay43 (F := Ideal) bn k0_pay5 q kn
  let x := k0_pay47 (F := Ideal) q kx
  let m := k0_pay55 (F := Ideal) p c n x s
  let ep := k0_pay59 (F := Ideal) p c n x s
  let ec := k0_pay63 (F := Ideal) p c n x s
  k0_pay81 (F := Ideal) vc vp vn ep ec (k0_pay67 (F := Ideal) n m) (k0_pay71 (F := Ideal) x m)
    (k0_pay75 (F := Ideal) n x s m ep ec) vx

section Pays
variable (b : BitVec 1) (q : FVec Ideal S512x64 .bf16) (k : FVec Ideal S128x64 .bf16) (r : Fin 512) (t : Fin 128)

/-- A select on a one-bit word, by the proposition the word says. -/
theorem select_bit {α : Type} (c : BitVec 1) (P : Prop) [Decidable P] (h : c = 1#1 ↔ P) (x y : α) :
    Scalar.select c x y = if P then x else y := by
  by_cases hP : P
  · rw [if_pos hP, h.2 hP]; rfl
  · rw [if_neg hP]
    have h0 : ∀ c : BitVec 1, c ≠ 1#1 → c = 0#1 := by decide
    rw [h0 c (mt h.1 hP)]; rfl

theorem andi_one (x y : BitVec 1) : IntOp.andi x y = 1#1 ↔ x = 1#1 ∧ y = 1#1 := by
  revert x y; decide

omit b q k in
/-- The kernel's mask word `t ≤ r mod 128` says so. -/
theorem sle_iff : IntOp.cmpi CmpIPredicate.sle (BitVec.ofNat 32 ↑t) (IntOp.andi (BitVec.ofNat 32 ↑r) 127#32) = 1#1 ↔ t.val ≤ r.val % 128 := by
  have h : IntOp.andi (BitVec.ofNat 32 ↑r) 127#32 = BitVec.ofNat 32 (r.val % 128) := by revert r; decide +kernel
  rw [h]
  have := t.isLt
  have : r.val % 128 < 128 := Nat.mod_lt _ (by decide)
  word_cmp

omit b q k in
theorem sge_iff : IntOp.cmpi CmpIPredicate.sge (BitVec.ofNat 32 ↑t) (IntOp.andi (BitVec.ofNat 32 ↑r) 127#32) = 1#1 ↔ r.val % 128 ≤ t.val := by
  have h : IntOp.andi (BitVec.ofNat 32 ↑r) 127#32 = BitVec.ofNat 32 (r.val % 128) := by revert r; decide +kernel
  rw [h]
  have := t.isLt
  have : r.val % 128 < 128 := Nat.mod_lt _ (by decide)
  word_cmp

/-- The scores against the block of keys before. -/
theorem p_apply :
    k0_pay35 (F := Ideal) b k0_pay4 q k (ix2 r t) = if r.val % 128 ≤ t.val ∧ b = 1#1 then ∑ x, q (ix2 r x) * k (ix2 t x) else ⊥ := by
  pointwise [k0_pay35, k0_pay4, k0_pay3]
  refine select_bit _ _ ?_ _ _
  rw [andi_one, sge_iff]

/-- The scores against the queries' own block of keys. -/
theorem c_apply :
    k0_pay39 (F := Ideal) b q k (ix2 r t) = if b = 1#1 then ∑ x, q (ix2 r x) * k (ix2 t x) else ⊥ := by
  pointwise [k0_pay39, k0_pay4, k0_pay3]
  exact select_bit _ _ Iff.rfl _ _

/-- The scores against the block of keys after. -/
theorem n_apply :
    k0_pay43 (F := Ideal) b k0_pay5 q k (ix2 r t) = if t.val ≤ r.val % 128 ∧ b = 1#1 then ∑ x, q (ix2 r x) * k (ix2 t x) else ⊥ := by
  pointwise [k0_pay43, k0_pay5, k0_pay3]
  refine select_bit _ _ ?_ _ _
  rw [andi_one, sle_iff]

/-- The scores against the context's keys. -/
theorem x_apply (kx : Vec Ideal S1x1x256x64 .bf16) (t : Fin 256) :
    k0_pay47 (F := Ideal) q kx (ix2 r t) = ∑ x, q (ix2 r x) * kx (ix4 0 0 t x) := by
  pointwise [k0_pay47]

/-- The row's maximum over all its scores and its sink logit. -/
theorem m_apply (p c n : FVec Ideal S512x128 .f32) (x : FVec Ideal S512x256 .f32) (s : FVec Ideal S512x1 .f32) :
    k0_pay55 (F := Ideal) p c n x s (ix2 r 0) =
      max ((Finset.univ : Finset (Fin 128)).fold max ⊥ fun t =>
        max (max (p (ix2 r t)) (c (ix2 r t))) (max (max (n (ix2 r t)) (x (ix2 r ⟨t, by omega⟩))) (x (ix2 r ⟨128 + t, by omega⟩)))) (s (ix2 r 0)) := by
  pointwise [k0_pay55]
  have : Ideal.ofBits FTy.f32 4286578688#32 = ⊥ := by simp [Ideal.ofBits, Ideal.ieee]
  rw [this]

theorem ep_apply (p c n : FVec Ideal S512x128 .f32) (x : FVec Ideal S512x256 .f32) (s : FVec Ideal S512x1 .f32) :
    k0_pay59 (F := Ideal) p c n x s (ix2 r t) = Ideal.exp (p (ix2 r t) - k0_pay55 (F := Ideal) p c n x s (ix2 r 0)) := by
  pointwise [k0_pay59]

theorem ec_apply (p c n : FVec Ideal S512x128 .f32) (x : FVec Ideal S512x256 .f32) (s : FVec Ideal S512x1 .f32) :
    k0_pay63 (F := Ideal) p c n x s (ix2 r t) = Ideal.exp (c (ix2 r t) - k0_pay55 (F := Ideal) p c n x s (ix2 r 0)) := by
  pointwise [k0_pay63]

theorem en_apply (n : FVec Ideal S512x128 .f32) (m : FVec Ideal S512x1 .f32) :
    k0_pay67 (F := Ideal) n m (ix2 r t) = Ideal.exp (n (ix2 r t) - m (ix2 r 0)) := by
  pointwise [k0_pay67]

theorem ex_apply (x : FVec Ideal S512x256 .f32) (m : FVec Ideal S512x1 .f32) (t : Fin 256) :
    k0_pay71 (F := Ideal) x m (ix2 r t) = Ideal.exp (x (ix2 r t) - m (ix2 r 0)) := by
  pointwise [k0_pay71]

/-- The row's denominator. -/
theorem den_apply (n e1 e2 : FVec Ideal S512x128 .f32) (x : FVec Ideal S512x256 .f32) (s m : FVec Ideal S512x1 .f32) :
    k0_pay75 (F := Ideal) n x s m e1 e2 (ix2 r 0) =
      ∑ t : Fin 128, (e1 (ix2 r t) + e2 (ix2 r t) + (Ideal.exp (n (ix2 r t) - m (ix2 r 0)) + Ideal.exp (x (ix2 r ⟨t, by omega⟩) - m (ix2 r 0)))
        + Ideal.exp (x (ix2 r ⟨128 + t, by omega⟩) - m (ix2 r 0))) + Ideal.exp (s (ix2 r 0) - m (ix2 r 0)) := by
  pointwise [k0_pay75, k0_pay67, k0_pay71]

/-- The row's value. -/
theorem o_apply (vc vp vn : FVec Ideal S128x64 .bf16) (ep ec en : FVec Ideal S512x128 .f32) (ex : FVec Ideal S512x256 .f32)
    (dn : FVec Ideal S512x1 .f32) (vx : Vec Ideal S1x1x256x64 .bf16) (d : Fin 64) :
    k0_pay81 (F := Ideal) vc vp vn ep ec en ex dn vx (ix2 r d) =
      Ideal.div (∑ t, ep (ix2 r t) * vp (ix2 t d) + ∑ t, ec (ix2 r t) * vc (ix2 t d) + ∑ t, en (ix2 r t) * vn (ix2 t d)
        + ∑ t, ex (ix2 r t) * vx (ix4 0 0 t d)) (dn (ix2 r 0)) := by
  pointwise [k0_pay81]

end Pays

/-- A chain's value at a row and a column is the attention's: for row block `Q`, with the three guards saying which
    blocks of keys there are, and the blocks of keys and values holding the rows `128 (Q - 1) …`, `128 Q …`,
    `128 (Q + 1) …` and the context's. -/
theorem chain_apply (bp bc bn : BitVec 1) (q : FVec Ideal S512x64 .bf16) (kp kc kn vp vc vn : FVec Ideal S128x64 .bf16)
    (kx vx : Vec Ideal S1x1x256x64 .bf16) (s : FVec Ideal S512x1 .f32) (Q : ℕ) (hQ : Q < 34) (r : Fin 512) (d : Fin 64)
    (sc V : ℕ → EReal)
    (hbp : bp = 1#1 ↔ 3 ≤ Q) (hbc : bc = 1#1 ↔ 2 ≤ Q) (hbn : bn = 1#1 ↔ 2 ≤ Q ∧ Q ≤ 32)
    (hkp : 3 ≤ Q → ∀ t : Fin 128, ∑ x, q (ix2 r x) * kp (ix2 t x) = sc (128 * (Q - 1) + t) ∧ vp (ix2 t d) = V (128 * (Q - 1) + t))
    (hkc : 2 ≤ Q → ∀ t : Fin 128, ∑ x, q (ix2 r x) * kc (ix2 t x) = sc (128 * Q + t) ∧ vc (ix2 t d) = V (128 * Q + t))
    (hkn : 2 ≤ Q → Q ≤ 32 → ∀ t : Fin 128, ∑ x, q (ix2 r x) * kn (ix2 t x) = sc (128 * (Q + 1) + t) ∧ vn (ix2 t d) = V (128 * (Q + 1) + t))
    (hkx : ∀ t : Fin 256, ∑ x, q (ix2 r x) * kx (ix4 0 0 t x) = sc t ∧ vx (ix4 0 0 t d) = V t) :
    chain bp bc bn q kp kc kn vp vc vn kx vx s (ix2 r d) = soft (masked sc (128 * Q + r.val % 128)) V (s (ix2 r 0)) := by
  have hr : r.val % 128 < 128 := Nat.mod_lt _ (by decide)
  have hp : ∀ t : Fin 128, k0_pay35 (F := Ideal) bp k0_pay4 q kp (ix2 r t) = bP Q (r.val % 128) sc t := fun t => by
    rw [p_apply]; unfold bP
    by_cases h : 3 ≤ Q ∧ r.val % 128 ≤ t
    · rw [if_pos h, if_pos ⟨h.2, hbp.2 h.1⟩, (hkp h.1 t).1]
    · rw [if_neg h, if_neg (fun h' => h ⟨hbp.1 h'.2, h'.1⟩)]
  have hc : ∀ t : Fin 128, k0_pay39 (F := Ideal) bc q kc (ix2 r t) = bC Q sc t := fun t => by
    rw [c_apply]; unfold bC
    by_cases h : 2 ≤ Q
    · rw [if_pos h, if_pos (hbc.2 h), (hkc h t).1]
    · rw [if_neg h, if_neg (fun h' => h (hbc.1 h'))]
  have hn : ∀ t : Fin 128, k0_pay43 (F := Ideal) bn k0_pay5 q kn (ix2 r t) = bN Q (r.val % 128) sc t := fun t => by
    rw [n_apply]; unfold bN
    by_cases h : (2 ≤ Q ∧ Q ≤ 32) ∧ t ≤ r.val % 128
    · rw [if_pos h, if_pos ⟨h.2, hbn.2 h.1⟩, (hkn h.1.1 h.1.2 t).1]
    · rw [if_neg h, if_neg (fun h' => h ⟨hbn.1 h'.2, h'.1⟩)]
  have hx : ∀ t : Fin 256, k0_pay47 (F := Ideal) q kx (ix2 r t) = sc t := fun t => by
    rw [x_apply]; exact (hkx t).1
  unfold chain
  rw [o_apply, den_apply]
  simp only [ep_apply, ec_apply, en_apply, ex_apply, m_apply, hp, hc, hn, hx]
  rw [top_blocks Q (r.val % 128) sc _ hQ hr]
  unfold soft den
  generalize top (masked sc (128 * Q + r.val % 128)) (s (ix2 r 0)) = M
  have sv := sum_blocks Q (r.val % 128) (fun e k => Ideal.exp (e - M) * V k) (fun k => by rw [exp_bot_sub, zero_mul]) sc hQ hr
  have sd := sum_blocks Q (r.val % 128) (fun e _ => Ideal.exp (e - M)) (fun k => exp_bot_sub _) sc hQ hr
  refine congrArg₂ Ideal.div ?_ (congrArg (· + _) ?_)
  · rw [← sv]
    refine congrArg₂ (· + ·) (congrArg₂ (· + ·) (congrArg₂ (· + ·) ?_ ?_) ?_) ?_
    · refine Finset.sum_congr rfl fun t _ => ?_
      by_cases h : 3 ≤ Q
      · rw [(hkp h t).2]
      · unfold bP; rw [if_neg (fun h' => h h'.1), exp_bot_sub, zero_mul, zero_mul]
    · refine Finset.sum_congr rfl fun t _ => ?_
      by_cases h : 2 ≤ Q
      · rw [(hkc h t).2]
      · unfold bC; rw [if_neg h, exp_bot_sub, zero_mul, zero_mul]
    · refine Finset.sum_congr rfl fun t _ => ?_
      by_cases h : 2 ≤ Q ∧ Q ≤ 32
      · rw [(hkn h.1 h.2 t).2]
      · unfold bN; rw [if_neg (fun h' => h h'.1), exp_bot_sub, zero_mul, zero_mul]
    · exact Finset.sum_congr rfl fun t _ => by rw [(hkx t).2]
  · rw [← sd]
    have two := sum_two (fun k => Ideal.exp (sc k - M)) 0 128 128
    simp only [Nat.zero_add] at two
    rw [show (∑ t : Fin 256, Ideal.exp (sc t - M)) = ∑ t : Fin (128 + 128), Ideal.exp (sc t - M) from rfl, two]
    simp only [Finset.sum_add_distrib]
    ac_rfl

end Cert.Proof.At
end
-- ==== Proof.At.Loads.lean ====
module

public import proofs.«01_k».proof.Proof.Gen.KernelIdeal.Value
public import proofs.«01_k».proof.Proof.At.Chain
public import Idealize.ShloMosaic.Lib.WholeRead
public import Idealize.ShloMosaic.Lib.WritesUnit

@[expose] public section

set_option maxRecDepth 16384

noncomputable section

namespace Cert.Proof.At

open Cert.KernelIdeal Cert.KernelIdeal.Gen Idealize.ShloMosaic Idealize.ShloMosaic.TcCoe Idealize.SL.Sem

/-- The queries of the four heads of pair `h`, half `cc` of the block: 512 rows. -/
def cq (x : Vec Ideal S1x8x256x64 .bf16) (h cc : Fin 2) : FVec Ideal S512x64 .bf16 :=
  fun y => x (ix4 0 ⟨4 * h + (y 0).val / 128, by have := (y 0).isLt; have : (y 0).val < 512 := this; omega⟩ ⟨128 * cc + (y 0).val % 128, by omega⟩ (y 1))

/-- A neighbouring block of keys or values of pair `h`. -/
def kn (x : Vec Ideal S1x2x128x64 .bf16) (h : Fin 2) : FVec Ideal S128x64 .bf16 := fun y => x (ix4 0 h (y 0) (y 1))

/-- Half `cc` of the block of keys or values of pair `h`. -/
def km (x : Vec Ideal S1x2x256x64 .bf16) (h cc : Fin 2) : FVec Ideal S128x64 .bf16 :=
  fun y => x (ix4 0 h ⟨128 * cc + (y 0).val, by have : (y 0).val < 128 := (y 0).isLt; omega⟩ (y 1))

/-- The context's keys or values of pair `h`. -/
def kx (x : Vec Ideal S1x2x256x64 .bf16) (h : Fin 2) : Vec Ideal S1x1x256x64 .bf16 := fun y => x (ix4 0 h (y 2) (y 3))

/-- The sink logits of pair `h`'s four heads, one a row. -/
def snk (x : Vec Ideal S8 .f32) (h : Fin 2) : FVec Ideal S512x1 .f32 :=
  fun y => x (ix1 ⟨4 * h + (y 0).val / 128, by have : (y 0).val < 512 := (y 0).isLt; omega⟩)

section Loads

theorem pay7_apply (L : Vec Ideal S1x4x128x64 .bf16) (r : Fin 512) (x : Fin 64) :
    k0_pay7 (F := Ideal) L (ix2 r x) = L (ix4 0 ⟨r / 128, by omega⟩ ⟨r % 128, by omega⟩ x) := by
  pointwise [k0_pay7]

theorem pay8_apply (L : Vec Ideal S1x1x128x64 .bf16) (r : Fin 128) (x : Fin 64) :
    k0_pay8 (F := Ideal) L (ix2 r x) = L (ix4 0 0 r x) := by
  pointwise [k0_pay8]

theorem ld_q (m : Memref sig .tc .vmem S1x8x256x64 .bf16) (hm : m.IsWhole) (x : Vec Ideal S1x8x256x64 .bf16) (h cc : Fin 2)
    (off : Fin 4 → ℕ) (ho : off = ![0, 4 * h.val, 128 * cc.val, 0]) (hb) :
    k0_pay7 (F := Ideal) (View.readAt (Elt Ideal) m.view (Rect.unit (s := S1x8x256x64) off S1x4x128x64.size hb).toLoadRect (hm.unread x)) = cq x h cc := by
  subst ho
  funext y
  idx_vars y
  rw [pay7_apply, hm.readAt_unread]
  refine congrArg x (funext fun a => Fin.ext ?_)
  fin_cases a <;> simp [ix4, ix2]

theorem ld_n (m : Memref sig .tc .vmem S1x2x128x64 .bf16) (hm : m.IsWhole) (x : Vec Ideal S1x2x128x64 .bf16) (h : Fin 2)
    (off : Fin 4 → ℕ) (ho : off = ![0, h.val, 0, 0]) (hb) :
    k0_pay8 (F := Ideal) (View.readAt (Elt Ideal) m.view (Rect.unit (s := S1x2x128x64) off S1x1x128x64.size hb).toLoadRect (hm.unread x)) = kn x h := by
  subst ho
  funext y
  idx_vars y
  rw [pay8_apply, hm.readAt_unread]
  refine congrArg x (funext fun a => Fin.ext ?_)
  fin_cases a <;> simp [ix4, ix2]

theorem ld_m (m : Memref sig .tc .vmem S1x2x256x64 .bf16) (hm : m.IsWhole) (x : Vec Ideal S1x2x256x64 .bf16) (h cc : Fin 2)
    (off : Fin 4 → ℕ) (ho : off = ![0, h.val, 128 * cc.val, 0]) (hb) :
    k0_pay8 (F := Ideal) (View.readAt (Elt Ideal) m.view (Rect.unit (s := S1x2x256x64) off S1x1x128x64.size hb).toLoadRect (hm.unread x)) = km x h cc := by
  subst ho
  funext y
  idx_vars y
  rw [pay8_apply, hm.readAt_unread]
  refine congrArg x (funext fun a => Fin.ext ?_)
  fin_cases a <;> simp [ix4, ix2]

theorem ld_x (m : Memref sig .tc .vmem S1x2x256x64 .bf16) (hm : m.IsWhole) (x : Vec Ideal S1x2x256x64 .bf16) (h : Fin 2)
    (off : Fin 4 → ℕ) (ho : off = ![0, h.val, 0, 0]) (hb) :
    (View.readAt (Elt Ideal) m.view (Rect.unit (s := S1x2x256x64) off S1x1x256x64.size hb).toLoadRect (hm.unread x)) = kx x h := by
  subst ho
  funext y
  idx_vars y
  rw [hm.readAt_unread]
  refine congrArg x (funext fun a => Fin.ext ?_)
  fin_cases a <;> simp [ix4, ix2]

/-- The stored block at a column of head `g` of the first pair. -/
theorem pay2_apply0 (o0 o1 : FVec Ideal S512x64 .f32) (r : Fin 128) (g : Fin 4) (d : Fin 64) :
    k0_pay2 (F := Ideal) o0 o1 (ix3 0 r ⟨64 * g + d, by omega⟩) = o0 (ix2 ⟨128 * g + r, by omega⟩ d) := by
  have hg := g.isLt
  have hd := d.isLt
  pointwise [k0_pay2]
  split_ifs
  all_goals first
    | (exfalso; omega)
    | exact congrArg o0 (congrArg₂ ix2 (Fin.ext (by simp only; omega)) (Fin.ext (by simp only; omega)))

/-- The stored block at a column of head `g` of the second pair. -/
theorem pay2_apply1 (o0 o1 : FVec Ideal S512x64 .f32) (r : Fin 128) (g : Fin 4) (d : Fin 64) :
    k0_pay2 (F := Ideal) o0 o1 (ix3 0 r ⟨256 + 64 * g + d, by omega⟩) = o1 (ix2 ⟨128 * g + r, by omega⟩ d) := by
  have hg := g.isLt
  have hd := d.isLt
  pointwise [k0_pay2]
  split_ifs
  all_goals first
    | (exfalso; omega)
    | exact congrArg o1 (congrArg₂ ix2 (Fin.ext (by simp only; omega)) (Fin.ext (by simp only; omega)))

/-- A row's number shifted right by seven is its head. -/
theorem head_iff (r : Fin 512) (k : ℕ) (hk : k < 4) :
    IntOp.cmpi CmpIPredicate.eq (IntOp.shrui ArithUnit.vector (BitVec.ofNat 32 ↑r) 7#32) (BitVec.ofNat 32 k) = 1#1 ↔ r.val / 128 = k := by
  have hr := r.isLt
  have e : IntOp.shrui ArithUnit.vector (BitVec.ofNat 32 ↑r) 7#32 = BitVec.ofNat 32 (r.val / 128) := by
    apply BitVec.eq_of_toNat_eq
    simp [IntOp.shrui]
    omega
  rw [e]
  have hz : r.val / 128 < 4 := by omega
  generalize r.val / 128 = z at hz
  word_cmp

/-- The four sink logits, one for each 128 rows. -/
theorem pay51_apply (a b c e : Elt Ideal .f32) (r : Fin 512) :
    k0_pay51 (F := Ideal) k0_pay6 a b c e (ix2 r 0)
      = if r.val / 128 = 3 then e else if r.val / 128 = 2 then c else if r.val / 128 = 1 then b else if r.val / 128 = 0 then a else 0 := by
  pointwise [k0_pay51, k0_pay6]
  rw [select_bit _ _ (head_iff r 3 (by omega)), select_bit _ _ (head_iff r 2 (by omega)), select_bit _ _ (head_iff r 1 (by omega)),
    select_bit _ _ (head_iff r 0 (by omega))]

theorem ld_s (m : Memref sig .tc .smem S8 .f32) (hm : m.IsWhole) (x : Vec Ideal S8 .f32) (k : Fin 8)
    (off : Fin 1 → ℕ) (ho : off = ![k.val]) (hb) (z) :
    (View.readAt (Elt Ideal) m.view (Rect.unit (s := S8) off S1.size hb).toLoadRect (hm.unread x)) z = x (ix1 k) := by
  subst ho
  idx_vars z
  rw [hm.readAt_unread]
  refine congrArg x (funext fun a => Fin.ext ?_)
  fin_cases a; simp [ix1]

/-- The four sink logits of pair `h`. -/
theorem snk_eq (x : Vec Ideal S8 .f32) (h : Fin 2) (a b c e : Elt Ideal .f32)
    (ha : a = x (ix1 ⟨4 * h, by omega⟩)) (hb : b = x (ix1 ⟨4 * h + 1, by omega⟩)) (hc : c = x (ix1 ⟨4 * h + 2, by omega⟩)) (he : e = x (ix1 ⟨4 * h + 3, by omega⟩)) :
    k0_pay51 (F := Ideal) k0_pay6 a b c e = snk x h := by
  funext y
  idx_vars y
  obtain rfl : y1 = 0 := Subsingleton.elim _ _
  rw [pay51_apply]
  have hr := y0.isLt
  have hx : ∀ k (hk : k < 4), y0.val / 128 = k → x (ix1 ⟨4 * h + k, by omega⟩) = snk x h (ix2 y0 0) := fun k hk e =>
    congrArg x (congrArg ix1 (Fin.ext (by subst e; rfl)))
  split_ifs with h3 h2 h1 h0
  · exact he.trans (hx 3 (by omega) h3)
  · exact hc.trans (hx 2 (by omega) h2)
  · exact hb.trans (hx 1 (by omega) h1)
  · exact ha.trans (hx 0 (by omega) h0)
  · omega

end Loads

end Cert.Proof.At
end
-- ==== Proof.At.Body.lean ====
module

public import proofs.«01_k».proof.Proof.Gen.KernelIdeal.Value
public import proofs.«01_k».proof.Proof.At.Loads
public import Idealize.ShloMosaic.Lib.WholeRead
public import Idealize.ShloMosaic.Lib.WritesUnit

@[expose] public section

set_option maxRecDepth 16384

noncomputable section

namespace Cert.Proof.At

open Cert.KernelIdeal Cert.KernelIdeal.Gen Idealize.ShloMosaic Idealize.ShloMosaic.TcCoe Idealize.SL.Sem

/-- One chain, its arguments replaced by equal ones. -/
theorem chain_congr (bp bc bn : BitVec 1) {q q' : FVec Ideal S512x64 .bf16} (hq : q = q') {kp kc kn vp vc vn kp' kc' kn' vp' vc' vn' : FVec Ideal S128x64 .bf16}
    (h1 : kp = kp') (h2 : kc = kc') (h3 : kn = kn') (h4 : vp = vp') (h5 : vc = vc') (h6 : vn = vn')
    {kx vx kx' vx' : Vec Ideal S1x1x256x64 .bf16} (h7 : kx = kx') (h8 : vx = vx') {s s' : FVec Ideal S512x1 .f32} (h9 : s = s') :
    chain bp bc bn q kp kc kn vp vc vn kx vx s = chain bp bc bn q' kp' kc' kn' vp' vc' vn' kx' vx' s' := by
  subst hq h1 h2 h3 h4 h5 h6 h7 h8 h9; rfl

section
variable (c : Dev nD) (i : grid0.Coords)
  (arg2 : Memref sig .tc .smem S8 .f32) (harg2 : arg2.IsWhole)
  (arg3 : Memref sig .tc .vmem S1x8x256x64 .bf16) (harg3 : arg3.IsWhole)
  (arg4 : Memref sig .tc .vmem S1x2x128x64 .bf16) (harg4 : arg4.IsWhole)
  (arg5 : Memref sig .tc .vmem S1x2x256x64 .bf16) (harg5 : arg5.IsWhole)
  (arg6 : Memref sig .tc .vmem S1x2x128x64 .bf16) (harg6 : arg6.IsWhole)
  (arg7 : Memref sig .tc .vmem S1x2x128x64 .bf16) (harg7 : arg7.IsWhole)
  (arg8 : Memref sig .tc .vmem S1x2x256x64 .bf16) (harg8 : arg8.IsWhole)
  (arg9 : Memref sig .tc .vmem S1x2x128x64 .bf16) (harg9 : arg9.IsWhole)
  (arg10 : Memref sig .tc .vmem S1x2x256x64 .bf16) (harg10 : arg10.IsWhole)
  (arg11 : Memref sig .tc .vmem S1x2x256x64 .bf16) (harg11 : arg11.IsWhole)
  (arg12 : Memref sig .tc .vmem S1x256x512 .bf16) (harg12 : arg12.IsWhole)
  (x0 : Vec Ideal S8 .f32)
  (x1 : Vec Ideal S1x8x256x64 .bf16)
  (x2 : Vec Ideal S1x2x128x64 .bf16)
  (x3 : Vec Ideal S1x2x256x64 .bf16)
  (x4 : Vec Ideal S1x2x128x64 .bf16)
  (x5 : Vec Ideal S1x2x128x64 .bf16)
  (x6 : Vec Ideal S1x2x256x64 .bf16)
  (x7 : Vec Ideal S1x2x128x64 .bf16)
  (x8 : Vec Ideal S1x2x256x64 .bf16)
  (x9 : Vec Ideal S1x2x256x64 .bf16)

/-- The values of the first half of the queries, pair 0, are one chain. -/
theorem out_0_0 : kernelRun0_A.sl.r_81 c i arg2 harg2 arg3 harg3 arg4 harg4 arg5 harg5 arg7 harg7 arg8 harg8 arg10 harg10 arg11 harg11 x0 x1 x2 x3 x5 x6 x8 x9 =
    chain (kernelRun0_A.sl.v3 i) (kernelRun0_A.sl.v0 i) (kernelRun0_A.sl.v0 i) (cq x1 0 0) (kn x2 0) (km x3 0 0) (km x3 0 1) (kn x5 0) (km x6 0 0) (km x6 0 1)
      (kx x8 0) (kx x9 0) (snk x0 0) := by
  have e : kernelRun0_A.sl.r_81 c i arg2 harg2 arg3 harg3 arg4 harg4 arg5 harg5 arg7 harg7 arg8 harg8 arg10 harg10 arg11 harg11 x0 x1 x2 x3 x5 x6 x8 x9 =
    chain (kernelRun0_A.sl.v3 i) (kernelRun0_A.sl.v0 i) (kernelRun0_A.sl.v0 i)
      (k0_pay7 (F := Ideal) (View.readAt (Elt Ideal) arg3.view (Rect.unit (s := S1x8x256x64) ![0, 0, 0, 0] S1x4x128x64.size inb_S1x8x256x64_S1x4x128x64_0_0_0_0).toLoadRect (harg3.unread x1)))
      (k0_pay8 (F := Ideal) (View.readAt (Elt Ideal) arg4.view (Rect.unit (s := S1x2x128x64) ![0, 0, 0, 0] S1x1x128x64.size inb_S1x2x128x64_S1x1x128x64_0_0_0_0).toLoadRect (harg4.unread x2)))
      (k0_pay8 (F := Ideal) (View.readAt (Elt Ideal) arg5.view (Rect.unit (s := S1x2x256x64) ![0, 0, 0, 0] S1x1x128x64.size inb_S1x2x256x64_S1x1x128x64_0_0_0_0).toLoadRect (harg5.unread x3)))
      (k0_pay8 (F := Ideal) (View.readAt (Elt Ideal) arg5.view (Rect.unit (s := S1x2x256x64) ![0, 0, 128, 0] S1x1x128x64.size inb_S1x2x256x64_S1x1x128x64_0_0_128_0).toLoadRect (harg5.unread x3)))
      (k0_pay8 (F := Ideal) (View.readAt (Elt Ideal) arg7.view (Rect.unit (s := S1x2x128x64) ![0, 0, 0, 0] S1x1x128x64.size inb_S1x2x128x64_S1x1x128x64_0_0_0_0).toLoadRect (harg7.unread x5)))
      (k0_pay8 (F := Ideal) (View.readAt (Elt Ideal) arg8.view (Rect.unit (s := S1x2x256x64) ![0, 0, 0, 0] S1x1x128x64.size inb_S1x2x256x64_S1x1x128x64_0_0_0_0).toLoadRect (harg8.unread x6)))
      (k0_pay8 (F := Ideal) (View.readAt (Elt Ideal) arg8.view (Rect.unit (s := S1x2x256x64) ![0, 0, 128, 0] S1x1x128x64.size inb_S1x2x256x64_S1x1x128x64_0_0_128_0).toLoadRect (harg8.unread x6)))
      (View.readAt (Elt Ideal) arg10.view (Rect.unit (s := S1x2x256x64) ![0, 0, 0, 0] S1x1x256x64.size inb_S1x2x256x64_S1x1x256x64_0_0_0_0).toLoadRect (harg10.unread x8)) (View.readAt (Elt Ideal) arg11.view (Rect.unit (s := S1x2x256x64) ![0, 0, 0, 0] S1x1x256x64.size inb_S1x2x256x64_S1x1x256x64_0_0_0_0).toLoadRect (harg11.unread x9))
      (k0_pay51 (F := Ideal) k0_pay6 ((View.readAt (Elt Ideal) arg2.view (Rect.unit (s := S8) ![0] S1.size inb_S8_S1_0).toLoadRect (harg2.unread x0)) (Shape.Idx.first (by decide))) ((View.readAt (Elt Ideal) arg2.view (Rect.unit (s := S8) ![1] S1.size inb_S8_S1_1).toLoadRect (harg2.unread x0)) (Shape.Idx.first (by decide))) ((View.readAt (Elt Ideal) arg2.view (Rect.unit (s := S8) ![2] S1.size inb_S8_S1_2).toLoadRect (harg2.unread x0)) (Shape.Idx.first (by decide))) ((View.readAt (Elt Ideal) arg2.view (Rect.unit (s := S8) ![3] S1.size inb_S8_S1_3).toLoadRect (harg2.unread x0)) (Shape.Idx.first (by decide)))) := rfl
  exact e.trans (chain_congr _ _ _ (ld_q _ _ _ 0 0 _ rfl _) (ld_n _ _ _ 0 _ rfl _) (ld_m _ _ _ 0 0 _ rfl _) (ld_m _ _ _ 0 1 _ rfl _) (ld_n _ _ _ 0 _ rfl _) (ld_m _ _ _ 0 0 _ rfl _) (ld_m _ _ _ 0 1 _ rfl _) (ld_x _ _ _ 0 _ rfl _) (ld_x _ _ _ 0 _ rfl _)
    (snk_eq x0 0 _ _ _ _ (ld_s _ _ _ 0 _ rfl _ _) (ld_s _ _ _ 1 _ rfl _ _) (ld_s _ _ _ 2 _ rfl _ _) (ld_s _ _ _ 3 _ rfl _ _)))

/-- The values of the first half of the queries, pair 1, are one chain. -/
theorem out_1_0 : kernelRun0_A.sl.r_84 c i arg2 harg2 arg3 harg3 arg4 harg4 arg5 harg5 arg7 harg7 arg8 harg8 arg10 harg10 arg11 harg11 x0 x1 x2 x3 x5 x6 x8 x9 =
    chain (kernelRun0_A.sl.v3 i) (kernelRun0_A.sl.v0 i) (kernelRun0_A.sl.v0 i) (cq x1 1 0) (kn x2 1) (km x3 1 0) (km x3 1 1) (kn x5 1) (km x6 1 0) (km x6 1 1)
      (kx x8 1) (kx x9 1) (snk x0 1) := by
  have e : kernelRun0_A.sl.r_84 c i arg2 harg2 arg3 harg3 arg4 harg4 arg5 harg5 arg7 harg7 arg8 harg8 arg10 harg10 arg11 harg11 x0 x1 x2 x3 x5 x6 x8 x9 =
    chain (kernelRun0_A.sl.v3 i) (kernelRun0_A.sl.v0 i) (kernelRun0_A.sl.v0 i)
      (k0_pay7 (F := Ideal) (View.readAt (Elt Ideal) arg3.view (Rect.unit (s := S1x8x256x64) ![0, 4, 0, 0] S1x4x128x64.size inb_S1x8x256x64_S1x4x128x64_0_4_0_0).toLoadRect (harg3.unread x1)))
      (k0_pay8 (F := Ideal) (View.readAt (Elt Ideal) arg4.view (Rect.unit (s := S1x2x128x64) ![0, 1, 0, 0] S1x1x128x64.size inb_S1x2x128x64_S1x1x128x64_0_1_0_0).toLoadRect (harg4.unread x2)))
      (k0_pay8 (F := Ideal) (View.readAt (Elt Ideal) arg5.view (Rect.unit (s := S1x2x256x64) ![0, 1, 0, 0] S1x1x128x64.size inb_S1x2x256x64_S1x1x128x64_0_1_0_0).toLoadRect (harg5.unread x3)))
      (k0_pay8 (F := Ideal) (View.readAt (Elt Ideal) arg5.view (Rect.unit (s := S1x2x256x64) ![0, 1, 128, 0] S1x1x128x64.size inb_S1x2x256x64_S1x1x128x64_0_1_128_0).toLoadRect (harg5.unread x3)))
      (k0_pay8 (F := Ideal) (View.readAt (Elt Ideal) arg7.view (Rect.unit (s := S1x2x128x64) ![0, 1, 0, 0] S1x1x128x64.size inb_S1x2x128x64_S1x1x128x64_0_1_0_0).toLoadRect (harg7.unread x5)))
      (k0_pay8 (F := Ideal) (View.readAt (Elt Ideal) arg8.view (Rect.unit (s := S1x2x256x64) ![0, 1, 0, 0] S1x1x128x64.size inb_S1x2x256x64_S1x1x128x64_0_1_0_0).toLoadRect (harg8.unread x6)))
      (k0_pay8 (F := Ideal) (View.readAt (Elt Ideal) arg8.view (Rect.unit (s := S1x2x256x64) ![0, 1, 128, 0] S1x1x128x64.size inb_S1x2x256x64_S1x1x128x64_0_1_128_0).toLoadRect (harg8.unread x6)))
      (View.readAt (Elt Ideal) arg10.view (Rect.unit (s := S1x2x256x64) ![0, 1, 0, 0] S1x1x256x64.size inb_S1x2x256x64_S1x1x256x64_0_1_0_0).toLoadRect (harg10.unread x8)) (View.readAt (Elt Ideal) arg11.view (Rect.unit (s := S1x2x256x64) ![0, 1, 0, 0] S1x1x256x64.size inb_S1x2x256x64_S1x1x256x64_0_1_0_0).toLoadRect (harg11.unread x9))
      (k0_pay51 (F := Ideal) k0_pay6 ((View.readAt (Elt Ideal) arg2.view (Rect.unit (s := S8) ![4] S1.size inb_S8_S1_4).toLoadRect (harg2.unread x0)) (Shape.Idx.first (by decide))) ((View.readAt (Elt Ideal) arg2.view (Rect.unit (s := S8) ![5] S1.size inb_S8_S1_5).toLoadRect (harg2.unread x0)) (Shape.Idx.first (by decide))) ((View.readAt (Elt Ideal) arg2.view (Rect.unit (s := S8) ![6] S1.size inb_S8_S1_6).toLoadRect (harg2.unread x0)) (Shape.Idx.first (by decide))) ((View.readAt (Elt Ideal) arg2.view (Rect.unit (s := S8) ![7] S1.size inb_S8_S1_7).toLoadRect (harg2.unread x0)) (Shape.Idx.first (by decide)))) := rfl
  exact e.trans (chain_congr _ _ _ (ld_q _ _ _ 1 0 _ rfl _) (ld_n _ _ _ 1 _ rfl _) (ld_m _ _ _ 1 0 _ rfl _) (ld_m _ _ _ 1 1 _ rfl _) (ld_n _ _ _ 1 _ rfl _) (ld_m _ _ _ 1 0 _ rfl _) (ld_m _ _ _ 1 1 _ rfl _) (ld_x _ _ _ 1 _ rfl _) (ld_x _ _ _ 1 _ rfl _)
    (snk_eq x0 1 _ _ _ _ (ld_s _ _ _ 4 _ rfl _ _) (ld_s _ _ _ 5 _ rfl _ _) (ld_s _ _ _ 6 _ rfl _ _) (ld_s _ _ _ 7 _ rfl _ _)))

/-- The values of the second half of the queries, pair 0, are one chain. -/
theorem out_0_1 : kernelRun0_A.sl.r_85 c i arg2 harg2 arg3 harg3 arg5 harg5 arg6 harg6 arg8 harg8 arg9 harg9 arg10 harg10 arg11 harg11 x0 x1 x3 x4 x6 x7 x8 x9 =
    chain (kernelRun0_A.sl.v0 i) (kernelRun0_A.sl.v0 i) (kernelRun0_A.sl.v6 i) (cq x1 0 1) (km x3 0 0) (km x3 0 1) (kn x4 0) (km x6 0 0) (km x6 0 1) (kn x7 0)
      (kx x8 0) (kx x9 0) (snk x0 0) := by
  have e : kernelRun0_A.sl.r_85 c i arg2 harg2 arg3 harg3 arg5 harg5 arg6 harg6 arg8 harg8 arg9 harg9 arg10 harg10 arg11 harg11 x0 x1 x3 x4 x6 x7 x8 x9 =
    chain (kernelRun0_A.sl.v0 i) (kernelRun0_A.sl.v0 i) (kernelRun0_A.sl.v6 i)
      (k0_pay7 (F := Ideal) (View.readAt (Elt Ideal) arg3.view (Rect.unit (s := S1x8x256x64) ![0, 0, 128, 0] S1x4x128x64.size inb_S1x8x256x64_S1x4x128x64_0_0_128_0).toLoadRect (harg3.unread x1)))
      (k0_pay8 (F := Ideal) (View.readAt (Elt Ideal) arg5.view (Rect.unit (s := S1x2x256x64) ![0, 0, 0, 0] S1x1x128x64.size inb_S1x2x256x64_S1x1x128x64_0_0_0_0).toLoadRect (harg5.unread x3)))
      (k0_pay8 (F := Ideal) (View.readAt (Elt Ideal) arg5.view (Rect.unit (s := S1x2x256x64) ![0, 0, 128, 0] S1x1x128x64.size inb_S1x2x256x64_S1x1x128x64_0_0_128_0).toLoadRect (harg5.unread x3)))
      (k0_pay8 (F := Ideal) (View.readAt (Elt Ideal) arg6.view (Rect.unit (s := S1x2x128x64) ![0, 0, 0, 0] S1x1x128x64.size inb_S1x2x128x64_S1x1x128x64_0_0_0_0).toLoadRect (harg6.unread x4)))
      (k0_pay8 (F := Ideal) (View.readAt (Elt Ideal) arg8.view (Rect.unit (s := S1x2x256x64) ![0, 0, 0, 0] S1x1x128x64.size inb_S1x2x256x64_S1x1x128x64_0_0_0_0).toLoadRect (harg8.unread x6)))
      (k0_pay8 (F := Ideal) (View.readAt (Elt Ideal) arg8.view (Rect.unit (s := S1x2x256x64) ![0, 0, 128, 0] S1x1x128x64.size inb_S1x2x256x64_S1x1x128x64_0_0_128_0).toLoadRect (harg8.unread x6)))
      (k0_pay8 (F := Ideal) (View.readAt (Elt Ideal) arg9.view (Rect.unit (s := S1x2x128x64) ![0, 0, 0, 0] S1x1x128x64.size inb_S1x2x128x64_S1x1x128x64_0_0_0_0).toLoadRect (harg9.unread x7)))
      (View.readAt (Elt Ideal) arg10.view (Rect.unit (s := S1x2x256x64) ![0, 0, 0, 0] S1x1x256x64.size inb_S1x2x256x64_S1x1x256x64_0_0_0_0).toLoadRect (harg10.unread x8)) (View.readAt (Elt Ideal) arg11.view (Rect.unit (s := S1x2x256x64) ![0, 0, 0, 0] S1x1x256x64.size inb_S1x2x256x64_S1x1x256x64_0_0_0_0).toLoadRect (harg11.unread x9))
      (k0_pay51 (F := Ideal) k0_pay6 ((View.readAt (Elt Ideal) arg2.view (Rect.unit (s := S8) ![0] S1.size inb_S8_S1_0).toLoadRect (harg2.unread x0)) (Shape.Idx.first (by decide))) ((View.readAt (Elt Ideal) arg2.view (Rect.unit (s := S8) ![1] S1.size inb_S8_S1_1).toLoadRect (harg2.unread x0)) (Shape.Idx.first (by decide))) ((View.readAt (Elt Ideal) arg2.view (Rect.unit (s := S8) ![2] S1.size inb_S8_S1_2).toLoadRect (harg2.unread x0)) (Shape.Idx.first (by decide))) ((View.readAt (Elt Ideal) arg2.view (Rect.unit (s := S8) ![3] S1.size inb_S8_S1_3).toLoadRect (harg2.unread x0)) (Shape.Idx.first (by decide)))) := rfl
  exact e.trans (chain_congr _ _ _ (ld_q _ _ _ 0 1 _ rfl _) (ld_m _ _ _ 0 0 _ rfl _) (ld_m _ _ _ 0 1 _ rfl _) (ld_n _ _ _ 0 _ rfl _) (ld_m _ _ _ 0 0 _ rfl _) (ld_m _ _ _ 0 1 _ rfl _) (ld_n _ _ _ 0 _ rfl _) (ld_x _ _ _ 0 _ rfl _) (ld_x _ _ _ 0 _ rfl _)
    (snk_eq x0 0 _ _ _ _ (ld_s _ _ _ 0 _ rfl _ _) (ld_s _ _ _ 1 _ rfl _ _) (ld_s _ _ _ 2 _ rfl _ _) (ld_s _ _ _ 3 _ rfl _ _)))

/-- The values of the second half of the queries, pair 1, are one chain. -/
theorem out_1_1 : kernelRun0_A.sl.r_86 c i arg2 harg2 arg3 harg3 arg5 harg5 arg6 harg6 arg8 harg8 arg9 harg9 arg10 harg10 arg11 harg11 x0 x1 x3 x4 x6 x7 x8 x9 =
    chain (kernelRun0_A.sl.v0 i) (kernelRun0_A.sl.v0 i) (kernelRun0_A.sl.v6 i) (cq x1 1 1) (km x3 1 0) (km x3 1 1) (kn x4 1) (km x6 1 0) (km x6 1 1) (kn x7 1)
      (kx x8 1) (kx x9 1) (snk x0 1) := by
  have e : kernelRun0_A.sl.r_86 c i arg2 harg2 arg3 harg3 arg5 harg5 arg6 harg6 arg8 harg8 arg9 harg9 arg10 harg10 arg11 harg11 x0 x1 x3 x4 x6 x7 x8 x9 =
    chain (kernelRun0_A.sl.v0 i) (kernelRun0_A.sl.v0 i) (kernelRun0_A.sl.v6 i)
      (k0_pay7 (F := Ideal) (View.readAt (Elt Ideal) arg3.view (Rect.unit (s := S1x8x256x64) ![0, 4, 128, 0] S1x4x128x64.size inb_S1x8x256x64_S1x4x128x64_0_4_128_0).toLoadRect (harg3.unread x1)))
      (k0_pay8 (F := Ideal) (View.readAt (Elt Ideal) arg5.view (Rect.unit (s := S1x2x256x64) ![0, 1, 0, 0] S1x1x128x64.size inb_S1x2x256x64_S1x1x128x64_0_1_0_0).toLoadRect (harg5.unread x3)))
      (k0_pay8 (F := Ideal) (View.readAt (Elt Ideal) arg5.view (Rect.unit (s := S1x2x256x64) ![0, 1, 128, 0] S1x1x128x64.size inb_S1x2x256x64_S1x1x128x64_0_1_128_0).toLoadRect (harg5.unread x3)))
      (k0_pay8 (F := Ideal) (View.readAt (Elt Ideal) arg6.view (Rect.unit (s := S1x2x128x64) ![0, 1, 0, 0] S1x1x128x64.size inb_S1x2x128x64_S1x1x128x64_0_1_0_0).toLoadRect (harg6.unread x4)))
      (k0_pay8 (F := Ideal) (View.readAt (Elt Ideal) arg8.view (Rect.unit (s := S1x2x256x64) ![0, 1, 0, 0] S1x1x128x64.size inb_S1x2x256x64_S1x1x128x64_0_1_0_0).toLoadRect (harg8.unread x6)))
      (k0_pay8 (F := Ideal) (View.readAt (Elt Ideal) arg8.view (Rect.unit (s := S1x2x256x64) ![0, 1, 128, 0] S1x1x128x64.size inb_S1x2x256x64_S1x1x128x64_0_1_128_0).toLoadRect (harg8.unread x6)))
      (k0_pay8 (F := Ideal) (View.readAt (Elt Ideal) arg9.view (Rect.unit (s := S1x2x128x64) ![0, 1, 0, 0] S1x1x128x64.size inb_S1x2x128x64_S1x1x128x64_0_1_0_0).toLoadRect (harg9.unread x7)))
      (View.readAt (Elt Ideal) arg10.view (Rect.unit (s := S1x2x256x64) ![0, 1, 0, 0] S1x1x256x64.size inb_S1x2x256x64_S1x1x256x64_0_1_0_0).toLoadRect (harg10.unread x8)) (View.readAt (Elt Ideal) arg11.view (Rect.unit (s := S1x2x256x64) ![0, 1, 0, 0] S1x1x256x64.size inb_S1x2x256x64_S1x1x256x64_0_1_0_0).toLoadRect (harg11.unread x9))
      (k0_pay51 (F := Ideal) k0_pay6 ((View.readAt (Elt Ideal) arg2.view (Rect.unit (s := S8) ![4] S1.size inb_S8_S1_4).toLoadRect (harg2.unread x0)) (Shape.Idx.first (by decide))) ((View.readAt (Elt Ideal) arg2.view (Rect.unit (s := S8) ![5] S1.size inb_S8_S1_5).toLoadRect (harg2.unread x0)) (Shape.Idx.first (by decide))) ((View.readAt (Elt Ideal) arg2.view (Rect.unit (s := S8) ![6] S1.size inb_S8_S1_6).toLoadRect (harg2.unread x0)) (Shape.Idx.first (by decide))) ((View.readAt (Elt Ideal) arg2.view (Rect.unit (s := S8) ![7] S1.size inb_S8_S1_7).toLoadRect (harg2.unread x0)) (Shape.Idx.first (by decide)))) := rfl
  exact e.trans (chain_congr _ _ _ (ld_q _ _ _ 1 1 _ rfl _) (ld_m _ _ _ 1 0 _ rfl _) (ld_m _ _ _ 1 1 _ rfl _) (ld_n _ _ _ 1 _ rfl _) (ld_m _ _ _ 1 0 _ rfl _) (ld_m _ _ _ 1 1 _ rfl _) (ld_n _ _ _ 1 _ rfl _) (ld_x _ _ _ 1 _ rfl _) (ld_x _ _ _ 1 _ rfl _)
    (snk_eq x0 1 _ _ _ _ (ld_s _ _ _ 4 _ rfl _ _) (ld_s _ _ _ 5 _ rfl _ _) (ld_s _ _ _ 6 _ rfl _ _) (ld_s _ _ _ 7 _ rfl _ _)))

end

end Cert.Proof.At
end
-- ==== Proof.At.Row.lean ====
module

public import proofs.«01_k».proof.Proof.At.Softmax

@[expose] public section

noncomputable section

namespace Cert.Proof.At

open Idealize.ShloMosaic

/-- An exponential is not negative. -/
theorem exp_nonneg (x : EReal) : 0 ≤ Ideal.exp x := by
  induction x with
  | bot => exact le_rfl
  | top => rw [Ideal.exp_top]; exact le_top
  | coe x => rw [Ideal.exp_coe]; exact EReal.coe_nonneg.2 (Real.exp_pos x).le

/-- The exponential of a real less a real is positive. -/
theorem exp_pos {a M : EReal} (ha : a ≠ ⊥) (ha' : a ≠ ⊤) (hM : M ≠ ⊤) (hM' : M ≠ ⊥) : 0 < Ideal.exp (a - M) := by
  lift a to ℝ using ⟨ha', ha⟩
  lift M to ℝ using ⟨hM, hM'⟩
  rw [← EReal.coe_sub, Ideal.exp_coe]
  exact EReal.coe_pos.2 (Real.exp_pos _)

/-- The inverse of a positive value is not negative and not +∞. -/
theorem inv_good {D : EReal} (h : 0 < D) : 0 ≤ D⁻¹ ∧ D⁻¹ ≠ ⊤ := by
  induction D with
  | bot => simp at h
  | top => rw [EReal.inv_top]; simp
  | coe x =>
    rw [← EReal.coe_inv]
    exact ⟨EReal.coe_nonneg.2 (inv_nonneg.2 (EReal.coe_pos.1 h).le), EReal.coe_ne_top _⟩

/-- A non-negative finite factor comes out of a sum. -/
theorem sum_mul_good {ι : Type} (s : Finset ι) (f : ι → EReal) {c : EReal} (h : 0 ≤ c ∧ c ≠ ⊤) :
    ∑ i ∈ s, f i * c = (∑ i ∈ s, f i) * c := by
  classical
  induction s using Finset.induction_on with
  | empty => simp
  | insert i s hi ih => rw [Finset.sum_insert hi, Finset.sum_insert hi, ih, EReal.right_distrib_of_nonneg_of_ne_top h.1 h.2]

/-- A sum of products of reals is not +∞. -/
theorem sum_ne_top {ι : Type} (s : Finset ι) (f g : ι → EReal) (hf : ∀ i, f i ≠ ⊤ ∧ f i ≠ ⊥) (hg : ∀ i, g i ≠ ⊤ ∧ g i ≠ ⊥) :
    ∑ i ∈ s, f i * g i ≠ ⊤ := by
  have hx : ∀ i, ∃ x : ℝ, f i * g i = x := fun i => by
    have a := hf i; have b := hg i
    generalize f i = u at *; generalize g i = w at *
    lift u to ℝ using a
    lift w to ℝ using b
    exact ⟨u * w, (EReal.coe_mul u w).symm⟩
  choose x hx using hx
  classical
  suffices ∃ y : ℝ, ∑ i ∈ s, f i * g i = y by obtain ⟨y, hy⟩ := this; rw [hy]; exact EReal.coe_ne_top y
  induction s using Finset.induction_on with
  | empty => exact ⟨0, by simp⟩
  | insert i s hi ih =>
    obtain ⟨y, hy⟩ := ih
    exact ⟨x i + y, by rw [Finset.sum_insert hi, hy, hx, EReal.coe_add]⟩

/-- The maximum is not +∞ when no score and not the sink logit is. -/
theorem top_ne_top (S : ℕ → EReal) (a : EReal) (hS : ∀ k, S k ≠ ⊤) (ha : a ≠ ⊤) : top S a ≠ ⊤ := by
  unfold top
  rw [← lt_top_iff_ne_top, max_lt_iff, Finset.fold_max_lt]
  exact ⟨⟨bot_lt_top, fun k _ => lt_top_iff_ne_top.2 (hS k)⟩, lt_top_iff_ne_top.2 ha⟩

/-- A sum over all keys whose terms vanish from `n` on is the sum over the first `n`. -/
theorem sum_first (f : ℕ → EReal) (n : ℕ) (hn : n ≤ 4352) (h : ∀ k, n ≤ k → k < 4352 → f k = 0) :
    ∑ k : Fin 4352, f k = ∑ k : Fin n, f k := by
  rw [Fin.sum_univ_eq_sum_range f 4352, Fin.sum_univ_eq_sum_range f n, ← Finset.sum_range_add_sum_Ico f hn,
    Finset.sum_eq_zero (s := Finset.Ico n 4352) (fun k hk => by rw [Finset.mem_Ico] at hk; exact h k hk.1 hk.2), add_zero]

section Row
variable (n : ℕ) (hn : n ≤ 4352) (S V : ℕ → EReal) (a : EReal) (hS : ∀ k, n ≤ k → k < 4352 → S k = ⊥)
  (c : Fin (n + 1) → EReal) (hc : ∀ k : Fin n, c k.castSucc = S k) (hl : c (Fin.last n) = a)
include hn hS hc hl

/-- The maximum over `n` scores and the sink logit, the other scores being −∞. -/
theorem row_top : max ⊥ ((Finset.univ : Finset (Fin (n + 1))).fold max ⊥ c) = top S a := by
  refine eq_of_forall_ge_iff fun x => ?_
  rw [top_le_iff, max_le_iff, Finset.fold_max_le]
  simp only [bot_le, true_and, Finset.mem_univ, forall_const]
  constructor
  · intro h
    refine ⟨fun k hk => ?_, hl ▸ h (Fin.last n)⟩
    by_cases hkn : k < n
    · have := h (Fin.castSucc ⟨k, hkn⟩); rwa [hc] at this
    · rw [hS k (by omega) hk]; exact bot_le
  · rintro ⟨h, h2⟩ k
    refine Fin.lastCases ?_ (fun k => ?_) k
    · rw [hl]; exact h2
    · rw [hc]; exact h k (by have := k.isLt; omega)

/-- The denominator over `n` scores and the sink logit, the other scores being −∞. -/
theorem row_den : ∑ x : Fin (n + 1), Ideal.exp (c x - top S a) = den S a := by
  rw [Fin.sum_univ_castSucc, hl]
  unfold den
  rw [sum_first (fun k => Ideal.exp (S k - top S a)) n hn fun k h1 h2 => by rw [hS k h1 h2, exp_bot_sub]]
  simp only [hc]

/-- The values weighted by the normalised exponentials of `n` scores add up to the attention's value, the sink logit
    and the maximum being finite. -/
theorem row_soft (ha : a ≠ ⊥) (ht : top S a ≠ ⊤) :
    ∑ x : Fin n, V x * Ideal.div (Ideal.exp (c x.castSucc - top S a)) (den S a) = soft S V a := by
  have hle : a ≤ top S a := by unfold top; exact le_max_right _ _
  have ha' : a ≠ ⊤ := fun h => ht (_root_.top_le_iff.1 (h ▸ hle))
  have hb : top S a ≠ ⊥ := fun h => ha (le_bot_iff.1 (h ▸ hle))
  have hD : 0 < den S a := by
    unfold den
    exact lt_of_lt_of_le (exp_pos ha ha' ht hb) (le_add_of_nonneg_left (Finset.sum_nonneg fun _ _ => exp_nonneg _))
  have hdiv : ∀ x, Ideal.div x (den S a) = x * (den S a)⁻¹ := fun x => by unfold Ideal.div; rw [if_neg hD.ne']
  unfold soft
  rw [hdiv, sum_first (fun k => Ideal.exp (S k - top S a) * V k) n hn fun k h1 h2 => by rw [hS k h1 h2, exp_bot_sub, zero_mul],
    ← sum_mul_good _ _ (inv_good hD)]
  refine Finset.sum_congr rfl fun x _ => ?_
  rw [hdiv, hc]
  ac_rfl

end Row

end Cert.Proof.At
end
-- ==== Proof.At.Value.lean ====
module

public import proofs.«01_k».proof.Proof.At.Row
public import Idealize.ShloMosaic.Lib.WordCmp

@[expose] public section

set_option maxRecDepth 16384

noncomputable section

namespace Cert.Proof.At

open Idealize.ShloMosaic

/-- A float array of the given extents. -/
abbrev A1 := FVec Ideal ⟨1, ![8]⟩ .f32
/-- The queries' array. -/
abbrev A8 := FVec Ideal ⟨4, ![8, 8, 4352, 64]⟩ .bf16
/-- The keys' and the values' arrays. -/
abbrev A2 := FVec Ideal ⟨4, ![8, 2, 4352, 64]⟩ .bf16

/-- The score of row `t` of head `4·h + g` against key `u`. -/
def score (q : A8) (k : A2) (b : Fin 8) (h : Fin 2) (g : Fin 4) (t : Fin 4352) (u : ℕ) : EReal :=
  if hu : u < 4352 then ∑ x : Fin 64, q (ix4 b ⟨h * 4 + g, by omega⟩ t x) * k (ix4 b h ⟨u, hu⟩ x) else 0

/-- Column `d` of the value at key `u`. -/
def val (v : A2) (b : Fin 8) (h : Fin 2) (d : Fin 64) (u : ℕ) : EReal := if hu : u < 4352 then v (ix4 b h ⟨u, hu⟩ d) else 0

/-- The attention's result at batch `b`, head `4·h + g`, row `t`, column `d`. -/
def attn (s : A1) (q : A8) (k v : A2) (b : Fin 8) (h : Fin 2) (g : Fin 4) (t : Fin 4352) (d : Fin 64) : EReal :=
  soft (masked (score q k b h g t) t) (val v b h d) (s (ix1 ⟨h * 4 + g, by omega⟩))

/-- Neither infinity. -/
def Fin' (x : EReal) : Prop := x ≠ ⊤ ∧ x ≠ ⊥

/-- The score of finite queries and keys is not +∞. -/
theorem score_ne_top (q : A8) (k : A2) (hq : ∀ i, Fin' (q i)) (hk : ∀ i, Fin' (k i)) (b : Fin 8) (h : Fin 2) (g : Fin 4)
    (t : Fin 4352) (u : ℕ) : score q k b h g t u ≠ ⊤ := by
  unfold score
  split
  · exact sum_ne_top _ _ _ (fun _ => hq _) (fun _ => hk _)
  · exact EReal.zero_ne_top

/-- The masked score is not +∞ when the score is not. -/
theorem masked_ne_top (sc : ℕ → EReal) (h : ∀ u, sc u ≠ ⊤) (T u : ℕ) : masked sc T u ≠ ⊤ := by
  unfold masked
  split
  · exact h u
  · exact bot_ne_top

/-- The mask's comparison on words: the two numbers are at most 128 apart. -/
theorem near_iff (x y : ℕ) (hx : x < 4096) (hy : y < 4096) :
    IntOp.cmpi CmpIPredicate.sle (IntOp.absi (IntOp.subi (BitVec.ofNat 32 x) (BitVec.ofNat 32 y))) 128#32 = 1#1
      ↔ x ≤ y + 128 ∧ y ≤ x + 128 := by
  have e : IntOp.absi (IntOp.subi (BitVec.ofNat 32 x) (BitVec.ofNat 32 y)) = BitVec.ofNat 32 (if y ≤ x then x - y else y - x) := by
    apply BitVec.eq_of_toNat_eq
    unfold IntOp.absi IntOp.subi
    rw [BitVec.msb_eq_decide]
    by_cases h : y ≤ x
    · rw [if_pos h, if_neg (by simp only [BitVec.toNat_sub, BitVec.toNat_ofNat, decide_eq_true_eq]; omega)]
      simp only [BitVec.toNat_sub, BitVec.toNat_ofNat]; omega
    · rw [if_neg h, if_pos (by simp only [BitVec.toNat_sub, BitVec.toNat_ofNat, decide_eq_true_eq]; omega)]
      simp only [BitVec.toNat_neg, BitVec.toNat_sub, BitVec.toNat_ofNat]; omega
  rw [e]
  have hb : (if y ≤ x then x - y else y - x) < 4096 := by split <;> omega
  have hi : (if y ≤ x then x - y else y - x) ≤ 128 ↔ x ≤ y + 128 ∧ y ≤ x + 128 := by split <;> omega
  rw [← hi]
  generalize (if y ≤ x then x - y else y - x) = z at hb
  word_cmp

end Cert.Proof.At
end
-- ==== Proof.At.Tile.lean ====
module

public import proofs.«01_k».proof.Proof.At.Body
public import proofs.«01_k».proof.Proof.At.Value

@[expose] public section

set_option maxRecDepth 16384

noncomputable section

namespace Cert.Proof.At

open Cert.KernelIdeal Cert.KernelIdeal.Gen Idealize.ShloMosaic Idealize.ShloMosaic.TcCoe Idealize.SL.Sem

/-- A finite sum of products of a row of queries with a key inside the array is the score. -/
theorem score_sum (q : A8) (k : A2) (b : Fin 8) (h : Fin 2) (g : Fin 4) (t : Fin 4352) (n : ℕ) (u : Fin 4352) (hn : u.val = n)
    (f f' : Fin 64 → EReal) (hf : ∀ x, f x = q (ix4 b ⟨h * 4 + g, by omega⟩ t x)) (hf' : ∀ x, f' x = k (ix4 b h u x)) :
    ∑ x, f x * f' x = score q k b h g t n := by
  subst hn
  unfold score
  rw [dif_pos u.isLt]
  exact Finset.sum_congr rfl fun x _ => by rw [hf, hf']

/-- The value at a key inside the array. -/
theorem val_at (v : A2) (b : Fin 8) (h : Fin 2) (d : Fin 64) (n : ℕ) (u : Fin 4352) (hn : u.val = n) : val v b h d n = v (ix4 b h u d) := by
  subst hn
  unfold val
  rw [dif_pos u.isLt]

/-- A chain whose blocks are the arrays' blocks around query block `Q` computes the attention of those rows. -/
theorem chain_attn (s : A1) (q : A8) (k v : A2) (b : Fin 8) (h : Fin 2) (Q : ℕ) (hQ : Q < 34)
    (bp bc bn : BitVec 1) (hbp : bp = 1#1 ↔ 3 ≤ Q) (hbc : bc = 1#1 ↔ 2 ≤ Q) (hbn : bn = 1#1 ↔ 2 ≤ Q ∧ Q ≤ 32)
    (q' : FVec Ideal S512x64 .bf16) (kp kc kn vp vc vn : FVec Ideal S128x64 .bf16) (kx vx : Vec Ideal S1x1x256x64 .bf16) (s' : FVec Ideal S512x1 .f32)
    (hq : ∀ (g : Fin 4) (r : Fin 128) x (u : Fin 4352), u.val = 128 * Q + r → q' (ix2 ⟨128 * g + r, by omega⟩ x) = q (ix4 b ⟨h * 4 + g, by omega⟩ u x))
    (hkp : 3 ≤ Q → ∀ t x (u : Fin 4352), u.val = 128 * (Q - 1) + t.val → kp (ix2 t x) = k (ix4 b h u x))
    (hvp : 3 ≤ Q → ∀ t x (u : Fin 4352), u.val = 128 * (Q - 1) + t.val → vp (ix2 t x) = v (ix4 b h u x))
    (hkc : ∀ t x (u : Fin 4352), u.val = 128 * Q + t.val → kc (ix2 t x) = k (ix4 b h u x))
    (hvc : ∀ t x (u : Fin 4352), u.val = 128 * Q + t.val → vc (ix2 t x) = v (ix4 b h u x))
    (hkn : Q ≤ 32 → ∀ t x (u : Fin 4352), u.val = 128 * (Q + 1) + t.val → kn (ix2 t x) = k (ix4 b h u x))
    (hvn : Q ≤ 32 → ∀ t x (u : Fin 4352), u.val = 128 * (Q + 1) + t.val → vn (ix2 t x) = v (ix4 b h u x))
    (hkx : ∀ t x (u : Fin 4352), u.val = t.val → kx (ix4 0 0 t x) = k (ix4 b h u x))
    (hvx : ∀ t x (u : Fin 4352), u.val = t.val → vx (ix4 0 0 t x) = v (ix4 b h u x))
    (hs : ∀ (g : Fin 4) (r : Fin 128), s' (ix2 ⟨128 * g + r, by omega⟩ 0) = s (ix1 ⟨h * 4 + g, by omega⟩))
    (g : Fin 4) (r : Fin 128) (d : Fin 64) (u : Fin 4352) (hu : u.val = 128 * Q + r) :
    chain bp bc bn q' kp kc kn vp vc vn kx vx s' (ix2 ⟨128 * g + r, by omega⟩ d) = attn s q k v b h g u d := by
  have hm : 128 * Q + (128 * g.val + r.val) % 128 = u.val := by omega
  refine (chain_apply bp bc bn q' kp kc kn vp vc vn kx vx s' Q hQ ⟨128 * g + r, by omega⟩ d (score q k b h g u) (val v b h d)
    hbp hbc hbn ?_ ?_ ?_ ?_).trans ?_
  · intro h3 t
    have hb : 128 * (Q - 1) + t.val < 4352 := by omega
    exact ⟨score_sum q k b h g u _ ⟨_, hb⟩ rfl _ _ (fun x => hq g r x u hu) (fun x => hkp h3 t x _ rfl),
      (hvp h3 t d ⟨_, hb⟩ rfl).trans (val_at v b h d _ ⟨_, hb⟩ rfl).symm⟩
  · intro h3 t
    have hb : 128 * Q + t.val < 4352 := by omega
    exact ⟨score_sum q k b h g u _ ⟨_, hb⟩ rfl _ _ (fun x => hq g r x u hu) (fun x => hkc t x _ rfl),
      (hvc t d ⟨_, hb⟩ rfl).trans (val_at v b h d _ ⟨_, hb⟩ rfl).symm⟩
  · intro h2 h3 t
    have hb : 128 * (Q + 1) + t.val < 4352 := by omega
    exact ⟨score_sum q k b h g u _ ⟨_, hb⟩ rfl _ _ (fun x => hq g r x u hu) (fun x => hkn h3 t x _ rfl),
      (hvn h3 t d ⟨_, hb⟩ rfl).trans (val_at v b h d _ ⟨_, hb⟩ rfl).symm⟩
  · intro t
    have hb : t.val < 4352 := by omega
    exact ⟨score_sum q k b h g u _ ⟨_, hb⟩ rfl _ _ (fun x => hq g r x u hu) (fun x => hkx t x _ rfl),
      (hvx t d ⟨_, hb⟩ rfl).trans (val_at v b h d _ ⟨_, hb⟩ rfl).symm⟩
  · unfold attn
    rw [hs g r]
    exact congrArg (fun z => soft (masked (score q k b h g u) z) _ _) hm

/-- The words the body computes from the second grid coordinate, as conditions on it. -/
theorem v0_iff (i : grid0.Coords) : kernelRun0_A.sl.v0 i = 1#1 ↔ 1 ≤ (i 1).val := by
  have := (i 1).isLt
  have hlt : (i 1).val < 17 := this
  unfold kernelRun0_A.sl.v0
  show IntOp.cmpi _ (BitVec.ofNat 32 (i 1).val) 1#32 = 1#1 ↔ _
  generalize (i 1).val = j at hlt
  revert j; decide +kernel

theorem v3_iff (i : grid0.Coords) : kernelRun0_A.sl.v3 i = 1#1 ↔ 2 ≤ (i 1).val := by
  have hlt : (i 1).val < 17 := (i 1).isLt
  unfold kernelRun0_A.sl.v3 kernelRun0_A.sl.v2 kernelRun0_A.sl.v1 kernelRun0_A.sl.v0
  generalize (i 1).val = j at hlt
  revert j; decide +kernel

theorem v6_iff (i : grid0.Coords) : kernelRun0_A.sl.v6 i = 1#1 ↔ 1 ≤ (i 1).val ∧ (i 1).val ≤ 15 := by
  have hlt : (i 1).val < 17 := (i 1).isLt
  unfold kernelRun0_A.sl.v6 kernelRun0_A.sl.v5 kernelRun0_A.sl.v4 kernelRun0_A.sl.v0
  generalize (i 1).val = j at hlt
  revert j; decide +kernel

/-- The ten input blocks at batch `b` and second grid coordinate `j`: the arrays' blocks around query rows `256·j …`, a
    neighbour's block where there is one. -/
structure IsBlk (s : A1) (q : A8) (k v : A2) (b : Fin 8) (j : ℕ) (x0 : Vec Ideal S8 .f32) (x1 : Vec Ideal S1x8x256x64 .bf16)
    (x2 : Vec Ideal S1x2x128x64 .bf16) (x3 : Vec Ideal S1x2x256x64 .bf16) (x4 x5 : Vec Ideal S1x2x128x64 .bf16) (x6 : Vec Ideal S1x2x256x64 .bf16)
    (x7 : Vec Ideal S1x2x128x64 .bf16) (x8 x9 : Vec Ideal S1x2x256x64 .bf16) : Prop where
  h0 : ∀ a, x0 (ix1 a) = s (ix1 a)
  h1 : ∀ a r x (u : Fin 4352), u.val = 256 * j + r.val → x1 (ix4 0 a r x) = q (ix4 b a u x)
  h2 : 1 ≤ j → ∀ h t x (u : Fin 4352), u.val = 128 * (2 * j - 1) + t.val → x2 (ix4 0 h t x) = k (ix4 b h u x)
  h3 : ∀ h t x (u : Fin 4352), u.val = 256 * j + t.val → x3 (ix4 0 h t x) = k (ix4 b h u x)
  h4 : j ≤ 15 → ∀ h t x (u : Fin 4352), u.val = 128 * (2 * j + 2) + t.val → x4 (ix4 0 h t x) = k (ix4 b h u x)
  h5 : 1 ≤ j → ∀ h t x (u : Fin 4352), u.val = 128 * (2 * j - 1) + t.val → x5 (ix4 0 h t x) = v (ix4 b h u x)
  h6 : ∀ h t x (u : Fin 4352), u.val = 256 * j + t.val → x6 (ix4 0 h t x) = v (ix4 b h u x)
  h7 : j ≤ 15 → ∀ h t x (u : Fin 4352), u.val = 128 * (2 * j + 2) + t.val → x7 (ix4 0 h t x) = v (ix4 b h u x)
  h8 : ∀ h t x (u : Fin 4352), u.val = t.val → x8 (ix4 0 h t x) = k (ix4 b h u x)
  h9 : ∀ h t x (u : Fin 4352), u.val = t.val → x9 (ix4 0 h t x) = v (ix4 b h u x)

/-- The queries' rows and the sink logits of a pair. -/
theorem cq_at (x : Vec Ideal S1x8x256x64 .bf16) (q : A8) (b : Fin 8) (j : ℕ)
    (hx : ∀ a r x' (u : Fin 4352), u.val = 256 * j + r.val → x (ix4 0 a r x') = q (ix4 b a u x')) (h cc : Fin 2) (g : Fin 4) (r : Fin 128) (x' : Fin 64)
    (u : Fin 4352) (hu : u.val = 128 * (2 * j + cc) + r) :
    cq x h cc (ix2 ⟨128 * g + r, by omega⟩ x') = q (ix4 b ⟨h * 4 + g, by omega⟩ u x') := by
  have e : cq x h cc (ix2 ⟨128 * g + r, by omega⟩ x') = x (ix4 0 ⟨h * 4 + g, by omega⟩ ⟨128 * cc + r, by omega⟩ x') := by
    have e0 : (⟨4 * h.val + (128 * g.val + r.val) / 128, by omega⟩ : Fin 8) = ⟨h * 4 + g, by omega⟩ := Fin.ext (by simp only; omega)
    have e1 : (⟨128 * cc.val + (128 * g.val + r.val) % 128, by omega⟩ : Fin 256) = ⟨128 * cc + r, by omega⟩ := Fin.ext (by simp only; omega)
    rw [← e0, ← e1]; rfl
  exact e.trans (hx _ _ x' u (by show _ = 256 * j + (128 * cc.val + r.val); omega))

theorem snk_at (x : Vec Ideal S8 .f32) (s : A1) (hx : ∀ a, x (ix1 a) = s (ix1 a)) (h : Fin 2) (g : Fin 4) (r : Fin 128) :
    snk x h (ix2 ⟨128 * g + r, by omega⟩ 0) = s (ix1 ⟨h * 4 + g, by omega⟩) := by
  have e0 : (⟨4 * h.val + (128 * g.val + r.val) / 128, by omega⟩ : Fin 8) = ⟨h * 4 + g, by omega⟩ := Fin.ext (by simp only; omega)
  rw [← hx, ← e0]; rfl

section
variable (c : Dev nD) (i : grid0.Coords)
  (arg2 : Memref sig .tc .smem S8 .f32) (harg2 : arg2.IsWhole)
  (arg3 : Memref sig .tc .vmem S1x8x256x64 .bf16) (harg3 : arg3.IsWhole)
  (arg4 : Memref sig .tc .vmem S1x2x128x64 .bf16) (harg4 : arg4.IsWhole)
  (arg5 : Memref sig .tc .vmem S1x2x256x64 .bf16) (harg5 : arg5.IsWhole)
  (arg6 : Memref sig .tc .vmem S1x2x128x64 .bf16) (harg6 : arg6.IsWhole)
  (arg7 : Memref sig .tc .vmem S1x2x128x64 .bf16) (harg7 : arg7.IsWhole)
  (arg8 : Memref sig .tc .vmem S1x2x256x64 .bf16) (harg8 : arg8.IsWhole)
  (arg9 : Memref sig .tc .vmem S1x2x128x64 .bf16) (harg9 : arg9.IsWhole)
  (arg10 : Memref sig .tc .vmem S1x2x256x64 .bf16) (harg10 : arg10.IsWhole)
  (arg11 : Memref sig .tc .vmem S1x2x256x64 .bf16) (harg11 : arg11.IsWhole)
  (arg12 : Memref sig .tc .vmem S1x256x512 .bf16) (harg12 : arg12.IsWhole)
  (x0 : Vec Ideal S8 .f32)
  (x1 : Vec Ideal S1x8x256x64 .bf16)
  (x2 : Vec Ideal S1x2x128x64 .bf16)
  (x3 : Vec Ideal S1x2x256x64 .bf16)
  (x4 : Vec Ideal S1x2x128x64 .bf16)
  (x5 : Vec Ideal S1x2x128x64 .bf16)
  (x6 : Vec Ideal S1x2x256x64 .bf16)
  (x7 : Vec Ideal S1x2x128x64 .bf16)
  (x8 : Vec Ideal S1x2x256x64 .bf16)
  (x9 : Vec Ideal S1x2x256x64 .bf16)

/-- The first half of the output block is the first store's payload. -/
theorem out_lo (r : Fin 128) (n : Fin 512) :
    out0_A_10 c i arg2 harg2 arg3 harg3 arg4 harg4 arg5 harg5 arg6 harg6 arg7 harg7 arg8 harg8 arg9 harg9 arg10 harg10 arg11 harg11 arg12 harg12
        x0 x1 x2 x3 x4 x5 x6 x7 x8 x9 (ix3 0 ⟨r, by omega⟩ n)
      = k0_pay2 (F := Ideal) (kernelRun0_A.sl.r_81 c i arg2 harg2 arg3 harg3 arg4 harg4 arg5 harg5 arg7 harg7 arg8 harg8 arg10 harg10 arg11 harg11 x0 x1 x2 x3 x5 x6 x8 x9)
          (kernelRun0_A.sl.r_84 c i arg2 harg2 arg3 harg3 arg4 harg4 arg5 harg5 arg7 harg7 arg8 harg8 arg10 harg10 arg11 harg11 x0 x1 x2 x3 x5 x6 x8 x9) (ix3 0 r n) := by
  unfold out0_A_10 kernelRun0_A
  dsimp only
  refine (View.read_writes_cons_unit_of_not_mem (off' := ![0, 128, 0]) VO0_10 _ _ _ _ _ rfl (1 : Fin 3) (Or.inl (show r.val < 128 from r.isLt))).trans ?_
  exact (View.read_writes_cons_unit_of_mem (off' := ![0, 0, 0]) VO0_10 _ _ _ _ _ (ix3 0 r n) rfl (by intro a; fin_cases a <;> simp [ix3])).trans rfl

/-- The second half of the output block is the second store's payload. -/
theorem out_hi (r : Fin 128) (n : Fin 512) :
    out0_A_10 c i arg2 harg2 arg3 harg3 arg4 harg4 arg5 harg5 arg6 harg6 arg7 harg7 arg8 harg8 arg9 harg9 arg10 harg10 arg11 harg11 arg12 harg12
        x0 x1 x2 x3 x4 x5 x6 x7 x8 x9 (ix3 0 ⟨128 + r, by omega⟩ n)
      = k0_pay2 (F := Ideal) (kernelRun0_A.sl.r_85 c i arg2 harg2 arg3 harg3 arg5 harg5 arg6 harg6 arg8 harg8 arg9 harg9 arg10 harg10 arg11 harg11 x0 x1 x3 x4 x6 x7 x8 x9)
          (kernelRun0_A.sl.r_86 c i arg2 harg2 arg3 harg3 arg5 harg5 arg6 harg6 arg8 harg8 arg9 harg9 arg10 harg10 arg11 harg11 x0 x1 x3 x4 x6 x7 x8 x9) (ix3 0 r n) := by
  unfold out0_A_10 kernelRun0_A
  dsimp only
  exact View.read_writes_cons_unit_of_mem (off' := ![0, 128, 0]) VO0_10 _ _ _ _ _ (ix3 0 r n) rfl (by intro a; fin_cases a <;> simp [ix3])

section
variable (s : A1) (q : A8) (k v : A2) (b : Fin 8) (j : ℕ) (hj : j < 17) (hi : (i 1).val = j)
  (H : IsBlk s q k v b j x0 x1 x2 x3 x4 x5 x6 x7 x8 x9)
include hj hi H

/-- Half 0 of the output block, pair 0, holds the attention of its rows. -/
theorem tile_0_0 (g : Fin 4) (r : Fin 128) (d : Fin 64) (u : Fin 4352) (hu : u.val = 128 * (2 * j + 0) + r.val) :
    out0_A_10 c i arg2 harg2 arg3 harg3 arg4 harg4 arg5 harg5 arg6 harg6 arg7 harg7 arg8 harg8 arg9 harg9 arg10 harg10 arg11 harg11 arg12 harg12
        x0 x1 x2 x3 x4 x5 x6 x7 x8 x9 (ix3 0 ⟨r, by omega⟩ ⟨64 * g + d, by omega⟩)
      = attn s q k v b 0 g u d := by
  refine (out_lo c i arg2 harg2 arg3 harg3 arg4 harg4 arg5 harg5 arg6 harg6 arg7 harg7 arg8 harg8 arg9 harg9 arg10 harg10 arg11 harg11 arg12 harg12 x0 x1 x2 x3 x4 x5 x6 x7 x8 x9 r ⟨64 * g + d, by omega⟩).trans ?_
  refine (pay2_apply0 _ _ r g d).trans ?_
  rw [out_0_0 c i arg2 harg2 arg3 harg3 arg4 harg4 arg5 harg5 arg7 harg7 arg8 harg8 arg10 harg10 arg11 harg11 x0 x1 x2 x3 x5 x6 x8 x9]
  exact chain_attn s q k v b 0 (2 * j + 0) (by omega) _ _ _
      (by rw [v3_iff, hi]; omega)
      (by rw [v0_iff, hi]; omega)
      (by rw [v0_iff, hi]; omega) _ _ _ _ _ _ _ _ _ _
    (fun g r x u hu => cq_at x1 q b j H.h1 0 0 g r x u hu)
    (fun _ t x u hu => H.h2 (by omega) 0 t x u (by omega))
    (fun _ t x u hu => H.h5 (by omega) 0 t x u (by omega))
    (fun t x u hu => H.h3 0 _ x u (show u.val = 256 * j + (128 * 0 + t.val) by omega))
    (fun t x u hu => H.h6 0 _ x u (show u.val = 256 * j + (128 * 0 + t.val) by omega))
    (fun _ t x u hu => H.h3 0 _ x u (show u.val = 256 * j + (128 * 1 + t.val) by omega))
    (fun _ t x u hu => H.h6 0 _ x u (show u.val = 256 * j + (128 * 1 + t.val) by omega))
    (fun t x u hu => H.h8 0 t x u hu) (fun t x u hu => H.h9 0 t x u hu)
    (fun g r => snk_at x0 s H.h0 0 g r) g r d u hu

/-- Half 0 of the output block, pair 1, holds the attention of its rows. -/
theorem tile_1_0 (g : Fin 4) (r : Fin 128) (d : Fin 64) (u : Fin 4352) (hu : u.val = 128 * (2 * j + 0) + r.val) :
    out0_A_10 c i arg2 harg2 arg3 harg3 arg4 harg4 arg5 harg5 arg6 harg6 arg7 harg7 arg8 harg8 arg9 harg9 arg10 harg10 arg11 harg11 arg12 harg12
        x0 x1 x2 x3 x4 x5 x6 x7 x8 x9 (ix3 0 ⟨r, by omega⟩ ⟨256 + 64 * g + d, by omega⟩)
      = attn s q k v b 1 g u d := by
  refine (out_lo c i arg2 harg2 arg3 harg3 arg4 harg4 arg5 harg5 arg6 harg6 arg7 harg7 arg8 harg8 arg9 harg9 arg10 harg10 arg11 harg11 arg12 harg12 x0 x1 x2 x3 x4 x5 x6 x7 x8 x9 r ⟨256 + 64 * g + d, by omega⟩).trans ?_
  refine (pay2_apply1 _ _ r g d).trans ?_
  rw [out_1_0 c i arg2 harg2 arg3 harg3 arg4 harg4 arg5 harg5 arg7 harg7 arg8 harg8 arg10 harg10 arg11 harg11 x0 x1 x2 x3 x5 x6 x8 x9]
  exact chain_attn s q k v b 1 (2 * j + 0) (by omega) _ _ _
      (by rw [v3_iff, hi]; omega)
      (by rw [v0_iff, hi]; omega)
      (by rw [v0_iff, hi]; omega) _ _ _ _ _ _ _ _ _ _
    (fun g r x u hu => cq_at x1 q b j H.h1 1 0 g r x u hu)
    (fun _ t x u hu => H.h2 (by omega) 1 t x u (by omega))
    (fun _ t x u hu => H.h5 (by omega) 1 t x u (by omega))
    (fun t x u hu => H.h3 1 _ x u (show u.val = 256 * j + (128 * 0 + t.val) by omega))
    (fun t x u hu => H.h6 1 _ x u (show u.val = 256 * j + (128 * 0 + t.val) by omega))
    (fun _ t x u hu => H.h3 1 _ x u (show u.val = 256 * j + (128 * 1 + t.val) by omega))
    (fun _ t x u hu => H.h6 1 _ x u (show u.val = 256 * j + (128 * 1 + t.val) by omega))
    (fun t x u hu => H.h8 1 t x u hu) (fun t x u hu => H.h9 1 t x u hu)
    (fun g r => snk_at x0 s H.h0 1 g r) g r d u hu

/-- Half 1 of the output block, pair 0, holds the attention of its rows. -/
theorem tile_0_1 (g : Fin 4) (r : Fin 128) (d : Fin 64) (u : Fin 4352) (hu : u.val = 128 * (2 * j + 1) + r.val) :
    out0_A_10 c i arg2 harg2 arg3 harg3 arg4 harg4 arg5 harg5 arg6 harg6 arg7 harg7 arg8 harg8 arg9 harg9 arg10 harg10 arg11 harg11 arg12 harg12
        x0 x1 x2 x3 x4 x5 x6 x7 x8 x9 (ix3 0 ⟨128 + r, by omega⟩ ⟨64 * g + d, by omega⟩)
      = attn s q k v b 0 g u d := by
  refine (out_hi c i arg2 harg2 arg3 harg3 arg4 harg4 arg5 harg5 arg6 harg6 arg7 harg7 arg8 harg8 arg9 harg9 arg10 harg10 arg11 harg11 arg12 harg12 x0 x1 x2 x3 x4 x5 x6 x7 x8 x9 r ⟨64 * g + d, by omega⟩).trans ?_
  refine (pay2_apply0 _ _ r g d).trans ?_
  rw [out_0_1 c i arg2 harg2 arg3 harg3 arg5 harg5 arg6 harg6 arg8 harg8 arg9 harg9 arg10 harg10 arg11 harg11 x0 x1 x3 x4 x6 x7 x8 x9]
  exact chain_attn s q k v b 0 (2 * j + 1) (by omega) _ _ _
      (by rw [v0_iff, hi]; omega)
      (by rw [v0_iff, hi]; omega)
      (by rw [v6_iff, hi]; omega) _ _ _ _ _ _ _ _ _ _
    (fun g r x u hu => cq_at x1 q b j H.h1 0 1 g r x u hu)
    (fun _ t x u hu => H.h3 0 _ x u (show u.val = 256 * j + (128 * 0 + t.val) by omega))
    (fun _ t x u hu => H.h6 0 _ x u (show u.val = 256 * j + (128 * 0 + t.val) by omega))
    (fun t x u hu => H.h3 0 _ x u (show u.val = 256 * j + (128 * 1 + t.val) by omega))
    (fun t x u hu => H.h6 0 _ x u (show u.val = 256 * j + (128 * 1 + t.val) by omega))
    (fun _ t x u hu => H.h4 (by omega) 0 t x u (by omega))
    (fun _ t x u hu => H.h7 (by omega) 0 t x u (by omega))
    (fun t x u hu => H.h8 0 t x u hu) (fun t x u hu => H.h9 0 t x u hu)
    (fun g r => snk_at x0 s H.h0 0 g r) g r d u hu

/-- Half 1 of the output block, pair 1, holds the attention of its rows. -/
theorem tile_1_1 (g : Fin 4) (r : Fin 128) (d : Fin 64) (u : Fin 4352) (hu : u.val = 128 * (2 * j + 1) + r.val) :
    out0_A_10 c i arg2 harg2 arg3 harg3 arg4 harg4 arg5 harg5 arg6 harg6 arg7 harg7 arg8 harg8 arg9 harg9 arg10 harg10 arg11 harg11 arg12 harg12
        x0 x1 x2 x3 x4 x5 x6 x7 x8 x9 (ix3 0 ⟨128 + r, by omega⟩ ⟨256 + 64 * g + d, by omega⟩)
      = attn s q k v b 1 g u d := by
  refine (out_hi c i arg2 harg2 arg3 harg3 arg4 harg4 arg5 harg5 arg6 harg6 arg7 harg7 arg8 harg8 arg9 harg9 arg10 harg10 arg11 harg11 arg12 harg12 x0 x1 x2 x3 x4 x5 x6 x7 x8 x9 r ⟨256 + 64 * g + d, by omega⟩).trans ?_
  refine (pay2_apply1 _ _ r g d).trans ?_
  rw [out_1_1 c i arg2 harg2 arg3 harg3 arg5 harg5 arg6 harg6 arg8 harg8 arg9 harg9 arg10 harg10 arg11 harg11 x0 x1 x3 x4 x6 x7 x8 x9]
  exact chain_attn s q k v b 1 (2 * j + 1) (by omega) _ _ _
      (by rw [v0_iff, hi]; omega)
      (by rw [v0_iff, hi]; omega)
      (by rw [v6_iff, hi]; omega) _ _ _ _ _ _ _ _ _ _
    (fun g r x u hu => cq_at x1 q b j H.h1 1 1 g r x u hu)
    (fun _ t x u hu => H.h3 1 _ x u (show u.val = 256 * j + (128 * 0 + t.val) by omega))
    (fun _ t x u hu => H.h6 1 _ x u (show u.val = 256 * j + (128 * 0 + t.val) by omega))
    (fun t x u hu => H.h3 1 _ x u (show u.val = 256 * j + (128 * 1 + t.val) by omega))
    (fun t x u hu => H.h6 1 _ x u (show u.val = 256 * j + (128 * 1 + t.val) by omega))
    (fun _ t x u hu => H.h4 (by omega) 1 t x u (by omega))
    (fun _ t x u hu => H.h7 (by omega) 1 t x u (by omega))
    (fun t x u hu => H.h8 1 t x u hu) (fun t x u hu => H.h9 1 t x u hu)
    (fun g r => snk_at x0 s H.h0 1 g r) g r d u hu

end

end

end Cert.Proof.At
end
-- ==== Proof.At.Blocks.lean ====
module

public import proofs.«01_k».proof.Proof.At.Tile
public import Idealize.ShloMosaic.Lib.Pipeline.ValueKit

@[expose] public section

set_option maxRecDepth 16384

noncomputable section

namespace Cert.Proof.At

open Cert.KernelIdeal Cert.KernelIdeal.Gen Idealize.ShloMosaic Idealize.ShloMosaic.TcCoe Idealize.SL.Sem

/-- The second grid coordinate at a point. -/
theorem coord_1 : ∀ t : Fin grid0.N, (grid0.coords t 1).val = t.val % 17 := by decide +kernel

/-- The windows' block indices at a point. -/
theorem ix_0 : ∀ t : Fin grid0.N, win0_0.index t = ![0] := by decide +kernel
theorem ix_1 : ∀ t : Fin grid0.N, win0_1.index t = ![t.val / 17, 0, t.val % 17, 0] := by decide +kernel
theorem ix_2 : ∀ t : Fin grid0.N, win0_2.index t = ![t.val / 17, 0, 2 * (t.val % 17) - 1, 0] := by decide +kernel
theorem ix_3 : ∀ t : Fin grid0.N, win0_3.index t = ![t.val / 17, 0, t.val % 17, 0] := by decide +kernel
theorem ix_4 : ∀ t : Fin grid0.N, win0_4.index t = ![t.val / 17, 0, min (2 * (t.val % 17) + 2) 33, 0] := by decide +kernel
theorem ix_5 : ∀ t : Fin grid0.N, win0_5.index t = ![t.val / 17, 0, 2 * (t.val % 17) - 1, 0] := by decide +kernel
theorem ix_6 : ∀ t : Fin grid0.N, win0_6.index t = ![t.val / 17, 0, t.val % 17, 0] := by decide +kernel
theorem ix_7 : ∀ t : Fin grid0.N, win0_7.index t = ![t.val / 17, 0, min (2 * (t.val % 17) + 2) 33, 0] := by decide +kernel
theorem ix_8 : ∀ t : Fin grid0.N, win0_8.index t = ![t.val / 17, 0, 0, 0] := by decide +kernel
theorem ix_9 : ∀ t : Fin grid0.N, win0_9.index t = ![t.val / 17, 0, 0, 0] := by decide +kernel
theorem ix_10 : ∀ t : Fin grid0.N, win0_10.index t = ![t.val / 17, t.val % 17, 0] := by decide +kernel

variable (m : (ℓ : Loc nD τ sig) → Buf (Elt Ideal) ℓ) (c : Dev nD)

/-- The batch a point works on. -/
def bat (t : Fin cfg0.N) : Fin 8 := ⟨t.val / 17, by have := lt_of_lt_of_eq t.isLt N_0; omega⟩

/-- The sink logits are staged whole. -/
theorem blk_0 (t : Fin cfg0.N) (a : Fin 8) :
    (iblk m c 0 t : Vec Ideal S8 .f32) (ix1 a) = (m ((c : Thread nD τ).loc main_arg0) : A1) (ix1 a) := by
  blk_ext [iblk, V, ix_0 t]

/-- The queries of a point's block, as the array's. -/
theorem blk_1 (t : Fin cfg0.N) (a : Fin 8) (r : Fin 256) (x : Fin 64) (u : Fin 4352) (hu : u.val = 256 * (t.val % 17) + r.val) :
    (iblk m c 1 t : Vec Ideal S1x8x256x64 .bf16) (ix4 0 a r x) = (m ((c : Thread nD τ).loc main_arg1) : A8) (ix4 (bat t) a u x) := by
  blk_ext [iblk, V, ix_1 t, bat]

/-- The keys before of a point's block, as the array's. -/
theorem blk_2 (t : Fin cfg0.N) (hj : 1 ≤ t.val % 17) (a : Fin 2) (r : Fin 128) (x : Fin 64) (u : Fin 4352) (hu : u.val = 128 * (2 * (t.val % 17) - 1) + r.val) :
    (iblk m c 2 t : Vec Ideal S1x2x128x64 .bf16) (ix4 0 a r x) = (m ((c : Thread nD τ).loc main_arg2) : A2) (ix4 (bat t) a u x) := by
  blk_ext [iblk, V, ix_2 t, bat]

/-- The block's own keys of a point's block, as the array's. -/
theorem blk_3 (t : Fin cfg0.N) (a : Fin 2) (r : Fin 256) (x : Fin 64) (u : Fin 4352) (hu : u.val = 256 * (t.val % 17) + r.val) :
    (iblk m c 3 t : Vec Ideal S1x2x256x64 .bf16) (ix4 0 a r x) = (m ((c : Thread nD τ).loc main_arg2) : A2) (ix4 (bat t) a u x) := by
  blk_ext [iblk, V, ix_3 t, bat]

/-- The keys after of a point's block, as the array's. -/
theorem blk_4 (t : Fin cfg0.N) (hj : t.val % 17 ≤ 15) (a : Fin 2) (r : Fin 128) (x : Fin 64) (u : Fin 4352) (hu : u.val = 128 * (2 * (t.val % 17) + 2) + r.val) :
    (iblk m c 4 t : Vec Ideal S1x2x128x64 .bf16) (ix4 0 a r x) = (m ((c : Thread nD τ).loc main_arg2) : A2) (ix4 (bat t) a u x) := by
  blk_ext [iblk, V, ix_4 t, bat]

/-- The values before of a point's block, as the array's. -/
theorem blk_5 (t : Fin cfg0.N) (hj : 1 ≤ t.val % 17) (a : Fin 2) (r : Fin 128) (x : Fin 64) (u : Fin 4352) (hu : u.val = 128 * (2 * (t.val % 17) - 1) + r.val) :
    (iblk m c 5 t : Vec Ideal S1x2x128x64 .bf16) (ix4 0 a r x) = (m ((c : Thread nD τ).loc main_arg3) : A2) (ix4 (bat t) a u x) := by
  blk_ext [iblk, V, ix_5 t, bat]

/-- The block's own values of a point's block, as the array's. -/
theorem blk_6 (t : Fin cfg0.N) (a : Fin 2) (r : Fin 256) (x : Fin 64) (u : Fin 4352) (hu : u.val = 256 * (t.val % 17) + r.val) :
    (iblk m c 6 t : Vec Ideal S1x2x256x64 .bf16) (ix4 0 a r x) = (m ((c : Thread nD τ).loc main_arg3) : A2) (ix4 (bat t) a u x) := by
  blk_ext [iblk, V, ix_6 t, bat]

/-- The values after of a point's block, as the array's. -/
theorem blk_7 (t : Fin cfg0.N) (hj : t.val % 17 ≤ 15) (a : Fin 2) (r : Fin 128) (x : Fin 64) (u : Fin 4352) (hu : u.val = 128 * (2 * (t.val % 17) + 2) + r.val) :
    (iblk m c 7 t : Vec Ideal S1x2x128x64 .bf16) (ix4 0 a r x) = (m ((c : Thread nD τ).loc main_arg3) : A2) (ix4 (bat t) a u x) := by
  blk_ext [iblk, V, ix_7 t, bat]

/-- The context's keys of a point's block, as the array's. -/
theorem blk_8 (t : Fin cfg0.N) (a : Fin 2) (r : Fin 256) (x : Fin 64) (u : Fin 4352) (hu : u.val = r.val) :
    (iblk m c 8 t : Vec Ideal S1x2x256x64 .bf16) (ix4 0 a r x) = (m ((c : Thread nD τ).loc main_arg2) : A2) (ix4 (bat t) a u x) := by
  blk_ext [iblk, V, ix_8 t, bat]

/-- The context's values of a point's block, as the array's. -/
theorem blk_9 (t : Fin cfg0.N) (a : Fin 2) (r : Fin 256) (x : Fin 64) (u : Fin 4352) (hu : u.val = r.val) :
    (iblk m c 9 t : Vec Ideal S1x2x256x64 .bf16) (ix4 0 a r x) = (m ((c : Thread nD τ).loc main_arg3) : A2) (ix4 (bat t) a u x) := by
  blk_ext [iblk, V, ix_9 t, bat]

/-- The ten input blocks of a point are the arrays' blocks. -/
theorem isBlk (t : Fin cfg0.N) :
    IsBlk (m ((c : Thread nD τ).loc main_arg0)) (m ((c : Thread nD τ).loc main_arg1)) (m ((c : Thread nD τ).loc main_arg2)) (m ((c : Thread nD τ).loc main_arg3))
      (bat t) (t.val % 17) (iblk m c 0 t) (iblk m c 1 t) (iblk m c 2 t) (iblk m c 3 t) (iblk m c 4 t) (iblk m c 5 t) (iblk m c 6 t) (iblk m c 7 t)
      (iblk m c 8 t) (iblk m c 9 t) :=
  ⟨blk_0 m c t, blk_1 m c t, blk_2 m c t, blk_3 m c t, blk_4 m c t, blk_5 m c t, blk_6 m c t, blk_7 m c t, blk_8 m c t, blk_9 m c t⟩

/-- The kernel's result: the attention at every batch, row and column (a column is a head and a place in it). -/
def whole (s : A1) (q : A8) (k v : A2) : FVec Ideal ⟨3, ![8, 4352, 512]⟩ .bf16 := fun i =>
  attn s q k v (i 0) ⟨(i 2).val / 256, by have : (i 2).val < 512 := (i 2).isLt; omega⟩ ⟨(i 2).val / 64 % 4, by omega⟩ (i 1) ⟨(i 2).val % 64, by omega⟩

theorem whole_apply (s : A1) (q : A8) (k v : A2) (b : Fin 8) (h : Fin 2) (g : Fin 4) (t : Fin 4352) (d : Fin 64) (n : Fin 512)
    (hn : n.val = 256 * h + 64 * g + d) : whole s q k v (ix3 b t n) = attn s q k v b h g t d := by
  have e1 : (⟨n.val / 256, by omega⟩ : Fin 2) = h := Fin.ext (by simp only; omega)
  have e2 : (⟨n.val / 64 % 4, by omega⟩ : Fin 4) = g := Fin.ext (by simp only; omega)
  have e3 : (⟨n.val % 64, by omega⟩ : Fin 64) = d := Fin.ext (by simp only; omega)
  have hw : whole s q k v (ix3 b t n) = attn s q k v b ⟨n.val / 256, by omega⟩ ⟨n.val / 64 % 4, by omega⟩ t ⟨n.val % 64, by omega⟩ := rfl
  rw [hw, e1, e2, e3]

/-- What a point leaves in the output's block, at a row and a column. -/
theorem outs_apply (t : Fin cfg0.N) (r : Fin 256) (n : Fin 512) (u : Fin 4352) (hu : u.val = 256 * (t.val % 17) + r.val) :
    outsAt0 m c t (ix3 0 r n)
      = whole (m ((c : Thread nD τ).loc main_arg0)) (m ((c : Thread nD τ).loc main_arg1)) (m ((c : Thread nD τ).loc main_arg2)) (m ((c : Thread nD τ).loc main_arg3))
          (ix3 (bat t) u n) := by
  have hj : t.val % 17 < 17 := Nat.mod_lt _ (by decide)
  have hn := n.isLt
  rw [whole_apply _ _ _ _ (bat t) ⟨n.val / 256, by omega⟩ ⟨n.val / 64 % 4, by omega⟩ u ⟨n.val % 64, by omega⟩ n (by simp only; omega)]
  unfold outsAt0
  by_cases hr : r.val < 128 <;> by_cases hh : n.val < 256
  · have e := tile_0_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) _ _ _ _ _ _ _ _ _ _ _ _ _ _ _ _ hj (coord_1 t) (isBlk m c t) ⟨n.val / 64 % 4, by omega⟩ ⟨r.val, hr⟩ ⟨n.val % 64, by omega⟩ u (by simp only; omega)
    have en : (⟨64 * (n.val / 64 % 4) + n.val % 64, by omega⟩ : Fin 512) = n := Fin.ext (by simp only; omega)
    have eh : (⟨n.val / 256, by omega⟩ : Fin 2) = 0 := Fin.ext (by simp only [Fin.val_zero]; omega)
    simp only [en] at e
    rw [eh]; exact e
  · have e := tile_1_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) _ _ _ _ _ _ _ _ _ _ _ _ _ _ _ _ hj (coord_1 t) (isBlk m c t) ⟨n.val / 64 % 4, by omega⟩ ⟨r.val, hr⟩ ⟨n.val % 64, by omega⟩ u (by simp only; omega)
    have en : (⟨256 + 64 * (n.val / 64 % 4) + n.val % 64, by omega⟩ : Fin 512) = n := Fin.ext (by simp only; omega)
    have eh : (⟨n.val / 256, by omega⟩ : Fin 2) = 1 := Fin.ext (by simp only [Fin.val_one]; omega)
    simp only [en] at e
    rw [eh]; exact e
  · have e := tile_0_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) _ _ _ _ _ _ _ _ _ _ _ _ _ _ _ _ hj (coord_1 t) (isBlk m c t) ⟨n.val / 64 % 4, by omega⟩ ⟨r.val - 128, by omega⟩ ⟨n.val % 64, by omega⟩ u (by simp only; omega)
    have en : (⟨64 * (n.val / 64 % 4) + n.val % 64, by omega⟩ : Fin 512) = n := Fin.ext (by simp only; omega)
    have eh : (⟨n.val / 256, by omega⟩ : Fin 2) = 0 := Fin.ext (by simp only [Fin.val_zero]; omega)
    have er : (⟨128 + (r.val - 128), by omega⟩ : Fin 256) = r := Fin.ext (by simp only; omega)
    simp only [en, er] at e
    rw [eh]; exact e
  · have e := tile_1_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) _ _ _ _ _ _ _ _ _ _ _ _ _ _ _ _ hj (coord_1 t) (isBlk m c t) ⟨n.val / 64 % 4, by omega⟩ ⟨r.val - 128, by omega⟩ ⟨n.val % 64, by omega⟩ u (by simp only; omega)
    have en : (⟨256 + 64 * (n.val / 64 % 4) + n.val % 64, by omega⟩ : Fin 512) = n := Fin.ext (by simp only; omega)
    have eh : (⟨n.val / 256, by omega⟩ : Fin 2) = 1 := Fin.ext (by simp only [Fin.val_one]; omega)
    have er : (⟨128 + (r.val - 128), by omega⟩ : Fin 256) = r := Fin.ext (by simp only; omega)
    simp only [en, er] at e
    rw [eh]; exact e

/-- After the run the output's array is the attention of the arguments. -/
theorem arr_eq : (dats m 0 c).arrAt 10 cfg0.N
      = whole (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  blk_simp
  rw [after0_10]
  idx_vars y
  obtain rfl : y0 = 0 := Subsingleton.elim _ _
  have ht : t.val < 136 := lt_of_lt_of_eq t.isLt N_0
  have hu : 256 * (t.val % 17) + y1.val < 4352 := by omega
  rw [outs_apply m c t y1 y2 ⟨_, hu⟩ rfl]
  blk_ext [ix_10 t, bat]

end Cert.Proof.At
end
-- ==== Proof.At.Ref.lean ====
module

public import proofs.«01_k».proof.Proof.Gen.ReferenceIdeal.Run
public import proofs.«01_k».proof.Proof.At.Row
public import Idealize.ShloMosaic.Lib.WordCmp

@[expose] public section

set_option maxRecDepth 16384

noncomputable section

namespace Cert.Proof.At.Ref

open Cert.ReferenceIdeal Cert.ReferenceIdeal.Gen Idealize.ShloMosaic Idealize.ShloMosaic.TcCoe Idealize.SL.Sem

/-- The scores of every query against every key. -/
def scores (q : FVec Ideal S8x8x4352x64 .bf16) (k : FVec Ideal S8x2x4352x64 .bf16) : FVec Ideal S8x2x4x4352x4352 .f32 :=
  Host.dotGeneral dot_S8x2x4x4352x64_S8x2x4352x64_S8x2x4x4352x4352_4_3_23_2_01_01 none (shapeCast _ (extf .f32 q bitsLt_bf16_f32) shapeCasts_S8x8x4352x64_S8x2x4x4352x64) (extf .f32 k bitsLt_bf16_f32)

/-- The context rows: scores at the context keys, then the sink logit. -/
def catC (sc : FVec Ideal S8x2x4x4352x4352 .f32) (s : FVec Ideal S8 .f32) : FVec Ideal S8x2x4x256x257 .f32 :=
  concatenate S8x2x4x256x257 4 [⟨S8x2x4x256x256, (extractStridedSlice S8x2x4x256x256 ![0, 0, 0, 0, 0] sc slices_S8x2x4x4352x4352_S8x2x4x256x256_0_0_0_0_0)⟩, ⟨S8x2x4x256x1, (broadcastInDim S8x2x4x256x1 ![0, 1, 2, 3, 4] bcast_S1x2x4x1x1_S8x2x4x256x1_0_1_2_3_4 (shapeCast S1x2x4x1x1 s shapeCasts_S8_S1x2x4x1x1))⟩] concatenates_S8x2x4x256x256_S8x2x4x256x1_S8x2x4x256x257_d4

/-- The context rows' maxima, from `z`. -/
def redC (z : FVec Ideal S_ .f32) (c : FVec Ideal S8x2x4x256x257 .f32) : FVec Ideal S8x2x4x256 .f32 :=
  Host.reduce FloatOps.maximumf c z reducesTo_S8x2x4x256x257_S8x2x4x256_d4 h_S_

/-- The greater of `z` and each maximum. -/
def maxC (z : FVec Ideal S_ .f32) (c : FVec Ideal S8x2x4x256 .f32) : FVec Ideal S8x2x4x256 .f32 :=
  maximumf (broadcastInDim S8x2x4x256 ![] bcast_S_S8x2x4x256 z) c

/-- The context rows' exponentials. -/
def exC (c : FVec Ideal S8x2x4x256x257 .f32) (m : FVec Ideal S8x2x4x256 .f32) : FVec Ideal S8x2x4x256x257 .f32 :=
  Host.exp (subf c (broadcastInDim S8x2x4x256x257 ![0, 1, 2, 3, 4] bcast_S8x2x4x256x1_S8x2x4x256x257_0_1_2_3_4 (broadcastInDim S8x2x4x256x1 ![0, 1, 2, 3] bcast_S8x2x4x256_S8x2x4x256x1_0_1_2_3 m)))

/-- The context rows' denominators. -/
def denC (e : FVec Ideal S8x2x4x256x257 .f32) : FVec Ideal S8x2x4x256 .f32 :=
  Host.reduceAdd e (constant S_ .f32 0x00000000#32) reducesTo_S8x2x4x256x257_S8x2x4x256_d4 h_S_

/-- The context rows' weights. -/
def pC (e : FVec Ideal S8x2x4x256x257 .f32) (d : FVec Ideal S8x2x4x256 .f32) : FVec Ideal S8x2x4x256x257 .f32 :=
  Host.divf e (broadcastInDim S8x2x4x256x257 ![0, 1, 2, 3, 4] bcast_S8x2x4x256x1_S8x2x4x256x257_0_1_2_3_4 (broadcastInDim S8x2x4x256x1 ![0, 1, 2, 3] bcast_S8x2x4x256_S8x2x4x256x1_0_1_2_3 d))

/-- The context rows' values. -/
def oC (p : FVec Ideal S8x2x4x256x257 .f32) (v : FVec Ideal S8x2x4352x64 .bf16) : FVec Ideal S8x2x64x4x256 .f32 :=
  Host.dotGeneral dot_S8x2x256x64_S8x2x4x256x256_S8x2x64x4x256_2_4_3_23_01_01 none (extractStridedSlice S8x2x256x64 ![0, 0, 0, 0] (extf .f32 v bitsLt_bf16_f32) slices_S8x2x4352x64_S8x2x256x64_0_0_0_0) (extractStridedSlice S8x2x4x256x256 ![0, 0, 0, 0, 0] p slices_S8x2x4x256x257_S8x2x4x256x256_0_0_0_0_0)

/-- The latent rows: scores, `z` where the mask hides the key. -/
def maskZ (z : FVec Ideal S_ .f32) (sc : FVec Ideal S8x2x4x4352x4352 .f32) : FVec Ideal S8x2x4x4096x4352 .f32 :=
  concatenate S8x2x4x4096x4352 4 [⟨S8x2x4x4096x256, (extractStridedSlice S8x2x4x4096x256 ![0, 0, 0, 256, 0] sc slices_S8x2x4x4352x4352_S8x2x4x4096x256_0_0_0_256_0)⟩, ⟨S8x2x4x4096x4096, (select (broadcastInDim S8x2x4x4096x4096 ![3, 4] bcast_S4096x4096_S8x2x4x4096x4096_3_4 (cmpi .sle (absi (subi (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (broadcastInDim S4096x4096 ![] bcast_S_S4096x4096 (constantI S_ 32 128#32)))) (extractStridedSlice S8x2x4x4096x4096 ![0, 0, 0, 256, 256] sc slices_S8x2x4x4352x4352_S8x2x4x4096x4096_0_0_0_256_256) (broadcastInDim S8x2x4x4096x4096 ![] bcast_S_S8x2x4x4096x4096 z))⟩] concatenates_S8x2x4x4096x256_S8x2x4x4096x4096_S8x2x4x4096x4352_d4

/-- The latent rows: masked scores, then the sink logit. -/
def catL (a : FVec Ideal S8x2x4x4096x4352 .f32) (s : FVec Ideal S8 .f32) : FVec Ideal S8x2x4x4096x4353 .f32 :=
  concatenate S8x2x4x4096x4353 4 [⟨S8x2x4x4096x4352, a⟩, ⟨S8x2x4x4096x1, (broadcastInDim S8x2x4x4096x1 ![0, 1, 2, 3, 4] bcast_S1x2x4x1x1_S8x2x4x4096x1_0_1_2_3_4 (shapeCast S1x2x4x1x1 s shapeCasts_S8_S1x2x4x1x1))⟩] concatenates_S8x2x4x4096x4352_S8x2x4x4096x1_S8x2x4x4096x4353_d4

/-- The latent rows' maxima, from `z`. -/
def redL (z : FVec Ideal S_ .f32) (c : FVec Ideal S8x2x4x4096x4353 .f32) : FVec Ideal S8x2x4x4096 .f32 :=
  Host.reduce FloatOps.maximumf c z reducesTo_S8x2x4x4096x4353_S8x2x4x4096_d4 h_S_

/-- The greater of `z` and each maximum. -/
def maxL (z : FVec Ideal S_ .f32) (c : FVec Ideal S8x2x4x4096 .f32) : FVec Ideal S8x2x4x4096 .f32 :=
  maximumf (broadcastInDim S8x2x4x4096 ![] bcast_S_S8x2x4x4096 z) c

/-- The latent rows' exponentials. -/
def exL (c : FVec Ideal S8x2x4x4096x4353 .f32) (m : FVec Ideal S8x2x4x4096 .f32) : FVec Ideal S8x2x4x4096x4353 .f32 :=
  Host.exp (subf c (broadcastInDim S8x2x4x4096x4353 ![0, 1, 2, 3, 4] bcast_S8x2x4x4096x1_S8x2x4x4096x4353_0_1_2_3_4 (broadcastInDim S8x2x4x4096x1 ![0, 1, 2, 3] bcast_S8x2x4x4096_S8x2x4x4096x1_0_1_2_3 m)))

/-- The latent rows' denominators. -/
def denL (e : FVec Ideal S8x2x4x4096x4353 .f32) : FVec Ideal S8x2x4x4096 .f32 :=
  Host.reduceAdd e (constant S_ .f32 0x00000000#32) reducesTo_S8x2x4x4096x4353_S8x2x4x4096_d4 h_S_

/-- The latent rows' weights. -/
def pL (e : FVec Ideal S8x2x4x4096x4353 .f32) (d : FVec Ideal S8x2x4x4096 .f32) : FVec Ideal S8x2x4x4096x4353 .f32 :=
  Host.divf e (broadcastInDim S8x2x4x4096x4353 ![0, 1, 2, 3, 4] bcast_S8x2x4x4096x1_S8x2x4x4096x4353_0_1_2_3_4 (broadcastInDim S8x2x4x4096x1 ![0, 1, 2, 3] bcast_S8x2x4x4096_S8x2x4x4096x1_0_1_2_3 d))

/-- The latent rows' values. -/
def oL (p : FVec Ideal S8x2x4x4096x4353 .f32) (v : FVec Ideal S8x2x4352x64 .bf16) : FVec Ideal S8x2x64x4x4096 .f32 :=
  Host.dotGeneral dot_S8x2x4352x64_S8x2x4x4096x4352_S8x2x64x4x4096_2_4_3_23_01_01 none (extf .f32 v bitsLt_bf16_f32) (extractStridedSlice S8x2x4x4096x4352 ![0, 0, 0, 0, 0] p slices_S8x2x4x4096x4353_S8x2x4x4096x4352_0_0_0_0_0)

/-- The context rows' values, query rows first. -/
def trC (o : FVec Ideal S8x2x64x4x256 .f32) : FVec Ideal S8x256x2x4x64 .f32 :=
  transpose S8x256x2x4x64 [0, 4, 1, 3, 2] o transposes_S8x2x64x4x256_S8x256x2x4x64_0_4_1_3_2

/-- The latent rows' values, query rows first. -/
def trL (o : FVec Ideal S8x2x64x4x4096 .f32) : FVec Ideal S8x4096x2x4x64 .f32 :=
  transpose S8x4096x2x4x64 [0, 4, 1, 3, 2] o transposes_S8x2x64x4x4096_S8x4096x2x4x64_0_4_1_3_2

/-- The context rows, then the latent rows. -/
def join (oc : FVec Ideal S8x256x2x4x64 .f32) (ol : FVec Ideal S8x4096x2x4x64 .f32) : FVec Ideal S8x4352x2x4x64 .f32 :=
  concatenate S8x4352x2x4x64 1 [⟨S8x256x2x4x64, oc⟩, ⟨S8x4096x2x4x64, ol⟩] concatenates_S8x256x2x4x64_S8x4096x2x4x64_S8x4352x2x4x64_d1

/-- The heads' values side by side. -/
def flat (o : FVec Ideal S8x4352x2x4x64 .f32) : FVec Ideal S8x4352x512 .bf16 :=
  truncf .bf16 (shapeCast _ o shapeCasts_S8x4352x2x4x64_S8x4352x512) bitsLt_bf16_f32

/-- The constant −∞, as a tensor without axes. -/
def inf : FVec Ideal S_ .f32 := constant S_ .f32 0xFF800000#32

/-- The context rows' values, of the scores. -/
def ctxO (S : FVec Ideal S8x2x4x4352x4352 .f32) (s : FVec Ideal S8 .f32) (v : FVec Ideal S8x2x4352x64 .bf16) : FVec Ideal S8x2x64x4x256 .f32 :=
  oC (pC (exC (catC S s) (maxC inf (redC inf (catC S s)))) (denC (exC (catC S s) (maxC inf (redC inf (catC S s)))))) v

/-- The latent rows' values, of the scores. -/
def latO (S : FVec Ideal S8x2x4x4352x4352 .f32) (s : FVec Ideal S8 .f32) (v : FVec Ideal S8x2x4352x64 .bf16) : FVec Ideal S8x2x64x4x4096 .f32 :=
  oL (pL (exL (catL (maskZ inf S) s) (maxL inf (redL inf (catL (maskZ inf S) s)))) (denL (exL (catL (maskZ inf S) s) (maxL inf (redL inf (catL (maskZ inf S) s)))))) v

/-- The reference's result, of the four arguments. -/
def result (s : FVec Ideal S8 .f32) (q : FVec Ideal S8x8x4352x64 .bf16) (k v : FVec Ideal S8x2x4352x64 .bf16) : FVec Ideal S8x4352x512 .bf16 :=
  flat (join (trC (ctxO (scores q k) s v)) (trL (latO (scores q k) s v)))

/-- The result's definition is these stages composed. -/
theorem res_eq (m : (ℓ : Loc nD τ sig) → Buf (Elt Ideal) ℓ) (c : Dev nD) :
    Value.res_main_v57 (F := Ideal) m c = result (m ((c.tc : Thread nD τ).loc main_arg0)) (m ((c.tc : Thread nD τ).loc main_arg1))
      (m ((c.tc : Thread nD τ).loc main_arg2)) (m ((c.tc : Thread nD τ).loc main_arg3)) := rfl

/-- The constant −∞. -/
theorem ninf : Ideal.ofBits FTy.f32 0xFF800000#32 = (⊥ : EReal) := by simp [Ideal.ofBits, Ideal.ieee]

section
variable (b : Fin 8) (h : Fin 2) (g : Fin 4)

theorem scores_apply (q : FVec Ideal S8x8x4352x64 .bf16) (k : FVec Ideal S8x2x4352x64 .bf16) (t u : Fin 4352) :
    scores q k (ix5 b h g t u) = ∑ x : Fin 64, q (ix4 b ⟨h * 4 + g, by omega⟩ t x) * k (ix4 b h u x) := by
  pointwise [scores]

theorem catC_apply (S : FVec Ideal S8x2x4x4352x4352 .f32) (s : FVec Ideal S8 .f32) (t : Fin 256) (u : Fin 257) :
    catC S s (ix5 b h g t u) = if hu : u.val < 256 then S (ix5 b h g ⟨t, by omega⟩ ⟨u, by omega⟩) else s (ix1 ⟨h * 4 + g, by omega⟩) := by
  pointwise [catC]

theorem catL_apply (S : FVec Ideal S8x2x4x4096x4352 .f32) (s : FVec Ideal S8 .f32) (t : Fin 4096) (u : Fin 4353) :
    catL S s (ix5 b h g t u) = if hu : u.val < 4352 then S (ix5 b h g t ⟨u, by omega⟩) else s (ix1 ⟨h * 4 + g, by omega⟩) := by
  pointwise [catL]

theorem redC_apply (z : FVec Ideal S_ .f32) (c : FVec Ideal S8x2x4x256x257 .f32) (t : Fin 256) :
    redC z c (ix4 b h g t) = Finset.univ.fold max (z (Shape.Idx.first h_S_)) fun x => c (ix5 b h g t x) := by
  pointwise [redC]

theorem redL_apply (z : FVec Ideal S_ .f32) (c : FVec Ideal S8x2x4x4096x4353 .f32) (t : Fin 4096) :
    redL z c (ix4 b h g t) = Finset.univ.fold max (z (Shape.Idx.first h_S_)) fun x => c (ix5 b h g t x) := by
  pointwise [redL]

theorem maxC_apply (z : FVec Ideal S_ .f32) (c : FVec Ideal S8x2x4x256 .f32) (t : Fin 256) :
    maxC z c (ix4 b h g t) = max (z ix0) (c (ix4 b h g t)) := by
  pointwise [maxC]

theorem maxL_apply (z : FVec Ideal S_ .f32) (c : FVec Ideal S8x2x4x4096 .f32) (t : Fin 4096) :
    maxL z c (ix4 b h g t) = max (z ix0) (c (ix4 b h g t)) := by
  pointwise [maxL]

theorem exC_apply (c : FVec Ideal S8x2x4x256x257 .f32) (m : FVec Ideal S8x2x4x256 .f32) (t : Fin 256) (u : Fin 257) :
    exC c m (ix5 b h g t u) = Ideal.exp (c (ix5 b h g t u) - m (ix4 b h g t)) := by
  pointwise [exC]

theorem exL_apply (c : FVec Ideal S8x2x4x4096x4353 .f32) (m : FVec Ideal S8x2x4x4096 .f32) (t : Fin 4096) (u : Fin 4353) :
    exL c m (ix5 b h g t u) = Ideal.exp (c (ix5 b h g t u) - m (ix4 b h g t)) := by
  pointwise [exL]

theorem denC_apply (c : FVec Ideal S8x2x4x256x257 .f32) (t : Fin 256) :
    denC c (ix4 b h g t) = ∑ x : Fin 257, c (ix5 b h g t x) := by
  pointwise [denC]

theorem denL_apply (c : FVec Ideal S8x2x4x4096x4353 .f32) (t : Fin 4096) :
    denL c (ix4 b h g t) = ∑ x : Fin 4353, c (ix5 b h g t x) := by
  pointwise [denL]

theorem pC_apply (c : FVec Ideal S8x2x4x256x257 .f32) (m : FVec Ideal S8x2x4x256 .f32) (t : Fin 256) (u : Fin 257) :
    pC c m (ix5 b h g t u) = Ideal.div (c (ix5 b h g t u)) (m (ix4 b h g t)) := by
  pointwise [pC]

theorem pL_apply (c : FVec Ideal S8x2x4x4096x4353 .f32) (m : FVec Ideal S8x2x4x4096 .f32) (t : Fin 4096) (u : Fin 4353) :
    pL c m (ix5 b h g t u) = Ideal.div (c (ix5 b h g t u)) (m (ix4 b h g t)) := by
  pointwise [pL]

theorem oC_apply (c : FVec Ideal S8x2x4x256x257 .f32) (v : FVec Ideal S8x2x4352x64 .bf16) (t : Fin 256) (d : Fin 64) :
    oC c v (ix5 b h d g t) = ∑ x : Fin 256, v (ix4 b h ⟨x, by omega⟩ d) * c (ix5 b h g t ⟨x, by omega⟩) := by
  pointwise [oC]

theorem oL_apply (c : FVec Ideal S8x2x4x4096x4353 .f32) (v : FVec Ideal S8x2x4352x64 .bf16) (t : Fin 4096) (d : Fin 64) :
    oL c v (ix5 b h d g t) = ∑ x : Fin 4352, v (ix4 b h x d) * c (ix5 b h g t ⟨x, by omega⟩) := by
  pointwise [oL]

theorem maskL_apply (z : FVec Ideal S_ .f32) (S : FVec Ideal S8x2x4x4352x4352 .f32) (t : Fin 4096) (u : Fin 4352) :
    maskZ z S (ix5 b h g t u) = if hu : u.val < 256 then S (ix5 b h g ⟨256 + t, by omega⟩ u)
      else Scalar.select
        (IntOp.cmpi CmpIPredicate.sle (IntOp.absi (IntOp.subi (BitVec.ofNat 32 (u.val - 256)) (BitVec.ofNat 32 t.val))) 128#32)
        (S (ix5 b h g ⟨256 + t, by omega⟩ ⟨256 + (u - 256), by omega⟩)) (z ix0) := by
  pointwise [maskZ]

theorem trC_apply (o : FVec Ideal S8x2x64x4x256 .f32) (t : Fin 256) (d : Fin 64) :
    trC o (ix5 b t h g d) = o (ix5 b h d g t) := by
  pointwise [trC]

theorem trL_apply (o : FVec Ideal S8x2x64x4x4096 .f32) (t : Fin 4096) (d : Fin 64) :
    trL o (ix5 b t h g d) = o (ix5 b h d g t) := by
  pointwise [trL]

theorem join_apply (oc : FVec Ideal S8x256x2x4x64 .f32) (ol : FVec Ideal S8x4096x2x4x64 .f32) (t : Fin 4352) (d : Fin 64) :
    join oc ol (ix5 b t h g d) = if ht : t.val < 256 then oc (ix5 b ⟨t, by omega⟩ h g d) else ol (ix5 b ⟨t - 256, by omega⟩ h g d) := by
  pointwise [join]

theorem flat_apply (o : FVec Ideal S8x4352x2x4x64 .f32) (t : Fin 4352) (d : Fin 64) :
    flat o (ix3 b t ⟨256 * h + 64 * g + d, by omega⟩) = o (ix5 b t h g d) := by
  pointwise [flat]

end

end Cert.Proof.At.Ref
end
-- ==== Proof.At.RefValue.lean ====
module

public import proofs.«01_k».proof.Proof.At.Ref
public import proofs.«01_k».proof.Proof.At.Value

@[expose] public section

set_option maxRecDepth 16384

noncomputable section

namespace Cert.Proof.At.Ref

open Cert.ReferenceIdeal Cert.ReferenceIdeal.Gen Idealize.ShloMosaic Idealize.ShloMosaic.TcCoe Idealize.SL.Sem

/-- The constant at any index is −∞. -/
theorem inf_apply (i) : inf i = (⊥ : EReal) := ninf

variable (s : A1) (q : A8) (k v : A2) (hs : ∀ i, Fin' (s i)) (hq : ∀ i, Fin' (q i)) (hk : ∀ i, Fin' (k i))
  (b : Fin 8) (h : Fin 2) (g : Fin 4)

/-- The scores are the named scores. -/
theorem scores_eq (t u : Fin 4352) : scores q k (ix5 b h g t u) = score q k b h g t u := by
  rw [scores_apply]; unfold score; rw [dif_pos u.isLt]

/-- The masked scores of a latent row. -/
theorem mask_eq (t : Fin 4096) (u : Fin 4352) :
    maskZ inf (scores q k) (ix5 b h g t u) = masked (score q k b h g ⟨256 + t, by omega⟩) (256 + t) u := by
  have hu := u.isLt
  have ht := t.isLt
  rw [maskL_apply]
  unfold masked
  by_cases h0 : u.val < 256
  · rw [dif_pos h0, if_pos (show Seen _ _ from Or.inl h0), scores_eq]
  · rw [dif_neg h0, inf_apply, scores_eq]
    have e : 256 + (u.val - 256) = u.val := by omega
    simp only [e]
    have hn := near_iff (u.val - 256) t.val (by omega) ht
    by_cases hc : u.val - 256 ≤ t.val + 128 ∧ t.val ≤ u.val - 256 + 128
    · rw [if_pos (show Seen _ _ by unfold Seen; omega)]
      exact if_pos (hn.2 hc)
    · rw [if_neg (show ¬ Seen _ _ by unfold Seen; omega)]
      exact if_neg fun hh => hc (hn.1 hh)

include hs hq hk

/-- The maximum of finite scores and logits is not +∞. -/
theorem top_fin (t : Fin 4352) (T : ℕ) : top (masked (score q k b h g t) T) (s (ix1 ⟨h * 4 + g, by omega⟩)) ≠ ⊤ :=
  top_ne_top _ _ (masked_ne_top _ (score_ne_top q k hq hk b h g t) T) (hs _).1

/-- A context row's values are the attention's. -/
theorem ctxO_apply (t : Fin 256) (d : Fin 64) :
    ctxO (scores q k) s v (ix5 b h d g t) = attn s q k v b h g ⟨t, by omega⟩ d := by
  have ht := t.isLt
  let S := masked (score q k b h g ⟨t, by omega⟩) t
  let a := s (ix1 ⟨h * 4 + g, by omega⟩)
  let c : Fin (256 + 1) → EReal := fun x => catC (scores q k) s (ix5 b h g t x)
  have hS : ∀ u, 256 ≤ u → u < 4352 → S u = ⊥ := fun u h1 h2 => by
    show masked _ _ _ = _
    unfold masked; rw [if_neg (by unfold Seen; omega)]
  have hc : ∀ u : Fin 256, c u.castSucc = S u := fun u => by
    show catC _ _ _ = masked _ _ _
    rw [catC_apply, dif_pos (show u.castSucc.val < 256 from u.isLt), scores_eq]
    unfold masked; rw [if_pos (show Seen _ _ from Or.inl u.isLt)]; rfl
  have hl : c (Fin.last 256) = a := by
    show catC _ _ _ = _
    rw [catC_apply, dif_neg (by simp)]
  have hm : maxC inf (redC inf (catC (scores q k) s)) (ix4 b h g t) = top S a := by
    rw [maxC_apply, redC_apply, inf_apply, inf_apply]
    exact row_top 256 (by omega) S a hS c hc hl
  unfold ctxO
  rw [oC_apply]
  refine Eq.trans ?_ (row_soft 256 (by omega) S (val v b h d) a hS c hc hl (hs _).2 (top_fin s q k hs hq hk b h g _ _))
  refine Finset.sum_congr rfl fun x _ => ?_
  have hd := row_den 256 (by omega) S a hS c hc hl
  have hden : ∑ y : Fin 257, exC (catC (scores q k) s) (maxC inf (redC inf (catC (scores q k) s))) (ix5 b h g t y) = den S a := by
    rw [← hd]
    exact Finset.sum_congr rfl fun y _ => by rw [exC_apply, hm]
  rw [pC_apply, denC_apply, exC_apply, hm, hden]
  unfold val
  rw [dif_pos (show x.val < 4352 by omega)]
  rfl

/-- A latent row's values are the attention's. -/
theorem latO_apply (t : Fin 4096) (d : Fin 64) :
    latO (scores q k) s v (ix5 b h d g t) = attn s q k v b h g ⟨256 + t, by omega⟩ d := by
  have ht := t.isLt
  let S := masked (score q k b h g ⟨256 + t, by omega⟩) (256 + t)
  let a := s (ix1 ⟨h * 4 + g, by omega⟩)
  let c : Fin (4352 + 1) → EReal := fun x => catL (maskZ inf (scores q k)) s (ix5 b h g t x)
  have hS : ∀ u, 4352 ≤ u → u < 4352 → S u = ⊥ := fun u h1 h2 => by omega
  have hc : ∀ u : Fin 4352, c u.castSucc = S u := fun u => by
    show catL _ _ _ = masked _ _ _
    rw [catL_apply, dif_pos (show u.castSucc.val < 4352 from u.isLt), ← mask_eq]; rfl
  have hl : c (Fin.last 4352) = a := by
    show catL _ _ _ = _
    rw [catL_apply, dif_neg (by simp)]
  have hm : maxL inf (redL inf (catL (maskZ inf (scores q k)) s)) (ix4 b h g t) = top S a := by
    rw [maxL_apply, redL_apply, inf_apply, inf_apply]
    exact row_top 4352 (by omega) S a hS c hc hl
  unfold latO
  rw [oL_apply]
  refine Eq.trans ?_ (row_soft 4352 (by omega) S (val v b h d) a hS c hc hl (hs _).2 (top_fin s q k hs hq hk b h g _ _))
  refine Finset.sum_congr rfl fun x _ => ?_
  have hd := row_den 4352 (by omega) S a hS c hc hl
  have hden : ∑ y : Fin 4353, exL (catL (maskZ inf (scores q k)) s) (maxL inf (redL inf (catL (maskZ inf (scores q k)) s))) (ix5 b h g t y) = den S a := by
    rw [← hd]
    exact Finset.sum_congr rfl fun y _ => by rw [exL_apply, hm]
  rw [pL_apply, denL_apply, exL_apply, hm, hden]
  unfold val
  rw [dif_pos x.isLt]
  rfl

/-- The reference's result, entry by entry, is the attention's. -/
theorem result_apply (t : Fin 4352) (d : Fin 64) :
    result s q k v (ix3 b t ⟨256 * h + 64 * g + d, by omega⟩) = attn s q k v b h g t d := by
  unfold result
  rw [flat_apply, join_apply]
  split
  · rw [trC_apply, ctxO_apply s q k v hs hq hk]
  · rw [trL_apply, latO_apply s q k v hs hq hk]
    congr 1
    apply Fin.ext; simp only; omega

end Cert.Proof.At.Ref
end
-- ==== Proof.At.Claims.lean ====
module

public import proofs.«01_k».proof.Defs
public import proofs.«01_k».proof.Proof.Gen.Kernel.Frame
public import proofs.«01_k».proof.Proof.Gen.Pre_finite
public import proofs.«01_k».proof.Proof.At.Blocks
public import proofs.«01_k».proof.Proof.At.RefValue

@[expose] public section

set_option maxRecDepth 16384

noncomputable section

namespace Cert.Proof.At

open Idealize.ShloMosaic Idealize.ShloMosaic.TcCoe Idealize.SL.Sem

/-- The word of +∞ is the extended reals' top. -/
theorem pinf : Ideal.ofBits FTy.f32 0x7F800000#32 = (⊤ : EReal) := by simp [Ideal.ofBits, Ideal.ieee]

/-- A value whose absolute value is below +∞ is neither infinity. -/
theorem fin_of_lt (x : EReal) (h : FloatOps.cmpf (F := Ideal) (φ := .f32) .olt (FloatOps.absf (F := Ideal) (φ := .f32) x) (Ideal.ofBits FTy.f32 0x7F800000#32) = 1#1) : Fin' x := by
  rw [pinf] at h
  have h' : max x (-x) < ⊤ := by
    by_contra hn
    have e : (FloatOps.cmpf (F := Ideal) (φ := .f32) .olt (FloatOps.absf (F := Ideal) (φ := .f32) x) (⊤ : EReal)) = BitVec.ofBool (decide (max x (-x) < ⊤)) := rfl
    rw [e, decide_eq_false hn] at h
    exact absurd h (by decide)
  constructor
  · rintro rfl; simp at h'
  · rintro rfl; simp at h'

/-- The precondition says that the sink logits, the queries and the keys are finite. -/
theorem fin_of_pre (s : A1) (q : A8) (k v : A2)
    (h : (Cert.Pre_finite.fn (F := Ideal) s q k v).1 = (fun _ => 1#1) ∧ (Cert.Pre_finite.fn (F := Ideal) s q k v).2.1 = (fun _ => 1#1)
      ∧ (Cert.Pre_finite.fn (F := Ideal) s q k v).2.2 = (fun _ => 1#1)) :
    (∀ i, Fin' (s i)) ∧ (∀ i, Fin' (q i)) ∧ ∀ i, Fin' (k i) :=
  ⟨fun i => fin_of_lt _ (congrFun h.1 i), fun i => fin_of_lt _ (congrFun h.2.1 i), fun i => fin_of_lt _ (congrFun h.2.2 i)⟩

/-- The reference's result array is the attention of the arguments. -/
theorem ref_eq (s : A1) (q : A8) (k v : A2) (hs : ∀ i, Fin' (s i)) (hq : ∀ i, Fin' (q i)) (hk : ∀ i, Fin' (k i)) :
    Ref.result s q k v = whole s q k v := by
  funext i
  idx_vars i
  have hn := i2.isLt
  have e : (⟨256 * (i2.val / 256) + 64 * (i2.val / 64 % 4) + i2.val % 64, by omega⟩ : Fin 512) = i2 := Fin.ext (by simp only; omega)
  have h := Ref.result_apply s q k v hs hq hk i0 ⟨i2.val / 256, by omega⟩ ⟨i2.val / 64 % 4, by omega⟩ i1 ⟨i2.val % 64, by omega⟩
  simp only [e] at h
  exact h.trans (whole_apply s q k v i0 ⟨i2.val / 256, by omega⟩ ⟨i2.val / 64 % 4, by omega⟩ i1 ⟨i2.val % 64, by omega⟩ i2 (by simp only; omega)).symm

/-- The kernel runs, leaves its arguments and ends with every counter at zero. -/
theorem frame_kernel : Cert.quiescent_Kernel (hKernel := Cert.Kernel.Gen.facts) := fun m ρ _ => Cert.Kernel.Gen.frame m ρ

/-- The ideal kernel does so too. -/
theorem frame_ideal : Cert.quiescent_KernelIdeal (hKernelIdeal := Cert.KernelIdeal.Gen.facts) := fun m ρ _ => Cert.KernelIdeal.Gen.frame m ρ

/-- The ideal kernel under the precondition. -/
theorem frame_ideal_pre : Cert.quiescent_KernelIdeal_pre_finite (hKernelIdeal := Cert.KernelIdeal.Gen.facts) (hPre_finite := Cert.Pre_finite.Gen.facts) :=
  fun m ρ _ => Cert.KernelIdeal.Gen.frame m ρ

/-- The reference runs, leaves its arguments, and has no counter. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference under the precondition. -/
theorem frame_ref_pre : Cert.quiescent_ReferenceIdeal_pre_finite (hReferenceIdeal := Cert.ReferenceIdeal.Gen.facts) (hPre_finite := Cert.Pre_finite.Gen.facts) :=
  fun m ρ _ => frame_ref m ρ trivial

/-- The ideal kernel is the kernel with its mask value read as −∞. -/
theorem preserved : Cert.preserves_Kernel_KernelIdeal := ⟨rfl, fun _ => rfl, rfl⟩

/-- On finite sink logits, queries and keys the kernel and the reference end with the same array. -/
theorem equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m ρ m' ρ' hp hag =>
  ⟨fun c => whole (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    (θ_run Cert.KernelIdeal.defs _ _).mono (fun _ h c => ⟨(h c).1.trans (arr_eq m c), (h c).2⟩) (Cert.KernelIdeal.Value.run_blocks (F := Ideal) m ρ),
    (θ_run Cert.ReferenceIdeal.defs _ _).mono (fun _ h c => ⟨(h c).1.trans (by
        rw [Ref.res_eq m' c, (hag c).1, (hag c).2.1, (hag c).2.2.1, (hag c).2.2.2]
        obtain ⟨hs, hq, hk⟩ := fin_of_pre _ _ _ _ (hp c)
        exact ref_eq _ _ _ _ hs hq hk), (h c).2⟩)
      (Cert.ReferenceIdeal.Value.run (F := Ideal) m' ρ')⟩

end Cert.Proof.At
end
-- ==== Proof.In.Spec.lean ====
module

public import proofs.«01_k».proof.Proof.Gen.InProjIdeal.Value
public import Idealize.ShloMosaic.Lib.Pointwise

@[expose] public section

noncomputable section

namespace Cert.Proof.In

open Idealize.ShloMosaic

/-- A row's mean square. -/
def meanSq (x : Fin 1024 → EReal) : EReal := Ideal.div (∑ d, x d * x d) (Ideal.ofBits .f32 0x44800000#32)

/-- A row normalised by the root of its mean square, weighted by `g`, scaled by `1 + sc` and shifted by `sh`. -/
def hidden (x g sc sh : Fin 1024 → EReal) (d : Fin 1024) : EReal :=
  x d * Ideal.rsqrt (meanSq x + Ideal.ofBits .f32 0x358637BD#32) * g d * (Ideal.ofBits .f32 0x3F800000#32 + sc d) + sh d

/-- The projected row at a column, `w` being the column's weights. -/
def proj (x g sc sh w : Fin 1024 → EReal) : EReal := ∑ d, hidden x g sc sh d * w d

/-- The axial rotation at lane `n`: of the 32 lanes of an axis the first sixteen turn against the lane sixteen above, the
    others with the lane sixteen below; `p` is the row by lane, `co` and `si` the cosine and the sine. -/
def turn (p : ℕ → EReal) (n : ℕ) (co si : EReal) : EReal :=
  p n * co + (if n % 32 < 16 then -(p (n + 16)) else p (n - 16)) * si

/-! ## The four results, by index, of the six arguments -/

abbrev Ax := FVec Ideal ⟨3, ![8, 4352, 1024]⟩ .f32
abbrev Am := FVec Ideal ⟨3, ![16, 1, 6144]⟩ .f32
abbrev Ag := FVec Ideal ⟨1, ![1024]⟩ .f32
abbrev Aw := FVec Ideal ⟨2, ![1024, 2688]⟩ .f32
abbrev Ac := FVec Ideal ⟨2, ![4096, 64]⟩ .f32

/-- The modulation row of a position: the one after the batches' for the context, the batch's own for the latents. -/
def modRow (b : Fin 8) (t : Fin 4352) : Fin 16 := ⟨if t.val < 256 then 8 else b.val, by split <;> omega⟩

/-- The projection at a batch, a position and a column. -/
def out (x : Ax) (md : Am) (g : Ag) (w : Aw) (b : Fin 8) (t : Fin 4352) (n : ℕ) : EReal :=
  if h : n < 2688 then
    proj (fun d => x (ix3 b t d)) (fun d => g (ix1 d)) (fun d => md (ix3 (modRow b t) 0 ⟨1024 + d.val, by omega⟩)) (fun d => md (ix3 (modRow b t) 0 ⟨d.val, by omega⟩))
      (fun d => w (ix2 d ⟨n, h⟩))
  else 0

/-- A table's entry for a position and a column: `z` for the context, the table's for the latents, the same for every head. -/
def ent (z : EReal) (co : Ac) (t : Fin 4352) (n : ℕ) : EReal :=
  if h : t.val < 256 then z else co (ix2 ⟨t.val - 256, by omega⟩ ⟨n % 64, Nat.mod_lt _ (by decide)⟩)

/-- The rotated projection at a batch, a position and a column. -/
def rot (x : Ax) (md : Am) (g : Ag) (w : Aw) (co si : Ac) (b : Fin 8) (t : Fin 4352) (n : ℕ) : EReal :=
  turn (out x md g w b t) n (ent 1 co t n) (ent 0 si t n)

/-- The queries: rotated, scaled by 1/8, by head. -/
def qArr (x : Ax) (md : Am) (g : Ag) (w : Aw) (co si : Ac) : FVec Ideal ⟨4, ![8, 8, 4352, 64]⟩ .bf16 :=
  fun i => rot x md g w co si (i 0) (i 2) (64 * (i 1).val + (i 3).val) * Ideal.ofBits .f32 0x3E000000#32

/-- The keys: rotated, by head. -/
def kArr (x : Ax) (md : Am) (g : Ag) (w : Aw) (co si : Ac) : FVec Ideal ⟨4, ![8, 2, 4352, 64]⟩ .bf16 :=
  fun i => rot x md g w co si (i 0) (i 2) (512 + 64 * (i 1).val + (i 3).val)

/-- The values, by head. -/
def vArr (x : Ax) (md : Am) (g : Ag) (w : Aw) : FVec Ideal ⟨4, ![8, 2, 4352, 64]⟩ .bf16 :=
  fun i => out x md g w (i 0) (i 2) (640 + 64 * (i 1).val + (i 3).val)

/-- The remaining columns. -/
def rArr (x : Ax) (md : Am) (g : Ag) (w : Aw) : FVec Ideal ⟨3, ![8, 4352, 1920]⟩ .f32 :=
  fun i => out x md g w (i 0) (i 1) (768 + (i 2).val)

end Cert.Proof.In

end
-- ==== Proof.In.Body.lean ====
module

public import proofs.«01_k».proof.Proof.In.Spec
public import Idealize.ShloMosaic.Lib.WordCmp

@[expose] public section

set_option maxRecDepth 16384

noncomputable section

namespace Cert.Proof.In

open Cert.InProjIdeal Cert.InProjIdeal.Gen Idealize.ShloMosaic Idealize.ShloMosaic.TcCoe Idealize.SL.Sem

/-- The reciprocal roots of the rows' mean squares. -/
def rs (v0 : Vec Ideal S1x256x1024 .f32) : FVec Ideal S256x1 .f32 :=
  rsqrt (addf (divf (shapeCast S256x1 (multiReduction .add [1] S256 (mulf (shapeCast S256x1024 v0 shapeCasts_S1x256x1024_S256x1024) (shapeCast S256x1024 v0 shapeCasts_S1x256x1024_S256x1024)) 0x00000000#32 reduces_S256x1024_S256 (.inl rfl) rfl) shapeCasts_S256_S256x1)
    (broadcast S256x1 (Scalar.ofBits .f32 0x44800000#32))) (broadcast S256x1 (Scalar.ofBits .f32 0x358637BD#32)))

/-- The rows, normalised, weighted, scaled and shifted. -/
def hid (r : FVec Ideal S256x1 .f32) (v0 : Vec Ideal S1x256x1024 .f32) (v2 : Vec Ideal S1x1024 .f32) (v16 v18 : Vec Ideal S1x1x1024 .f32) : FVec Ideal S256x1024 .bf16 :=
  truncf .bf16 (addf (mulf (mulf (mulf (shapeCast S256x1024 v0 shapeCasts_S1x256x1024_S256x1024) (broadcastTo S256x1024 r broadcasts_S256x1_S256x1024))
      (broadcastTo S256x1024 (shapeCast S1x1024 v2 shapeCasts_S1x1024_S1x1024) broadcasts_S1x1024_S256x1024))
    (broadcastTo S256x1024 (addf (broadcast S1x1024 (Scalar.ofBits .f32 0x3F800000#32)) (shapeCast S1x1024 v18 shapeCasts_S1x1x1024_S1x1024)) broadcasts_S1x1024_S256x1024))
    (broadcastTo S256x1024 (shapeCast S1x1024 v16 shapeCasts_S1x1x1024_S1x1024) broadcasts_S1x1024_S256x1024)) bitsLt_bf16_f32

/-- The product with the weights. -/
def mm (h : FVec Ideal S256x1024 .bf16) (w : Vec Ideal S1024x2688 .bf16) : FVec Ideal S256x2688 .f32 :=
  matmul (φ₂ := .bf16) dot_S256x1024_S1024x2688_S256x2688_1_0_0_1_n_n none h (shapeCast S1024x2688 w shapeCasts_S1024x2688_S1024x2688) (constant S256x2688 .f32 0x00000000#32)

theorem pay4_eq (v0 : Vec Ideal S1x256x1024 .f32) (v2 : Vec Ideal S1x1024 .f32) (v16 v18 : Vec Ideal S1x1x1024 .f32) (w : Vec Ideal S1024x2688 .bf16) :
    k0_pay4 v0 v2 v16 v18 w = mm (hid (rs v0) v0 v2 v16 v18) w := rfl

theorem rs_apply (v0 : Vec Ideal S1x256x1024 .f32) (r : Fin 256) :
    rs v0 (ix2 r 0) = Ideal.rsqrt (meanSq (fun d => v0 (ix3 0 r d)) + Ideal.ofBits .f32 0x358637BD#32) := by
  unfold meanSq
  pointwise [rs]

theorem hid_apply (q : FVec Ideal S256x1 .f32) (v0 : Vec Ideal S1x256x1024 .f32) (v2 : Vec Ideal S1x1024 .f32) (v16 v18 : Vec Ideal S1x1x1024 .f32) (r : Fin 256) (d : Fin 1024) :
    hid q v0 v2 v16 v18 (ix2 r d) = v0 (ix3 0 r d) * q (ix2 r 0) * v2 (ix2 0 d) * (Ideal.ofBits .f32 0x3F800000#32 + v18 (ix3 0 0 d)) + v16 (ix3 0 0 d) := by
  pointwise [hid]

theorem mm_apply (h : FVec Ideal S256x1024 .bf16) (w : Vec Ideal S1024x2688 .bf16) (r : Fin 256) (n : Fin 2688) :
    mm h w (ix2 r n) = ∑ d : Fin 1024, h (ix2 r d) * w (ix2 d n) := by
  pointwise [mm]

/-- The product at a row and a column is the projected row. -/
theorem pay4_apply (v0 : Vec Ideal S1x256x1024 .f32) (v2 : Vec Ideal S1x1024 .f32) (v16 v18 : Vec Ideal S1x1x1024 .f32) (w : Vec Ideal S1024x2688 .bf16) (r : Fin 256) (n : Fin 2688) :
    k0_pay4 v0 v2 v16 v18 w (ix2 r n)
      = proj (fun d => v0 (ix3 0 r d)) (fun d => v2 (ix2 0 d)) (fun d => v18 (ix3 0 0 d)) (fun d => v16 (ix3 0 0 d)) (fun d => w (ix2 d n)) := by
  rw [pay4_eq, mm_apply]
  unfold proj hidden
  exact Finset.sum_congr rfl fun d _ => by rw [hid_apply, rs_apply]

/-- The rotation of a tile of 128 lanes. -/
def rope (t c s : FVec Ideal S256x128 .f32) (m : IVec S256x128 1) : FVec Ideal S256x128 .f32 :=
  addf (mulf t c) (mulf (select m (subf (broadcast S256x128 (Scalar.ofBits .f32 0x00000000#32)) (dynamicRotate 1 112#32 none t rotates_S256x128_d1)) (dynamicRotate 1 16#32 none t rotates_S256x128_d1)) s)

/-- The rotation of a tile, scaled by 1/8. -/
def ropeS (t c s : FVec Ideal S256x128 .f32) (m : IVec S256x128 1) : FVec Ideal S256x128 .bf16 :=
  truncf .bf16 (mulf (rope t c s m) (broadcast S256x128 (Scalar.ofBits .f32 0x3E000000#32))) bitsLt_bf16_f32

/-- The mask of the lanes that turn against the lane above. -/
def low : IVec S256x128 1 := k0_pay7 (iota .tc S256x128 32 [1] iota_S256x128_d1_w32) 31#32

theorem low_apply (r : Fin 256) (l : Fin 128) : low (ix2 r l) = 1#1 ↔ l.val % 32 < 16 := by
  have h : ∀ l : Fin 128, low (ix2 0 l) = 1#1 ↔ l.val % 32 < 16 := by decide +kernel
  exact h l

theorem sel (t : FVec Ideal S256x128 .f32) (m : IVec S256x128 1) (r : Fin 256) (l : Fin 128) :
    (select m (subf (broadcast S256x128 (Scalar.ofBits .f32 0x00000000#32)) (dynamicRotate 1 112#32 none t rotates_S256x128_d1)) (dynamicRotate 1 16#32 none t rotates_S256x128_d1) : FVec Ideal S256x128 .f32) (ix2 r l)
      = if m (ix2 r l) = 1#1 then 0 - t (ix2 r ⟨(l.val + 16) % 128, Nat.mod_lt _ (by decide)⟩) else t (ix2 r ⟨(l.val + 112) % 128, Nat.mod_lt _ (by decide)⟩) := by
  pointwise []
  rfl

theorem rope_apply (t c s : FVec Ideal S256x128 .f32) (r : Fin 256) (l : Fin 128) :
    rope t c s low (ix2 r l) = t (ix2 r l) * c (ix2 r l)
      + (if l.val % 32 < 16 then 0 - t (ix2 r ⟨(l.val + 16) % 128, Nat.mod_lt _ (by decide)⟩) else t (ix2 r ⟨(l.val + 112) % 128, Nat.mod_lt _ (by decide)⟩)) * s (ix2 r l) := by
  have e := sel t low r l
  simp only [low_apply] at e
  rw [← e]
  rfl

/-- A row of the product by column. -/
def rowAt (P : FVec Ideal S256x2688 .f32) (r : Fin 256) (n : ℕ) : EReal := if h : n < 2688 then P (ix2 r ⟨n, h⟩) else 0

/-- A table's entry at a row and a lane. -/
def tab (c : FVec Ideal S256x128 .f32) (r : Fin 256) (n : ℕ) : EReal := c (ix2 r ⟨n % 128, Nat.mod_lt _ (by decide)⟩)

/-- The rotated product at a row and a column. -/
def turned (P : FVec Ideal S256x2688 .f32) (c s : FVec Ideal S256x128 .f32) (r : Fin 256) (n : ℕ) : EReal :=
  turn (rowAt P r) n (tab c r n) (tab s r n)

/-- The rotation of the tile whose lane `l` is column `o + l` of the product, `o` a multiple of 128. -/
theorem rope_turn (P : FVec Ideal S256x2688 .f32) (o : ℕ) (ho : o % 128 = 0) (t c s : FVec Ideal S256x128 .f32) (r : Fin 256)
    (ht : ∀ l : Fin 128, t (ix2 r l) = rowAt P r (o + l.val)) (l : Fin 128) :
    rope t c s low (ix2 r l) = turned P c s r (o + l.val) := by
  have hl := l.isLt
  have ht' : ∀ n (h : n < 128), t (ix2 r ⟨n, h⟩) = rowAt P r (o + n) := fun n h => ht ⟨n, h⟩
  have hb : ∀ c : FVec Ideal S256x128 .f32, tab c r (o + l.val) = c (ix2 r l) := fun c =>
    congrArg (fun k => c (ix2 r k)) (Fin.ext (by show (o + l.val) % 128 = l.val; omega))
  rw [rope_apply, ht, ht', ht']
  unfold turned turn
  have hm : (o + l.val) % 32 = l.val % 32 := by omega
  rw [hb, hb, hm]
  by_cases hc : l.val % 32 < 16
  · rw [if_pos hc, if_pos hc, show o + (l.val + 16) % 128 = o + l.val + 16 by omega, zero_sub]
  · rw [if_neg hc, if_neg hc, show o + (l.val + 112) % 128 = o + l.val - 16 by omega]

/-- A slice of 128 columns of the product. -/
theorem cols_apply (P : FVec Ideal S256x2688 .f32) (o : ℕ) (h : S256x2688.Slices ![0, o] S256x128) (ho : o + 128 ≤ 2688) (r : Fin 256) (l : Fin 128) :
    extractStridedSlice S256x128 ![0, o] P h (ix2 r l) = rowAt P r (o + l.val) := by
  have hl : o + l.val < 2688 := by have := l.isLt; omega
  unfold rowAt
  rw [dif_pos hl]
  refine extractStridedSlice_apply ![0, o] P h (ix2 r l) (ix2 r ⟨o + l.val, hl⟩) fun a => ?_
  match a with
  | ⟨0, _⟩ => exact (Nat.zero_add _).symm
  | ⟨1, _⟩ => rfl

/-- A head of a tile: half of its lanes, as a block of one head. -/
theorem head_apply (T : FVec Ideal S256x128 .bf16) (e : ℕ) (he : e + 64 ≤ 128) (h : S256x128.Slices ![0, e] S256x64) (h' : S256x64.ShapeCasts S1x1x256x64) (u v : Fin 1) (r : Fin 256) (d : Fin 64) :
    (shapeCast S1x1x256x64 (extractStridedSlice S256x64 ![0, e] T h) h' : FVec Ideal S1x1x256x64 .bf16) (ix4 u v r d) = T (ix2 r ⟨e + d.val, by have := d.isLt; omega⟩) := by
  have e1 : (shapeCast S1x1x256x64 (extractStridedSlice S256x64 ![0, e] T h) h' : FVec Ideal S1x1x256x64 .bf16) (ix4 u v r d) = extractStridedSlice S256x64 ![0, e] T h (ix2 r d) := by
    pointwise []
  rw [e1]
  refine extractStridedSlice_apply ![0, e] T h (ix2 r d) (ix2 r ⟨e + d.val, by have := d.isLt; omega⟩) fun a => ?_
  match a with
  | ⟨0, _⟩ => exact (Nat.zero_add _).symm
  | ⟨1, _⟩ => rfl

/-- A query block: the rotated product by head, scaled by 1/8. -/
def qBlk (P : FVec Ideal S256x2688 .f32) (c s : FVec Ideal S256x128 .f32) : Vec Ideal S1x8x256x64 .bf16 :=
  fun y => turned P c s (y 2) (64 * (y 1).val + (y 3).val) * Ideal.ofBits .f32 0x3E000000#32

/-- A key block: the rotated product by head, from column 512. -/
def kBlk (P : FVec Ideal S256x2688 .f32) (c s : FVec Ideal S256x128 .f32) : Vec Ideal S1x2x256x64 .bf16 :=
  fun y => turned P c s (y 2) (512 + 64 * (y 1).val + (y 3).val)

/-- The block index under a one-head rectangle's index has the rectangle's head and the index's row and lane. -/
theorem under {n : ℕ} (hd : ℕ) (inb : ∀ a, (![0, hd, 0, 0] : Fin 4 → Nat) a + S1x1x256x64.size a ≤ (⟨4, ![1, n, 256, 64]⟩ : Shape).size a) (u v : Fin 1) (r : Fin 256) (d : Fin 64) :
    (((Rect.unit (s := ⟨4, ![1, n, 256, 64]⟩) ![0, hd, 0, 0] S1x1x256x64.size inb).idx (ix4 u v r d)) 1).val = hd
    ∧ ((Rect.unit (s := ⟨4, ![1, n, 256, 64]⟩) ![0, hd, 0, 0] S1x1x256x64.size inb).idx (ix4 u v r d)) 2 = r
    ∧ (((Rect.unit (s := ⟨4, ![1, n, 256, 64]⟩) ![0, hd, 0, 0] S1x1x256x64.size inb).idx (ix4 u v r d)) 3).val = d.val := by
  refine ⟨?_, Fin.ext ?_, ?_⟩
  · show hd + 1 * v.val = hd
    omega
  · show 0 + 1 * r.val = r.val
    omega
  · show 0 + 1 * d.val = d.val
    omega

/-- One stored head of the queries. -/
theorem q_piece (P : FVec Ideal S256x2688 .f32) (c s : FVec Ideal S256x128 .f32) (o e hd : ℕ) (ho : o % 128 = 0) (hoe : o + e = 64 * hd) (hb : o + 128 ≤ 2688) (he : e + 64 ≤ 128)
    (h : S256x2688.Slices ![0, o] S256x128) (h1 : S256x128.Slices ![0, e] S256x64) (h2 : S256x64.ShapeCasts S1x1x256x64)
    (inb : ∀ a, (![0, hd, 0, 0] : Fin 4 → Nat) a + S1x1x256x64.size a ≤ S1x8x256x64.size a) (x : S1x1x256x64.Idx) :
    (shapeCast S1x1x256x64 (extractStridedSlice S256x64 ![0, e] (ropeS (extractStridedSlice S256x128 ![0, o] P h) c s low) h1) h2 : FVec Ideal S1x1x256x64 .bf16) x
      = qBlk P c s ((Rect.unit (s := S1x8x256x64) ![0, hd, 0, 0] S1x1x256x64.size inb).idx x) := by
  idx_vars x
  obtain ⟨w1, w2, w3⟩ := under (n := 8) hd inb x0 x1 x2 x3
  rw [head_apply _ _ he]
  unfold qBlk
  rw [w1, w2, w3, ← hoe, Nat.add_assoc]
  exact congrArg (· * Ideal.ofBits .f32 0x3E000000#32) (rope_turn P o ho _ c s x2 (cols_apply P o h hb x2) ⟨e + x3.val, _⟩)

/-- One stored head of the keys. -/
theorem k_piece (P : FVec Ideal S256x2688 .f32) (c s : FVec Ideal S256x128 .f32) (e hd : ℕ) (hoe : e = 64 * hd) (he : e + 64 ≤ 128)
    (h : S256x2688.Slices ![0, 512] S256x128) (h1 : S256x128.Slices ![0, e] S256x64) (h2 : S256x64.ShapeCasts S1x1x256x64)
    (inb : ∀ a, (![0, hd, 0, 0] : Fin 4 → Nat) a + S1x1x256x64.size a ≤ S1x2x256x64.size a) (x : S1x1x256x64.Idx) :
    (shapeCast S1x1x256x64 (extractStridedSlice S256x64 ![0, e] (truncf .bf16 (rope (extractStridedSlice S256x128 ![0, 512] P h) c s low) bitsLt_bf16_f32) h1) h2 : FVec Ideal S1x1x256x64 .bf16) x
      = kBlk P c s ((Rect.unit (s := S1x2x256x64) ![0, hd, 0, 0] S1x1x256x64.size inb).idx x) := by
  idx_vars x
  obtain ⟨w1, w2, w3⟩ := under (n := 2) hd inb x0 x1 x2 x3
  rw [head_apply _ _ he]
  unfold kBlk
  rw [w1, w2, w3, ← hoe, Nat.add_assoc]
  exact rope_turn P 512 rfl _ c s x2 (cols_apply P 512 h (by decide) x2) ⟨e + x3.val, _⟩

section Blocks

variable (x0 : Vec Ideal S1x256x1024 .f32) (x1 : Vec Ideal S1x1x6144 .f32) (x2 : Vec Ideal S1x1024 .f32) (x3 : Vec Ideal S1024x2688 .bf16) (x4 x5 : Vec Ideal S256x128 .f32)

theorem out6 (y : S1x8x256x64.Idx) :
    out0_6 x0 x1 x2 x3 x4 x5 y = qBlk (k0_pay28 x0 x1 x2 x3 x4 x5) (k0_pay29 x0 x1 x2 x3 x4 x5) (k0_pay30 x0 x1 x2 x3 x4 x5) y := by
  refine View.canon_apply_of_pieces (qBlk (k0_pay28 x0 x1 x2 x3 x4 x5) (k0_pay29 x0 x1 x2 x3 x4 x5) (k0_pay30 x0 x1 x2 x3 x4 x5)) _ ?_ y (cover0_6 _ _ _ _ _ _ _ _ y)
  intro pc hpc
  rcases List.mem_cons.mp hpc with rfl | hpc
  · exact q_piece _ _ _ 384 64 7 rfl rfl (by decide) (by decide) slices_S256x2688_o0_384_S256x128 slices_S256x128_o0_64_S256x64 shapeCasts_S256x64_S1x1x256x64 inb_S1x8x256x64_S1x1x256x64_0_7_0_0
  rcases List.mem_cons.mp hpc with rfl | hpc
  · exact q_piece _ _ _ 384 0 6 rfl rfl (by decide) (by decide) slices_S256x2688_o0_384_S256x128 slices_S256x128_o0_0_S256x64 shapeCasts_S256x64_S1x1x256x64 inb_S1x8x256x64_S1x1x256x64_0_6_0_0
  rcases List.mem_cons.mp hpc with rfl | hpc
  · exact q_piece _ _ _ 256 64 5 rfl rfl (by decide) (by decide) slices_S256x2688_o0_256_S256x128 slices_S256x128_o0_64_S256x64 shapeCasts_S256x64_S1x1x256x64 inb_S1x8x256x64_S1x1x256x64_0_5_0_0
  rcases List.mem_cons.mp hpc with rfl | hpc
  · exact q_piece _ _ _ 256 0 4 rfl rfl (by decide) (by decide) slices_S256x2688_o0_256_S256x128 slices_S256x128_o0_0_S256x64 shapeCasts_S256x64_S1x1x256x64 inb_S1x8x256x64_S1x1x256x64_0_4_0_0
  rcases List.mem_cons.mp hpc with rfl | hpc
  · exact q_piece _ _ _ 128 64 3 rfl rfl (by decide) (by decide) slices_S256x2688_o0_128_S256x128 slices_S256x128_o0_64_S256x64 shapeCasts_S256x64_S1x1x256x64 inb_S1x8x256x64_S1x1x256x64_0_3_0_0
  rcases List.mem_cons.mp hpc with rfl | hpc
  · exact q_piece _ _ _ 128 0 2 rfl rfl (by decide) (by decide) slices_S256x2688_o0_128_S256x128 slices_S256x128_o0_0_S256x64 shapeCasts_S256x64_S1x1x256x64 inb_S1x8x256x64_S1x1x256x64_0_2_0_0
  rcases List.mem_cons.mp hpc with rfl | hpc
  · exact q_piece _ _ _ 0 64 1 rfl rfl (by decide) (by decide) slices_S256x2688_o0_0_S256x128 slices_S256x128_o0_64_S256x64 shapeCasts_S256x64_S1x1x256x64 inb_S1x8x256x64_S1x1x256x64_0_1_0_0
  rcases List.mem_cons.mp hpc with rfl | hpc
  · exact q_piece _ _ _ 0 0 0 rfl rfl (by decide) (by decide) slices_S256x2688_o0_0_S256x128 slices_S256x128_o0_0_S256x64 shapeCasts_S256x64_S1x1x256x64 inb_S1x8x256x64_S1x1x256x64_0_0_0_0
  nomatch hpc

theorem out7 (y : S1x2x256x64.Idx) :
    out0_7 x0 x1 x2 x3 x4 x5 y = kBlk (k0_pay28 x0 x1 x2 x3 x4 x5) (k0_pay29 x0 x1 x2 x3 x4 x5) (k0_pay30 x0 x1 x2 x3 x4 x5) y := by
  refine View.canon_apply_of_pieces (kBlk (k0_pay28 x0 x1 x2 x3 x4 x5) (k0_pay29 x0 x1 x2 x3 x4 x5) (k0_pay30 x0 x1 x2 x3 x4 x5)) _ ?_ y (cover0_7 _ _ y)
  intro pc hpc
  rcases List.mem_cons.mp hpc with rfl | hpc
  · exact k_piece _ _ _ 64 1 rfl (by decide) slices_S256x2688_o0_512_S256x128 slices_S256x128_o0_64_S256x64 shapeCasts_S256x64_S1x1x256x64 inb_S1x2x256x64_S1x1x256x64_0_1_0_0
  rcases List.mem_cons.mp hpc with rfl | hpc
  · exact k_piece _ _ _ 0 0 rfl (by decide) slices_S256x2688_o0_512_S256x128 slices_S256x128_o0_0_S256x64 shapeCasts_S256x64_S1x1x256x64 inb_S1x2x256x64_S1x1x256x64_0_0_0_0
  nomatch hpc

theorem ld_0 (r : Fin 256) (d : Fin 1024) : View.ld x0 r0_0 (ix3 0 r d) = x0 (ix3 0 r d) :=
  congrArg x0 (funext fun a => Fin.ext (by
    match a with
    | ⟨0, _⟩ => rfl
    | ⟨1, _⟩ => show 0 + 1 * r.val = r.val; omega
    | ⟨2, _⟩ => show 0 + 1 * d.val = d.val; omega))

theorem ld_1 (d : Fin 1024) : View.ld x2 r0_1 (ix2 0 d) = x2 (ix2 0 d) :=
  congrArg x2 (funext fun a => Fin.ext (by
    match a with
    | ⟨0, _⟩ => rfl
    | ⟨1, _⟩ => show 0 + 1 * d.val = d.val; omega))

theorem ld_2 (d : Fin 1024) : View.ld x1 r0_2 (ix3 0 0 d) = x1 (ix3 0 0 ⟨d.val, by omega⟩) :=
  congrArg x1 (funext fun a => Fin.ext (by
    match a with
    | ⟨0, _⟩ => rfl
    | ⟨1, _⟩ => rfl
    | ⟨2, _⟩ => show 0 + 1 * d.val = d.val; omega))

theorem ld_3 (d : Fin 1024) : View.ld x1 r0_3 (ix3 0 0 d) = x1 (ix3 0 0 ⟨1024 + d.val, by omega⟩) :=
  congrArg x1 (funext fun a => Fin.ext (by
    match a with
    | ⟨0, _⟩ => rfl
    | ⟨1, _⟩ => rfl
    | ⟨2, _⟩ => show 1024 + 1 * d.val = 1024 + d.val; omega))

theorem ld_4 (d : Fin 1024) (n : Fin 2688) : View.ld x3 r0_4 (ix2 d n) = x3 (ix2 d n) :=
  congrArg x3 (funext fun a => Fin.ext (by
    match a with
    | ⟨0, _⟩ => show 0 + 1 * d.val = d.val; omega
    | ⟨1, _⟩ => show 0 + 1 * n.val = n.val; omega))

theorem ld_5 (r : Fin 256) (l : Fin 128) : View.ld x4 r0_5 (ix2 r l) = x4 (ix2 r l) :=
  congrArg x4 (funext fun a => Fin.ext (by
    match a with
    | ⟨0, _⟩ => show 0 + 1 * r.val = r.val; omega
    | ⟨1, _⟩ => show 0 + 1 * l.val = l.val; omega))

/-- The product of the blocks at a row and a column. -/
theorem pay28_apply (r : Fin 256) (n : Fin 2688) :
    k0_pay28 x0 x1 x2 x3 x4 x5 (ix2 r n)
      = proj (fun d => x0 (ix3 0 r d)) (fun d => x2 (ix2 0 d)) (fun d => x1 (ix3 0 0 ⟨1024 + d.val, by omega⟩)) (fun d => x1 (ix3 0 0 ⟨d.val, by omega⟩)) (fun d => x3 (ix2 d n)) := by
  unfold k0_pay28
  rw [pay4_apply]
  exact congr (congr (congr (congr (congrArg proj (funext fun d => ld_0 x0 r d)) (funext fun d => ld_1 x2 d)) (funext fun d => ld_3 x1 d)) (funext fun d => ld_2 x1 d))
    (funext fun d => ld_4 x3 d n)

theorem pay29_apply (r : Fin 256) (n : ℕ) : tab (k0_pay29 x0 x1 x2 x3 x4 x5) r n = x4 (ix2 r ⟨n % 128, Nat.mod_lt _ (by decide)⟩) := by
  unfold tab k0_pay29 k0_pay5
  rw [shapeCast_self, ld_5]

theorem pay30_apply (r : Fin 256) (n : ℕ) : tab (k0_pay30 x0 x1 x2 x3 x4 x5) r n = x5 (ix2 r ⟨n % 128, Nat.mod_lt _ (by decide)⟩) := by
  unfold tab k0_pay30 k0_pay6
  rw [shapeCast_self, ld_5]

end Blocks

end Cert.Proof.In

end
-- ==== Proof.In.Blocks.lean ====
module

public import proofs.«01_k».proof.Proof.In.Body
public import Idealize.ShloMosaic.Lib.Pipeline.ValueKit

@[expose] public section

set_option maxRecDepth 16384

noncomputable section

namespace Cert.Proof.In

open Cert.InProjIdeal Cert.InProjIdeal.Gen Idealize.ShloMosaic Idealize.ShloMosaic.TcCoe Idealize.SL.Sem

/-- The windows' block indices at a point. -/
theorem ix_0 : ∀ t : Fin grid0.N, win0_0.index t = ![t.val / 17, t.val % 17, 0] := by decide +kernel
theorem ix_1 : ∀ t : Fin grid0.N, win0_1.index t = ![if t.val % 17 < 1 then 8 else t.val / 17, 0, 0] := by decide +kernel
theorem ix_2 : ∀ t : Fin grid0.N, win0_2.index t = ![0, 0] := by decide +kernel
theorem ix_3 : ∀ t : Fin grid0.N, win0_3.index t = ![0, 0] := by decide +kernel
theorem ix_4 : ∀ t : Fin grid0.N, win0_4.index t = ![t.val % 17, 0] := by decide +kernel
theorem ix_5 : ∀ t : Fin grid0.N, win0_5.index t = ![t.val % 17, 0] := by decide +kernel
theorem ix_6 : ∀ t : Fin grid0.N, win0_6.index t = ![t.val / 17, 0, t.val % 17, 0] := by decide +kernel
theorem ix_7 : ∀ t : Fin grid0.N, win0_7.index t = ![t.val / 17, 0, t.val % 17, 0] := by decide +kernel
theorem ix_8 : ∀ t : Fin grid0.N, win0_8.index t = ![t.val / 17, 0, t.val % 17, 0] := by decide +kernel
theorem ix_9 : ∀ t : Fin grid0.N, win0_9.index t = ![t.val / 17, t.val % 17, 0] := by decide +kernel

/-- A table as the call stages it: rows `z` for the context put before it, and each row twice. -/
def staged (z : BitVec 32) (co : FVec Ideal S4096x64 .f32) : FVec Ideal S4352x128 .f32 :=
  shapeCast S4352x128 (broadcastInDim S1x4352x2x64 ![0, 1, 2, 3] bcast_S1x4352x1x64_S1x4352x2x64_0_1_2_3
    (shapeCast S1x4352x1x64 (concatenate S4352x64 0 [⟨S256x64, (broadcastInDim S256x64 ![] bcast_S_S256x64 (constant S_ .f32 z : FVec Ideal S_ .f32) : FVec Ideal S256x64 .f32)⟩, ⟨S4096x64, co⟩] concatenates_S256x64_S4096x64_S4352x64_d0)
      shapeCasts_S4352x64_S1x4352x1x64)) shapeCasts_S1x4352x2x64_S4352x128

theorem staged_apply (z : BitVec 32) (co : FVec Ideal S4096x64 .f32) (t : Fin 4352) (l : Fin 128) :
    staged z co (ix2 t l) = ent (Ideal.ofBits .f32 z) co t l.val := by
  unfold ent
  pointwise [staged]

variable (m : (ℓ : Loc nD τ sig) → Buf (Elt Ideal) ℓ) (c : Dev nD)

/-- The call's six arguments. -/
abbrev aX : Ax := m ((c : Thread nD τ).loc main_arg0)
abbrev aM : Am := m ((c : Thread nD τ).loc main_arg1)
abbrev aG : Ag := m ((c : Thread nD τ).loc main_arg2)
abbrev aW : Aw := m ((c : Thread nD τ).loc main_arg3)
abbrev aC : Ac := m ((c : Thread nD τ).loc main_arg4)
abbrev aS : Ac := m ((c : Thread nD τ).loc main_arg5)

theorem V_v6 : V m c main_v6 = staged 0x3F800000#32 (aC m c) := by
  unfold_abbrev_sides
  after_results_simp
  rfl

theorem V_v9 : V m c main_v9 = staged 0x00000000#32 (aS m c) := by
  unfold_abbrev_sides
  after_results_simp
  rfl

theorem V_v10 : V m c main_v10 = shapeCast S1x1024 (aG m c) shapeCasts_S1024_S1x1024 := by
  unfold_abbrev_sides
  after_results_simp
  rfl

theorem V_v11 : V m c main_v11 = truncf (F := Ideal) .bf16 (aW m c) bitsLt_bf16_f32 := by
  unfold_abbrev_sides
  after_results_simp

/-- The batch a point works on. -/
def bat (t : Fin cfg0.N) : Fin 8 := ⟨t.val / 17, by have := lt_of_lt_of_eq t.isLt N_0; omega⟩

theorem blk_0 (t : Fin cfg0.N) (r : Fin 256) (d : Fin 1024) (u : Fin 4352) (hu : u.val = 256 * (t.val % 17) + r.val) :
    (iblk m c 0 t : Vec Ideal S1x256x1024 .f32) (ix3 0 r d) = aX m c (ix3 (bat t) u d) := by
  blk_ext [iblk, V, ix_0 t, bat]

theorem blk_1 (t : Fin cfg0.N) (r : Fin 256) (k : Fin 6144) (u : Fin 4352) (hu : u.val = 256 * (t.val % 17) + r.val) :
    (iblk m c 1 t : Vec Ideal S1x1x6144 .f32) (ix3 0 0 k) = aM m c (ix3 (modRow (bat t) u) 0 k) := by
  have hr := r.isLt
  have hm : (modRow (bat t) u).val = if t.val % 17 < 1 then 8 else t.val / 17 := by
    show (if u.val < 256 then 8 else t.val / 17) = _
    by_cases h : t.val % 17 < 1
    · rw [if_pos h, if_pos (by omega)]
    · rw [if_neg h, if_neg (by omega)]
  blk_ext [iblk, V, ix_1 t, hm]

theorem blk_2 (t : Fin cfg0.N) (d : Fin 1024) :
    (iblk m c 2 t : Vec Ideal S1x1024 .f32) (ix2 0 d) = aG m c (ix1 d) := by
  have e : (iblk m c 2 t : Vec Ideal S1x1024 .f32) (ix2 0 d) = (V m c main_v10 : FVec Ideal S1x1024 .f32) (ix2 0 d) := by
    blk_ext [iblk, ix_2 t]
  rw [e, V_v10]
  pointwise []

theorem blk_3 (t : Fin cfg0.N) (d : Fin 1024) (n : Fin 2688) :
    (iblk m c 3 t : Vec Ideal S1024x2688 .bf16) (ix2 d n) = aW m c (ix2 d n) := by
  have e : (iblk m c 3 t : Vec Ideal S1024x2688 .bf16) (ix2 d n) = (V m c main_v11 : FVec Ideal S1024x2688 .bf16) (ix2 d n) := by
    blk_ext [iblk, ix_3 t]
  rw [e, V_v11]
  rfl

theorem blk_4 (t : Fin cfg0.N) (r : Fin 256) (l : Fin 128) (u : Fin 4352) (hu : u.val = 256 * (t.val % 17) + r.val) :
    (iblk m c 4 t : Vec Ideal S256x128 .f32) (ix2 r l) = ent 1 (aC m c) u l.val := by
  have e : (iblk m c 4 t : Vec Ideal S256x128 .f32) (ix2 r l) = (V m c main_v6 : FVec Ideal S4352x128 .f32) (ix2 u l) := by
    blk_ext [iblk, ix_4 t]
  rw [e, V_v6, staged_apply, Ideal.ofBits_one_f32]

theorem blk_5 (t : Fin cfg0.N) (r : Fin 256) (l : Fin 128) (u : Fin 4352) (hu : u.val = 256 * (t.val % 17) + r.val) :
    (iblk m c 5 t : Vec Ideal S256x128 .f32) (ix2 r l) = ent 0 (aS m c) u l.val := by
  have e : (iblk m c 5 t : Vec Ideal S256x128 .f32) (ix2 r l) = (V m c main_v9 : FVec Ideal S4352x128 .f32) (ix2 u l) := by
    blk_ext [iblk, ix_5 t]
  rw [e, V_v9, staged_apply, Ideal.ofBits_zero_f32]

/-- The product of a point's blocks, row by row, is the projection of the arguments. -/
theorem row_eq (t : Fin cfg0.N) (r : Fin 256) (u : Fin 4352) (hu : u.val = 256 * (t.val % 17) + r.val) :
    rowAt (k0_pay28 (iblk m c 0 t) (iblk m c 1 t) (iblk m c 2 t) (iblk m c 3 t) (iblk m c 4 t) (iblk m c 5 t)) r
      = out (aX m c) (aM m c) (aG m c) (aW m c) (bat t) u := by
  funext n
  unfold rowAt out
  by_cases hn : n < 2688
  · rw [dif_pos hn, dif_pos hn]
    rw [pay28_apply]
    have e0 : (fun d => (iblk m c 0 t : Vec Ideal S1x256x1024 .f32) (ix3 0 r d)) = fun d => aX m c (ix3 (bat t) u d) := funext fun d => blk_0 m c t r d u hu
    have e1 : (fun d => (iblk m c 2 t : Vec Ideal S1x1024 .f32) (ix2 0 d)) = fun d => aG m c (ix1 d) := funext fun d => blk_2 m c t d
    have e2 : (fun d : Fin 1024 => (iblk m c 1 t : Vec Ideal S1x1x6144 .f32) (ix3 0 0 ⟨1024 + d.val, by omega⟩)) = fun d : Fin 1024 => aM m c (ix3 (modRow (bat t) u) 0 ⟨1024 + d.val, by omega⟩) :=
      funext fun d => blk_1 m c t r ⟨1024 + d.val, by omega⟩ u hu
    have e3 : (fun d : Fin 1024 => (iblk m c 1 t : Vec Ideal S1x1x6144 .f32) (ix3 0 0 ⟨d.val, by omega⟩)) = fun d : Fin 1024 => aM m c (ix3 (modRow (bat t) u) 0 ⟨d.val, by omega⟩) :=
      funext fun d => blk_1 m c t r ⟨d.val, by omega⟩ u hu
    have e4 : (fun d => (iblk m c 3 t : Vec Ideal S1024x2688 .bf16) (ix2 d ⟨n, hn⟩)) = fun d => aW m c (ix2 d ⟨n, hn⟩) := funext fun d => blk_3 m c t d ⟨n, hn⟩
    exact (congr (congr (congr (congr (congrArg proj e0) e1) e2) e3) e4)
  · rw [dif_neg hn, dif_neg hn]

/-- The staged cosines of a point, by row and column. -/
theorem cos_eq (t : Fin cfg0.N) (r : Fin 256) (u : Fin 4352) (hu : u.val = 256 * (t.val % 17) + r.val) (n : ℕ) :
    tab (k0_pay29 (iblk m c 0 t) (iblk m c 1 t) (iblk m c 2 t) (iblk m c 3 t) (iblk m c 4 t) (iblk m c 5 t)) r n = ent 1 (aC m c) u n := by
  rw [pay29_apply, blk_4 m c t r _ u hu]
  unfold ent
  simp only [show n % 128 % 64 = n % 64 by omega]

/-- The staged sines of a point, by row and column. -/
theorem sin_eq (t : Fin cfg0.N) (r : Fin 256) (u : Fin 4352) (hu : u.val = 256 * (t.val % 17) + r.val) (n : ℕ) :
    tab (k0_pay30 (iblk m c 0 t) (iblk m c 1 t) (iblk m c 2 t) (iblk m c 3 t) (iblk m c 4 t) (iblk m c 5 t)) r n = ent 0 (aS m c) u n := by
  rw [pay30_apply, blk_5 m c t r _ u hu]
  unfold ent
  simp only [show n % 128 % 64 = n % 64 by omega]

/-- The rotated product of a point, by row and column. -/
theorem turned_eq (t : Fin cfg0.N) (r : Fin 256) (u : Fin 4352) (hu : u.val = 256 * (t.val % 17) + r.val) (n : ℕ) :
    turned (k0_pay28 (iblk m c 0 t) (iblk m c 1 t) (iblk m c 2 t) (iblk m c 3 t) (iblk m c 4 t) (iblk m c 5 t))
        (k0_pay29 (iblk m c 0 t) (iblk m c 1 t) (iblk m c 2 t) (iblk m c 3 t) (iblk m c 4 t) (iblk m c 5 t))
        (k0_pay30 (iblk m c 0 t) (iblk m c 1 t) (iblk m c 2 t) (iblk m c 3 t) (iblk m c 4 t) (iblk m c 5 t)) r n
      = rot (aX m c) (aM m c) (aG m c) (aW m c) (aC m c) (aS m c) (bat t) u n := by
  unfold turned rot
  rw [row_eq m c t r u hu, cos_eq m c t r u hu, sin_eq m c t r u hu]

/-- After the run the first output's array is the queries. -/
theorem arr_6 : (dats m 0 c).arrAt 6 cfg0.N = qArr (aX m c) (aM m c) (aG m c) (aW m c) (aC m c) (aS m c) := by
  refine (dats m 0 c).arrAt_eq_of_covers 6 _ (by decide +kernel) fun t hf y => ?_
  blk_simp
  rw [after0_6]
  idx_vars y
  obtain rfl : y0 = 0 := Subsingleton.elim _ _
  have ht : t.val < 136 := lt_of_lt_of_eq t.isLt N_0
  have e : out0_6 (iblk m c 0 t) (iblk m c 1 t) (iblk m c 2 t) (iblk m c 3 t) (iblk m c 4 t) (iblk m c 5 t) (ix4 0 y1 y2 y3)
      = qArr (aX m c) (aM m c) (aG m c) (aW m c) (aC m c) (aS m c) (ix4 (bat t) y1 ⟨256 * (t.val % 17) + y2.val, by omega⟩ y3) := by
    rw [out6]
    exact congrArg (· * Ideal.ofBits .f32 0x3E000000#32) (turned_eq m c t y2 _ rfl _)
  refine e.trans ?_
  blk_ext [ix_6 t, bat]

/-- After the run the second output's array is the keys. -/
theorem arr_7 : (dats m 0 c).arrAt 7 cfg0.N = kArr (aX m c) (aM m c) (aG m c) (aW m c) (aC m c) (aS m c) := by
  refine (dats m 0 c).arrAt_eq_of_covers 7 _ (by decide +kernel) fun t hf y => ?_
  blk_simp
  rw [after0_7]
  idx_vars y
  obtain rfl : y0 = 0 := Subsingleton.elim _ _
  have ht : t.val < 136 := lt_of_lt_of_eq t.isLt N_0
  have e : out0_7 (iblk m c 0 t) (iblk m c 1 t) (iblk m c 2 t) (iblk m c 3 t) (iblk m c 4 t) (iblk m c 5 t) (ix4 0 y1 y2 y3)
      = kArr (aX m c) (aM m c) (aG m c) (aW m c) (aC m c) (aS m c) (ix4 (bat t) y1 ⟨256 * (t.val % 17) + y2.val, by omega⟩ y3) := by
    rw [out7]
    exact turned_eq m c t y2 _ rfl _
  refine e.trans ?_
  blk_ext [ix_7 t, bat]

/-- After the run the third output's array is the values. -/
theorem arr_8 : (dats m 0 c).arrAt 8 cfg0.N = vArr (aX m c) (aM m c) (aG m c) (aW m c) := by
  refine (dats m 0 c).arrAt_eq_of_covers 8 _ (by decide +kernel) fun t hf y => ?_
  blk_simp
  rw [after0_8]
  idx_vars y
  obtain rfl : y0 = 0 := Subsingleton.elim _ _
  have ht : t.val < 136 := lt_of_lt_of_eq t.isLt N_0
  have e : out0_8 (iblk m c 0 t) (iblk m c 1 t) (iblk m c 2 t) (iblk m c 3 t) (iblk m c 4 t) (iblk m c 5 t) (ix4 0 y1 y2 y3)
      = vArr (aX m c) (aM m c) (aG m c) (aW m c) (ix4 (bat t) y1 ⟨256 * (t.val % 17) + y2.val, by omega⟩ y3) := by
    have hn : y1.val * 64 + y3.val + 640 < 2688 := by omega
    have hr := congrFun (row_eq m c t y2 ⟨256 * (t.val % 17) + y2.val, by omega⟩ rfl) (640 + 64 * y1.val + y3.val)
    refine (Value.canon8_eq _ _ _ _ _ _).trans (Eq.trans ?_ hr)
    unfold rowAt
    rw [dif_pos (by omega)]
    refine congrArg (k0_pay28 (iblk m c 0 t) (iblk m c 1 t) (iblk m c 2 t) (iblk m c 3 t) (iblk m c 4 t) (iblk m c 5 t)) (funext fun a => Fin.ext ?_)
    match a with
    | ⟨0, _⟩ => rfl
    | ⟨1, _⟩ => show y1.val * 64 + y3.val + 640 = 640 + 64 * y1.val + y3.val; omega
  refine e.trans ?_
  blk_ext [ix_8 t, bat]

/-- After the run the fourth output's array is the remaining columns. -/
theorem arr_9 : (dats m 0 c).arrAt 9 cfg0.N = rArr (aX m c) (aM m c) (aG m c) (aW m c) := by
  refine (dats m 0 c).arrAt_eq_of_covers 9 _ (by decide +kernel) fun t hf y => ?_
  blk_simp
  rw [after0_9]
  idx_vars y
  obtain rfl : y0 = 0 := Subsingleton.elim _ _
  have ht : t.val < 136 := lt_of_lt_of_eq t.isLt N_0
  have e : out0_9 (iblk m c 0 t) (iblk m c 1 t) (iblk m c 2 t) (iblk m c 3 t) (iblk m c 4 t) (iblk m c 5 t) (ix3 0 y1 y2)
      = rArr (aX m c) (aM m c) (aG m c) (aW m c) (ix3 (bat t) ⟨256 * (t.val % 17) + y1.val, by omega⟩ y2) := by
    have hr := congrFun (row_eq m c t y1 ⟨256 * (t.val % 17) + y1.val, by omega⟩ rfl) (768 + y2.val)
    refine (Value.canon9_eq _ _ _ _ _ _).trans (Eq.trans ?_ hr)
    unfold rowAt
    rw [dif_pos (by omega)]
    refine congrArg (k0_pay28 (iblk m c 0 t) (iblk m c 1 t) (iblk m c 2 t) (iblk m c 3 t) (iblk m c 4 t) (iblk m c 5 t)) (funext fun a => Fin.ext ?_)
    match a with
    | ⟨0, _⟩ => rfl
    | ⟨1, _⟩ => show y2.val + 768 = 768 + y2.val; omega
  refine e.trans ?_
  blk_ext [ix_9 t, bat]

end Cert.Proof.In

end
-- ==== Proof.In.Ref.lean ====
module

public import proofs.«01_k».proof.Proof.Gen.ProjRefIdeal.Run
public import proofs.«01_k».proof.Proof.In.Spec

@[expose] public section

set_option maxRecDepth 16384

noncomputable section

namespace Cert.Proof.In.Ref

open Cert.ProjRefIdeal Cert.ProjRefIdeal.Gen Idealize.ShloMosaic Idealize.ShloMosaic.TcCoe Idealize.SL.Sem

/-! ## The reference's stages -/

/-- The reciprocal roots of the rows' mean squares. -/
def inv (x : FVec Ideal S8x4352x1024 .f32) : FVec Ideal S8x4352x1 .f32 :=
  Host.rsqrt (addf (Host.divf (broadcastInDim S8x4352x1 ![0, 1] bcast_S8x4352_S8x4352x1_0_1
      (Host.reduceAdd (mulf x x) (constant S_ .f32 0x00000000#32) reducesTo_S8x4352x1024_S8x4352_d2 h_S_))
    (broadcastInDim S8x4352x1 ![] bcast_S_S8x4352x1 (constant S_ .f32 0x44800000#32)))
    (broadcastInDim S8x4352x1 ![] bcast_S_S8x4352x1 (constant S_ .f32 0x358637BD#32)))

/-- The rows, normalised and weighted. -/
def nrm (r : FVec Ideal S8x4352x1 .f32) (x : FVec Ideal S8x4352x1024 .f32) (g : FVec Ideal S1024 .f32) : FVec Ideal S8x4352x1024 .f32 :=
  mulf (mulf x (broadcastInDim S8x4352x1024 ![0, 1, 2] bcast_S8x4352x1_S8x4352x1024_0_1_2 r))
    (broadcastInDim S8x4352x1024 ![0, 1, 2] bcast_S1x1x1024_S8x4352x1024_0_1_2 (broadcastInDim S1x1x1024 ![2] bcast_S1024_S1x1x1024_2 g))

/-- The context's rows, scaled and shifted. -/
def ctx (h : FVec Ideal S8x4352x1024 .f32) (md : FVec Ideal S16x1x6144 .f32) : FVec Ideal S8x256x1024 .f32 :=
  addf (mulf (extractStridedSlice S8x256x1024 ![0, 0, 0] h slices_S8x4352x1024_S8x256x1024_0_0_0)
      (broadcastInDim S8x256x1024 ![0, 1, 2] bcast_S1x1x1024_S8x256x1024_0_1_2 (addf (broadcastInDim S1x1x1024 ![] bcast_S_S1x1x1024 (constant S_ .f32 0x3F800000#32))
        (extractStridedSlice S1x1x1024 ![8, 0, 0] (extractStridedSlice S16x1x1024 ![0, 0, 1024] md slices_S16x1x6144_S16x1x1024_0_0_1024) slices_S16x1x1024_S1x1x1024_8_0_0))))
    (broadcastInDim S8x256x1024 ![0, 1, 2] bcast_S1x1x1024_S8x256x1024_0_1_2
      (extractStridedSlice S1x1x1024 ![8, 0, 0] (extractStridedSlice S16x1x1024 ![0, 0, 0] md slices_S16x1x6144_S16x1x1024_0_0_0) slices_S16x1x1024_S1x1x1024_8_0_0))

/-- The latents' rows, scaled and shifted. -/
def lat (h : FVec Ideal S8x4352x1024 .f32) (md : FVec Ideal S16x1x6144 .f32) : FVec Ideal S8x4096x1024 .f32 :=
  addf (mulf (extractStridedSlice S8x4096x1024 ![0, 256, 0] h slices_S8x4352x1024_S8x4096x1024_0_256_0)
      (broadcastInDim S8x4096x1024 ![0, 1, 2] bcast_S8x1x1024_S8x4096x1024_0_1_2 (addf (broadcastInDim S8x1x1024 ![] bcast_S_S8x1x1024 (constant S_ .f32 0x3F800000#32))
        (extractStridedSlice S8x1x1024 ![0, 0, 0] (extractStridedSlice S16x1x1024 ![0, 0, 1024] md slices_S16x1x6144_S16x1x1024_0_0_1024) slices_S16x1x1024_S8x1x1024_0_0_0))))
    (broadcastInDim S8x4096x1024 ![0, 1, 2] bcast_S8x1x1024_S8x4096x1024_0_1_2
      (extractStridedSlice S8x1x1024 ![0, 0, 0] (extractStridedSlice S16x1x1024 ![0, 0, 0] md slices_S16x1x6144_S16x1x1024_0_0_0) slices_S16x1x1024_S8x1x1024_0_0_0))

/-- Context and latents one after the other. -/
def both (a : FVec Ideal S8x256x1024 .f32) (b : FVec Ideal S8x4096x1024 .f32) : FVec Ideal S8x4352x1024 .f32 :=
  concatenate S8x4352x1024 1 [⟨S8x256x1024, a⟩, ⟨S8x4096x1024, b⟩] concatenates_S8x256x1024_S8x4096x1024_S8x4352x1024_d1

/-- The product with the weights. -/
def dot (h : FVec Ideal S8x4352x1024 .f32) (w : FVec Ideal S1024x2688 .f32) : FVec Ideal S8x4352x2688 .f32 :=
  Host.dotGeneral dot_S8x4352x1024_S1024x2688_S8x4352x2688_2_0_01_1_n_n none h w

/-- The whole projection. -/
def prj (x : FVec Ideal S8x4352x1024 .f32) (md : FVec Ideal S16x1x6144 .f32) (g : FVec Ideal S1024 .f32) (w : FVec Ideal S1024x2688 .f32) : FVec Ideal S8x4352x2688 .f32 :=
  dot (both (ctx (nrm (inv x) x g) md) (lat (nrm (inv x) x g) md)) w

/-- The queries' columns by head. -/
def qCols (p : FVec Ideal S8x4352x2688 .f32) : FVec Ideal S8x4352x8x64 .f32 :=
  shapeCast S8x4352x8x64 (extractStridedSlice S8x4352x512 ![0, 0, 0] p slices_S8x4352x2688_S8x4352x512_0_0_0) shapeCasts_S8x4352x512_S8x4352x8x64

/-- The keys' columns by head. -/
def kCols (p : FVec Ideal S8x4352x2688 .f32) : FVec Ideal S8x4352x2x64 .f32 :=
  shapeCast S8x4352x2x64 (extractStridedSlice S8x4352x128 ![0, 0, 512] p slices_S8x4352x2688_S8x4352x128_0_0_512) shapeCasts_S8x4352x128_S8x4352x2x64

/-- The values' columns by head. -/
def vCols (p : FVec Ideal S8x4352x2688 .f32) : FVec Ideal S8x4352x2x64 .f32 :=
  shapeCast S8x4352x2x64 (extractStridedSlice S8x4352x128 ![0, 0, 640] p slices_S8x4352x2688_S8x4352x128_0_0_640) shapeCasts_S8x4352x128_S8x4352x2x64

/-- The latents' rows of the queries. -/
def qLat (q : FVec Ideal S8x4352x8x64 .f32) : FVec Ideal S8x4096x8x64 .f32 :=
  extractStridedSlice S8x4096x8x64 ![0, 256, 0, 0] q slices_S8x4352x8x64_S8x4096x8x64_0_256_0_0

/-- The latents' rows of the keys. -/
def kLat (q : FVec Ideal S8x4352x2x64 .f32) : FVec Ideal S8x4096x2x64 .f32 :=
  extractStridedSlice S8x4096x2x64 ![0, 256, 0, 0] q slices_S8x4352x2x64_S8x4096x2x64_0_256_0_0

/-- The queries' quarter turn: of each axis the second half negated, then the first. -/
def qHalf (q : FVec Ideal S8x4096x8x64 .f32) : FVec Ideal S8x4096x8x64 .f32 :=
  shapeCast S8x4096x8x64 (concatenate S8x4096x8x2x2x16 4
    [⟨S8x4096x8x2x1x16, (broadcastInDim S8x4096x8x2x1x16 ![0, 1, 2, 3, 5] bcast_S8x4096x8x2x16_S8x4096x8x2x1x16_0_1_2_3_5
      (Host.negf (F := Ideal) (shapeCast S8x4096x8x2x16 (extractStridedSlice S8x4096x8x2x1x16 ![0, 0, 0, 0, 1, 0] (shapeCast S8x4096x8x2x2x16 q shapeCasts_S8x4096x8x64_S8x4096x8x2x2x16) slices_S8x4096x8x2x2x16_S8x4096x8x2x1x16_0_0_0_0_1_0) shapeCasts_S8x4096x8x2x1x16_S8x4096x8x2x16) : FVec Ideal S8x4096x8x2x16 .f32))⟩,
     ⟨S8x4096x8x2x1x16, (broadcastInDim S8x4096x8x2x1x16 ![0, 1, 2, 3, 5] bcast_S8x4096x8x2x16_S8x4096x8x2x1x16_0_1_2_3_5
      (shapeCast S8x4096x8x2x16 (extractStridedSlice S8x4096x8x2x1x16 ![0, 0, 0, 0, 0, 0] (shapeCast S8x4096x8x2x2x16 q shapeCasts_S8x4096x8x64_S8x4096x8x2x2x16) slices_S8x4096x8x2x2x16_S8x4096x8x2x1x16_0_0_0_0_0_0) shapeCasts_S8x4096x8x2x1x16_S8x4096x8x2x16))⟩]
    concatenates_S8x4096x8x2x1x16_S8x4096x8x2x1x16_S8x4096x8x2x2x16_d4) shapeCasts_S8x4096x8x2x2x16_S8x4096x8x64

/-- The keys' quarter turn. -/
def kHalf (q : FVec Ideal S8x4096x2x64 .f32) : FVec Ideal S8x4096x2x64 .f32 :=
  shapeCast S8x4096x2x64 (concatenate S8x4096x2x2x2x16 4
    [⟨S8x4096x2x2x1x16, (broadcastInDim S8x4096x2x2x1x16 ![0, 1, 2, 3, 5] bcast_S8x4096x2x2x16_S8x4096x2x2x1x16_0_1_2_3_5
      (Host.negf (F := Ideal) (shapeCast S8x4096x2x2x16 (extractStridedSlice S8x4096x2x2x1x16 ![0, 0, 0, 0, 1, 0] (shapeCast S8x4096x2x2x2x16 q shapeCasts_S8x4096x2x64_S8x4096x2x2x2x16) slices_S8x4096x2x2x2x16_S8x4096x2x2x1x16_0_0_0_0_1_0) shapeCasts_S8x4096x2x2x1x16_S8x4096x2x2x16) : FVec Ideal S8x4096x2x2x16 .f32))⟩,
     ⟨S8x4096x2x2x1x16, (broadcastInDim S8x4096x2x2x1x16 ![0, 1, 2, 3, 5] bcast_S8x4096x2x2x16_S8x4096x2x2x1x16_0_1_2_3_5
      (shapeCast S8x4096x2x2x16 (extractStridedSlice S8x4096x2x2x1x16 ![0, 0, 0, 0, 0, 0] (shapeCast S8x4096x2x2x2x16 q shapeCasts_S8x4096x2x64_S8x4096x2x2x2x16) slices_S8x4096x2x2x2x16_S8x4096x2x2x1x16_0_0_0_0_0_0) shapeCasts_S8x4096x2x2x1x16_S8x4096x2x2x16))⟩]
    concatenates_S8x4096x2x2x1x16_S8x4096x2x2x1x16_S8x4096x2x2x2x16_d4) shapeCasts_S8x4096x2x2x2x16_S8x4096x2x64

/-- The latents' queries, rotated by the tables. -/
def qTurn (q h : FVec Ideal S8x4096x8x64 .f32) (co si : FVec Ideal S4096x64 .f32) : FVec Ideal S8x4096x8x64 .f32 :=
  addf (mulf q (broadcastInDim S8x4096x8x64 ![0, 1, 2, 3] bcast_S1x4096x1x64_S8x4096x8x64_0_1_2_3 (broadcastInDim S1x4096x1x64 ![1, 2, 3] bcast_S4096x1x64_S1x4096x1x64_1_2_3 (broadcastInDim S4096x1x64 ![0, 2] bcast_S4096x64_S4096x1x64_0_2 co))))
    (mulf h (broadcastInDim S8x4096x8x64 ![0, 1, 2, 3] bcast_S1x4096x1x64_S8x4096x8x64_0_1_2_3 (broadcastInDim S1x4096x1x64 ![1, 2, 3] bcast_S4096x1x64_S1x4096x1x64_1_2_3 (broadcastInDim S4096x1x64 ![0, 2] bcast_S4096x64_S4096x1x64_0_2 si))))

/-- The latents' keys, rotated by the tables. -/
def kTurn (q h : FVec Ideal S8x4096x2x64 .f32) (co si : FVec Ideal S4096x64 .f32) : FVec Ideal S8x4096x2x64 .f32 :=
  addf (mulf q (broadcastInDim S8x4096x2x64 ![0, 1, 2, 3] bcast_S1x4096x1x64_S8x4096x2x64_0_1_2_3 (broadcastInDim S1x4096x1x64 ![1, 2, 3] bcast_S4096x1x64_S1x4096x1x64_1_2_3 (broadcastInDim S4096x1x64 ![0, 2] bcast_S4096x64_S4096x1x64_0_2 co))))
    (mulf h (broadcastInDim S8x4096x2x64 ![0, 1, 2, 3] bcast_S1x4096x1x64_S8x4096x2x64_0_1_2_3 (broadcastInDim S1x4096x1x64 ![1, 2, 3] bcast_S4096x1x64_S1x4096x1x64_1_2_3 (broadcastInDim S4096x1x64 ![0, 2] bcast_S4096x64_S4096x1x64_0_2 si))))

/-- The queries: the context's as they are, the latents' rotated, scaled by 1/8, heads first. -/
def qFin (q : FVec Ideal S8x4352x8x64 .f32) (u : FVec Ideal S8x4096x8x64 .f32) : FVec Ideal S8x8x4352x64 .bf16 :=
  truncf .bf16 (transpose S8x8x4352x64 [0, 2, 1, 3] (mulf (concatenate S8x4352x8x64 1
      [⟨S8x256x8x64, (extractStridedSlice S8x256x8x64 ![0, 0, 0, 0] q slices_S8x4352x8x64_S8x256x8x64_0_0_0_0)⟩, ⟨S8x4096x8x64, u⟩] concatenates_S8x256x8x64_S8x4096x8x64_S8x4352x8x64_d1)
    (broadcastInDim S8x4352x8x64 ![] bcast_S_S8x4352x8x64 (constant S_ .f32 0x3E000000#32)) : FVec Ideal S8x4352x8x64 .f32) transposes_S8x4352x8x64_S8x8x4352x64_0_2_1_3 : FVec Ideal S8x8x4352x64 .f32) bitsLt_bf16_f32

/-- The keys: the context's as they are, the latents' rotated, heads first. -/
def kFin (q : FVec Ideal S8x4352x2x64 .f32) (u : FVec Ideal S8x4096x2x64 .f32) : FVec Ideal S8x2x4352x64 .bf16 :=
  truncf .bf16 (transpose S8x2x4352x64 [0, 2, 1, 3] (concatenate S8x4352x2x64 1
      [⟨S8x256x2x64, (extractStridedSlice S8x256x2x64 ![0, 0, 0, 0] q slices_S8x4352x2x64_S8x256x2x64_0_0_0_0)⟩, ⟨S8x4096x2x64, u⟩] concatenates_S8x256x2x64_S8x4096x2x64_S8x4352x2x64_d1 : FVec Ideal S8x4352x2x64 .f32)
    transposes_S8x4352x2x64_S8x2x4352x64_0_2_1_3 : FVec Ideal S8x2x4352x64 .f32) bitsLt_bf16_f32

/-- The values, heads first. -/
def vFin (q : FVec Ideal S8x4352x2x64 .f32) : FVec Ideal S8x2x4352x64 .bf16 :=
  truncf .bf16 (transpose S8x2x4352x64 [0, 2, 1, 3] q transposes_S8x4352x2x64_S8x2x4352x64_0_2_1_3 : FVec Ideal S8x2x4352x64 .f32) bitsLt_bf16_f32

/-- The remaining columns. -/
def rCols (p : FVec Ideal S8x4352x2688 .f32) : FVec Ideal S8x4352x1920 .f32 :=
  extractStridedSlice S8x4352x1920 ![0, 0, 768] p slices_S8x4352x2688_S8x4352x1920_0_0_768

/-! ## What each stage holds at an index -/

theorem inv_apply (x : FVec Ideal S8x4352x1024 .f32) (b : Fin 8) (t : Fin 4352) :
    inv x (ix3 b t 0) = Ideal.rsqrt (meanSq (fun d => x (ix3 b t d)) + Ideal.ofBits .f32 0x358637BD#32) := by
  unfold meanSq
  pointwise [inv]

theorem nrm_apply (r : FVec Ideal S8x4352x1 .f32) (x : FVec Ideal S8x4352x1024 .f32) (g : FVec Ideal S1024 .f32) (b : Fin 8) (t : Fin 4352) (d : Fin 1024) :
    nrm r x g (ix3 b t d) = x (ix3 b t d) * r (ix3 b t 0) * g (ix1 d) := by
  pointwise [nrm]

theorem ctx_apply (h : FVec Ideal S8x4352x1024 .f32) (md : FVec Ideal S16x1x6144 .f32) (b : Fin 8) (t : Fin 256) (d : Fin 1024) :
    ctx h md (ix3 b t d) = h (ix3 b ⟨t.val, by omega⟩ d) * (Ideal.ofBits .f32 0x3F800000#32 + md (ix3 8 0 ⟨1024 + d.val, by omega⟩)) + md (ix3 8 0 ⟨d.val, by omega⟩) := by
  pointwise [ctx]

theorem lat_apply (h : FVec Ideal S8x4352x1024 .f32) (md : FVec Ideal S16x1x6144 .f32) (b : Fin 8) (t : Fin 4096) (d : Fin 1024) :
    lat h md (ix3 b t d) = h (ix3 b ⟨256 + t.val, by omega⟩ d) * (Ideal.ofBits .f32 0x3F800000#32 + md (ix3 ⟨b.val, by omega⟩ 0 ⟨1024 + d.val, by omega⟩)) + md (ix3 ⟨b.val, by omega⟩ 0 ⟨d.val, by omega⟩) := by
  pointwise [lat]

theorem both_apply (a : FVec Ideal S8x256x1024 .f32) (u : FVec Ideal S8x4096x1024 .f32) (b : Fin 8) (t : Fin 4352) (d : Fin 1024) :
    both a u (ix3 b t d) = if h : t.val < 256 then a (ix3 b ⟨t.val, h⟩ d) else u (ix3 b ⟨t.val - 256, by omega⟩ d) := by
  pointwise [both]

theorem dot_apply (h : FVec Ideal S8x4352x1024 .f32) (w : FVec Ideal S1024x2688 .f32) (b : Fin 8) (t : Fin 4352) (n : Fin 2688) :
    dot h w (ix3 b t n) = ∑ d : Fin 1024, h (ix3 b t d) * w (ix2 d n) := by
  pointwise [dot]

theorem qCols_apply (p : FVec Ideal S8x4352x2688 .f32) (b : Fin 8) (t : Fin 4352) (h : Fin 8) (d : Fin 64) :
    qCols p (ix4 b t h d) = p (ix3 b t ⟨64 * h.val + d.val, by omega⟩) := by
  pointwise [qCols]
  exact congrArg p (congrArg (ix3 b t) (Fin.ext (by simp only; omega)))

theorem kCols_apply (p : FVec Ideal S8x4352x2688 .f32) (b : Fin 8) (t : Fin 4352) (h : Fin 2) (d : Fin 64) :
    kCols p (ix4 b t h d) = p (ix3 b t ⟨512 + 64 * h.val + d.val, by omega⟩) := by
  pointwise [kCols]
  exact congrArg p (congrArg (ix3 b t) (Fin.ext (by simp only; omega)))

theorem vCols_apply (p : FVec Ideal S8x4352x2688 .f32) (b : Fin 8) (t : Fin 4352) (h : Fin 2) (d : Fin 64) :
    vCols p (ix4 b t h d) = p (ix3 b t ⟨640 + 64 * h.val + d.val, by omega⟩) := by
  pointwise [vCols]
  exact congrArg p (congrArg (ix3 b t) (Fin.ext (by simp only; omega)))

theorem qLat_apply (q : FVec Ideal S8x4352x8x64 .f32) (b : Fin 8) (t : Fin 4096) (h : Fin 8) (d : Fin 64) :
    qLat q (ix4 b t h d) = q (ix4 b ⟨256 + t.val, by omega⟩ h d) := by
  pointwise [qLat]

theorem kLat_apply (q : FVec Ideal S8x4352x2x64 .f32) (b : Fin 8) (t : Fin 4096) (h : Fin 2) (d : Fin 64) :
    kLat q (ix4 b t h d) = q (ix4 b ⟨256 + t.val, by omega⟩ h d) := by
  pointwise [kLat]

theorem qTurn_apply (q h : FVec Ideal S8x4096x8x64 .f32) (co si : FVec Ideal S4096x64 .f32) (b : Fin 8) (t : Fin 4096) (a : Fin 8) (d : Fin 64) :
    qTurn q h co si (ix4 b t a d) = q (ix4 b t a d) * co (ix2 t d) + h (ix4 b t a d) * si (ix2 t d) := by
  pointwise [qTurn]

theorem kTurn_apply (q h : FVec Ideal S8x4096x2x64 .f32) (co si : FVec Ideal S4096x64 .f32) (b : Fin 8) (t : Fin 4096) (a : Fin 2) (d : Fin 64) :
    kTurn q h co si (ix4 b t a d) = q (ix4 b t a d) * co (ix2 t d) + h (ix4 b t a d) * si (ix2 t d) := by
  pointwise [kTurn]

theorem qFin_apply (q : FVec Ideal S8x4352x8x64 .f32) (u : FVec Ideal S8x4096x8x64 .f32) (b : Fin 8) (a : Fin 8) (t : Fin 4352) (d : Fin 64) :
    qFin q u (ix4 b a t d) = (if h : t.val < 256 then q (ix4 b t a d) else u (ix4 b ⟨t.val - 256, by omega⟩ a d)) * Ideal.ofBits .f32 0x3E000000#32 := by
  pointwise [qFin]

theorem kFin_apply (q : FVec Ideal S8x4352x2x64 .f32) (u : FVec Ideal S8x4096x2x64 .f32) (b : Fin 8) (a : Fin 2) (t : Fin 4352) (d : Fin 64) :
    kFin q u (ix4 b a t d) = if h : t.val < 256 then q (ix4 b t a d) else u (ix4 b ⟨t.val - 256, by omega⟩ a d) := by
  pointwise [kFin]

theorem vFin_apply (q : FVec Ideal S8x4352x2x64 .f32) (b : Fin 8) (a : Fin 2) (t : Fin 4352) (d : Fin 64) :
    vFin q (ix4 b a t d) = q (ix4 b t a d) := by
  pointwise [vFin]

theorem rCols_apply (p : FVec Ideal S8x4352x2688 .f32) (b : Fin 8) (t : Fin 4352) (n : Fin 1920) :
    rCols p (ix3 b t n) = p (ix3 b t ⟨768 + n.val, by omega⟩) := by
  pointwise [rCols]

theorem qHalf_apply (q : FVec Ideal S8x4096x8x64 .f32) (b : Fin 8) (t : Fin 4096) (h : Fin 8) (d : Fin 64) :
    qHalf q (ix4 b t h d) = if hd : d.val % 32 < 16 then -(q (ix4 b t h ⟨d.val + 16, by omega⟩)) else q (ix4 b t h ⟨d.val - 16, by omega⟩) := by
  pointwise [qHalf]
  by_cases hd : d.val % 32 < 16
  · rw [dif_pos hd, dif_pos (by omega)]
    exact congrArg (fun e => -q (ix4 b t h e)) (Fin.ext (by simp only; omega))
  · rw [dif_neg hd, dif_neg (by omega)]
    exact congrArg (fun e => q (ix4 b t h e)) (Fin.ext (by simp only; omega))

theorem kHalf_apply (q : FVec Ideal S8x4096x2x64 .f32) (b : Fin 8) (t : Fin 4096) (h : Fin 2) (d : Fin 64) :
    kHalf q (ix4 b t h d) = if hd : d.val % 32 < 16 then -(q (ix4 b t h ⟨d.val + 16, by omega⟩)) else q (ix4 b t h ⟨d.val - 16, by omega⟩) := by
  pointwise [kHalf]
  by_cases hd : d.val % 32 < 16
  · rw [dif_pos hd, dif_pos (by omega)]
    exact congrArg (fun e => -q (ix4 b t h e)) (Fin.ext (by simp only; omega))
  · rw [dif_neg hd, dif_neg (by omega)]
    exact congrArg (fun e => q (ix4 b t h e)) (Fin.ext (by simp only; omega))

/-! ## The results -/

/-- The queries the reference computes. -/
def qOut (x : FVec Ideal S8x4352x1024 .f32) (md : FVec Ideal S16x1x6144 .f32) (g : FVec Ideal S1024 .f32) (w : FVec Ideal S1024x2688 .f32) (co si : FVec Ideal S4096x64 .f32) : FVec Ideal S8x8x4352x64 .bf16 :=
  qFin (qCols (prj x md g w)) (qTurn (qLat (qCols (prj x md g w))) (qHalf (qLat (qCols (prj x md g w)))) co si)

/-- The keys the reference computes. -/
def kOut (x : FVec Ideal S8x4352x1024 .f32) (md : FVec Ideal S16x1x6144 .f32) (g : FVec Ideal S1024 .f32) (w : FVec Ideal S1024x2688 .f32) (co si : FVec Ideal S4096x64 .f32) : FVec Ideal S8x2x4352x64 .bf16 :=
  kFin (kCols (prj x md g w)) (kTurn (kLat (kCols (prj x md g w))) (kHalf (kLat (kCols (prj x md g w)))) co si)

section Results

variable (x : FVec Ideal S8x4352x1024 .f32) (md : FVec Ideal S16x1x6144 .f32) (g : FVec Ideal S1024 .f32) (w : FVec Ideal S1024x2688 .f32) (co si : FVec Ideal S4096x64 .f32)

/-- The rows that the weights multiply. -/
theorem hid_apply (b : Fin 8) (t : Fin 4352) (d : Fin 1024) :
    both (ctx (nrm (inv x) x g) md) (lat (nrm (inv x) x g) md) (ix3 b t d)
      = hidden (fun d => x (ix3 b t d)) (fun d => g (ix1 d)) (fun d => md (ix3 (modRow b t) 0 ⟨1024 + d.val, by omega⟩)) (fun d => md (ix3 (modRow b t) 0 ⟨d.val, by omega⟩)) d := by
  rw [both_apply]
  unfold hidden
  by_cases h : t.val < 256
  · have hr : modRow b t = 8 := Fin.ext (by show (if t.val < 256 then 8 else b.val) = 8; rw [if_pos h])
    rw [dif_pos h, ctx_apply, nrm_apply, inv_apply, hr]
  · have hr : modRow b t = ⟨b.val, by omega⟩ := Fin.ext (by show (if t.val < 256 then 8 else b.val) = b.val; rw [if_neg h])
    have ht : (⟨256 + (t.val - 256), by omega⟩ : Fin 4352) = t := Fin.ext (by simp only; omega)
    rw [dif_neg h, lat_apply, nrm_apply, inv_apply, hr]
    simp only [ht]

/-- The projection at a batch, a position and a column. -/
theorem prj_apply (b : Fin 8) (t : Fin 4352) (n : ℕ) (hn : n < 2688) : prj x md g w (ix3 b t ⟨n, hn⟩) = out x md g w b t n := by
  unfold out prj proj
  rw [dif_pos hn, dot_apply]
  exact Finset.sum_congr rfl fun d _ => by rw [hid_apply]

/-- A context row is turned by nothing. -/
theorem turn_ctx (p : ℕ → EReal) (n : ℕ) : turn p n 1 0 = p n := by
  unfold turn
  rw [mul_one, mul_zero, add_zero]

theorem qOut_eq : qOut x md g w co si = qArr x md g w co si := by
  funext y
  idx_vars y
  unfold qOut
  rw [qFin_apply]
  show _ = rot x md g w co si y0 y2 (64 * y1.val + y3.val) * Ideal.ofBits .f32 0x3E000000#32
  refine congrArg (· * Ideal.ofBits .f32 0x3E000000#32) ?_
  unfold rot ent
  by_cases h : y2.val < 256
  · rw [dif_pos h, dif_pos h, dif_pos h, turn_ctx, qCols_apply, prj_apply]
  · have ht : (⟨256 + (y2.val - 256), by omega⟩ : Fin 4352) = y2 := Fin.ext (by simp only; omega)
    have hd : (⟨(64 * y1.val + y3.val) % 64, Nat.mod_lt _ (by decide)⟩ : Fin 64) = y3 := Fin.ext (by simp only; omega)
    have hm : (64 * y1.val + y3.val) % 32 = y3.val % 32 := by omega
    rw [dif_neg h, dif_neg h, dif_neg h, qTurn_apply, qHalf_apply, qLat_apply, qCols_apply, ht, prj_apply, hd]
    unfold turn
    rw [hm]
    by_cases hc : y3.val % 32 < 16
    · rw [dif_pos hc, if_pos hc, qLat_apply, qCols_apply, ht, prj_apply]
      rfl
    · rw [dif_neg hc, if_neg hc, qLat_apply, qCols_apply, ht, prj_apply, show 64 * y1.val + (y3.val - 16) = 64 * y1.val + y3.val - 16 by omega]

theorem kOut_eq : kOut x md g w co si = kArr x md g w co si := by
  funext y
  idx_vars y
  unfold kOut
  rw [kFin_apply]
  show _ = rot x md g w co si y0 y2 (512 + 64 * y1.val + y3.val)
  unfold rot ent
  by_cases h : y2.val < 256
  · rw [dif_pos h, dif_pos h, dif_pos h, turn_ctx, kCols_apply, prj_apply]
  · have ht : (⟨256 + (y2.val - 256), by omega⟩ : Fin 4352) = y2 := Fin.ext (by simp only; omega)
    have hd : (⟨(512 + 64 * y1.val + y3.val) % 64, Nat.mod_lt _ (by decide)⟩ : Fin 64) = y3 := Fin.ext (by simp only; omega)
    have hm : (512 + 64 * y1.val + y3.val) % 32 = y3.val % 32 := by omega
    rw [dif_neg h, dif_neg h, dif_neg h, kTurn_apply, kHalf_apply, kLat_apply, kCols_apply, ht, prj_apply, hd]
    unfold turn
    rw [hm]
    by_cases hc : y3.val % 32 < 16
    · rw [dif_pos hc, if_pos hc, kLat_apply, kCols_apply, ht, prj_apply]
      rfl
    · rw [dif_neg hc, if_neg hc, kLat_apply, kCols_apply, ht, prj_apply, show 512 + 64 * y1.val + (y3.val - 16) = 512 + 64 * y1.val + y3.val - 16 by omega]

theorem vOut_eq : vFin (vCols (prj x md g w)) = vArr x md g w := by
  funext y
  idx_vars y
  rw [vFin_apply, vCols_apply, prj_apply]
  rfl

theorem rOut_eq : rCols (prj x md g w) = rArr x md g w := by
  funext y
  idx_vars y
  rw [rCols_apply, prj_apply]
  rfl

end Results

/-! ## The printed terms are these -/

variable (m : (ℓ : Loc nD τ sig) → Buf (Elt Ideal) ℓ) (c : Dev nD)

abbrev rX : FVec Ideal S8x4352x1024 .f32 := m ((c.tc : Thread nD τ).loc main_arg0)
abbrev rM : FVec Ideal S16x1x6144 .f32 := m ((c.tc : Thread nD τ).loc main_arg1)
abbrev rG : FVec Ideal S1024 .f32 := m ((c.tc : Thread nD τ).loc main_arg2)
abbrev rW : FVec Ideal S1024x2688 .f32 := m ((c.tc : Thread nD τ).loc main_arg3)
abbrev rC : FVec Ideal S4096x64 .f32 := m ((c.tc : Thread nD τ).loc main_arg4)
abbrev rS : FVec Ideal S4096x64 .f32 := m ((c.tc : Thread nD τ).loc main_arg5)

theorem res_q : Value.res_main_v88 m c = qOut (rX m c) (rM m c) (rG m c) (rW m c) (rC m c) (rS m c) := rfl

theorem res_k : Value.res_main_v90 m c = kOut (rX m c) (rM m c) (rG m c) (rW m c) (rC m c) (rS m c) := rfl

/-- The reference's run: its four results, the arguments kept. -/
theorem run (ρ : Dev nD → PrngReg) :
    θ_run defs (onTc (τ := τ) (main (F := Ideal))) ⟨m, fun _ => 0, ρ⟩ fun r => ∀ c : Dev nD,
      (r.2.mem ((c.tc : Thread nD τ).loc main_v88) = qArr (rX m c) (rM m c) (rG m c) (rW m c) (rC m c) (rS m c)
      ∧ r.2.mem ((c.tc : Thread nD τ).loc main_v90) = kArr (rX m c) (rM m c) (rG m c) (rW m c) (rC m c) (rS m c)
      ∧ r.2.mem ((c.tc : Thread nD τ).loc main_v92) = vArr (rX m c) (rM m c) (rG m c) (rW m c)
      ∧ r.2.mem ((c.tc : Thread nD τ).loc main_v93) = rArr (rX m c) (rM m c) (rG m c) (rW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨⟨(h c).1.trans ((res_q m c).trans (qOut_eq _ _ _ _ _ _)), (h c).2.1.trans ((res_k m c).trans (kOut_eq _ _ _ _ _ _)),
      (h c).2.2.1.trans (vOut_eq _ _ _ _), (h c).2.2.2.1.trans (rOut_eq _ _ _ _)⟩, (h c).2.2.2.2⟩) (Value.run m ρ)

end Cert.Proof.In.Ref

end
-- ==== Proof.In.Claims.lean ====
module

public import proofs.«01_k».proof.Defs
public import proofs.«01_k».proof.Proof.Gen.InProj.Frame
public import proofs.«01_k».proof.Proof.In.Blocks
public import proofs.«01_k».proof.Proof.In.Ref

@[expose] public section

set_option maxRecDepth 16384

noncomputable section

namespace Cert.Proof.In

open Idealize.ShloMosaic Idealize.ShloMosaic.TcCoe Idealize.SL.Sem

/-- The projection kernel runs, leaves its arguments and ends with every counter at zero. -/
theorem frame_kernel : Cert.quiescent_InProj (hInProj := Cert.InProj.Gen.facts) := fun m ρ _ => Cert.InProj.Gen.frame m ρ

/-- The ideal kernel does so too. -/
theorem frame_ideal : Cert.quiescent_InProjIdeal (hInProjIdeal := Cert.InProjIdeal.Gen.facts) := fun m ρ _ => Cert.InProjIdeal.Gen.frame m ρ

/-- The reference runs, leaves its arguments, and has no counter. -/
theorem frame_ref : Cert.quiescent_ProjRefIdeal (hProjRefIdeal := Cert.ProjRefIdeal.Gen.facts) := fun m ρ _ =>
  (θ_run Cert.ProjRefIdeal.defs _ _).mono (fun r h => ⟨fun c => (h c).2, sem_eq_zero_of_no_sems (by decide) r.2⟩) (Ref.run m ρ)

/-- The ideal kernel is the kernel, no rule rewriting it. -/
theorem preserved : Cert.preserves_InProj_InProjIdeal := trivial

/-- The kernel and the reference end with the same four arrays. -/
theorem equal : Cert.algebraic_InProjIdeal_ProjRefIdeal (hInProjIdeal := Cert.InProjIdeal.Gen.facts) (hProjRefIdeal := Cert.ProjRefIdeal.Gen.facts) := fun m ρ m' ρ' _ hag =>
  ⟨fun c => qArr (aX m c) (aM m c) (aG m c) (aW m c) (aC m c) (aS m c), fun c => kArr (aX m c) (aM m c) (aG m c) (aW m c) (aC m c) (aS m c),
    fun c => vArr (aX m c) (aM m c) (aG m c) (aW m c), fun c => rArr (aX m c) (aM m c) (aG m c) (aW m c),
    (θ_run Cert.InProjIdeal.defs _ _).mono (fun _ h c =>
      ⟨(h c).1.trans (arr_6 m c), (h c).2.1.trans (arr_7 m c), (h c).2.2.1.trans (arr_8 m c), (h c).2.2.2.1.trans (arr_9 m c), (h c).2.2.2.2⟩)
      (Cert.InProjIdeal.Value.run_blocks (F := Ideal) m ρ),
    (θ_run Cert.ProjRefIdeal.defs _ _).mono (fun _ h c => by
      obtain ⟨⟨h0, h1, h2, h3⟩, hk⟩ := h c
      obtain ⟨g0, g1, g2, g3, g4, g5⟩ := hag c
      have eX : Ref.rX m' c = aX m c := g0
      have eM : Ref.rM m' c = aM m c := g1
      have eG : Ref.rG m' c = aG m c := g2
      have eW : Ref.rW m' c = aW m c := g3
      have eC : Ref.rC m' c = aC m c := g4
      have eS : Ref.rS m' c = aS m c := g5
      rw [eX, eM, eG, eW, eC, eS] at h0 h1
      rw [eX, eM, eG, eW] at h2 h3
      exact ⟨h0, h1, h2, h3, hk⟩) (Ref.run m' ρ')⟩

end Cert.Proof.In

end
-- ==== Proof.Mx.Spec.lean ====
module

public import proofs.«01_k».proof.Proof.Gen.MixIdeal.Value
public import Idealize.ShloMosaic.Lib.Pointwise

@[expose] public section

noncomputable section

namespace Cert.Proof.Mx

open Idealize.ShloMosaic

/-- The mean over the 64 lanes of the head that holds lane `l`. -/
def hmean (y : Fin 512 → EReal) (l : Fin 512) : EReal :=
  Ideal.div (∑ d : Fin 64, y ⟨64 * (l.val / 64) + d.val, by omega⟩) (Ideal.ofBits .f32 0x42800000#32)

/-- A lane less its head's mean. -/
def cen (y : Fin 512 → EReal) (l : Fin 512) : EReal := y l - hmean y l

/-- The recurrent half of a row: normalised by head, weighted by `w`, shifted by `b` and the bonus `v`, gated by `g`. -/
def rwk (y w b v g : Fin 512 → EReal) (l : Fin 512) : EReal :=
  (cen y l * Ideal.rsqrt (hmean (fun k => cen y k * cen y k) l + Ideal.ofBits .f32 0x3A27C5AC#32) * w l + b l + v l) * g l

/-- The output projection's product at a column, `u` being the column's weights: the attention's half, then the recurrent half. -/
def mixed (a r : Fin 512 → EReal) (u : Fin 1024 → EReal) : EReal :=
  ∑ d : Fin 512, a d * u ⟨d.val, by omega⟩ + ∑ d : Fin 512, r d * u ⟨512 + d.val, by omega⟩

/-! ## The residual stream after the call, by index, of the arguments it depends on -/

abbrev Ax := FVec Ideal ⟨3, ![8, 4352, 1024]⟩ .f32
abbrev Ab := FVec Ideal ⟨3, ![8, 4352, 512]⟩ .bf16
abbrev Ah := FVec Ideal ⟨3, ![8, 4352, 512]⟩ .f32
abbrev Am := FVec Ideal ⟨3, ![16, 1, 6144]⟩ .f32
abbrev Al := FVec Ideal ⟨1, ![512]⟩ .f32
abbrev Aw := FVec Ideal ⟨2, ![1024, 1024]⟩ .f32

/-- The modulation row of a position: the one after the batches' for the context, the batch's own for the latents. -/
def modRow (b : Fin 8) (t : Fin 4352) : Fin 16 := ⟨if t.val < 256 then 8 else b.val, by split <;> omega⟩

/-- The residual stream at a batch, a position and a column. -/
def res (x : Ax) (a : Ab) (yf yb v : Ah) (g : Ab) (md : Am) (w b : Al) (wo : Aw) (s : Fin 8) (t : Fin 4352) (n : Fin 1024) : EReal :=
  x (ix3 s t n) + md (ix3 (modRow s t) 0 ⟨2048 + n.val, by omega⟩) *
    mixed (fun d => a (ix3 s t d))
      (rwk (fun d => yf (ix3 s t d) + yb (ix3 s t d)) (fun d => w (ix1 d)) (fun d => b (ix1 d)) (fun d => v (ix3 s t d)) (fun d => g (ix3 s t d)))
      (fun d => wo (ix2 d n))

/-- The batch and the position of a flat row. -/
def rowB (R : Fin 34816) : Fin 8 := ⟨R.val / 4352, by omega⟩
def rowT (R : Fin 34816) : Fin 4352 := ⟨R.val % 4352, Nat.mod_lt _ (by decide)⟩

/-- The residual stream, as flat rows. -/
def resArr (x : Ax) (a : Ab) (yf yb v : Ah) (g : Ab) (md : Am) (w b : Al) (wo : Aw) : FVec Ideal ⟨2, ![34816, 1024]⟩ .f32 :=
  fun i => res x a yf yb v g md w b wo (rowB (i 0)) (rowT (i 0)) (i 1)

end Cert.Proof.Mx

end
-- ==== Proof.Mx.Body.lean ====
module

public import proofs.«01_k».proof.Proof.Mx.Spec

@[expose] public section

set_option maxRecDepth 16384

noncomputable section

namespace Cert.Proof.Mx

open Cert.MixIdeal Cert.MixIdeal.Gen Idealize.ShloMosaic Idealize.ShloMosaic.TcCoe Idealize.SL.Sem

/-- Multiplying by 1/64 is dividing by 64. -/
theorem mul_inv64 (a : EReal) : a * Ideal.ofBits .f32 0x3C800000#32 = Ideal.div a (Ideal.ofBits .f32 0x42800000#32) := by
  have e1 : Ideal.ofBits .f32 0x3C800000#32 = ((1 / 64 : ℝ) : EReal) := by
    simp [Ideal.ofBits, Ideal.ieee, -EReal.coe_mul]; norm_num
  have e2 : Ideal.ofBits .f32 0x42800000#32 = ((64 : ℝ) : EReal) := by
    simp [Ideal.ofBits, Ideal.ieee, -EReal.coe_mul]; norm_num
  have e3 : ((64 : ℝ) : EReal) ≠ 0 := by exact_mod_cast (by norm_num : (64 : ℝ) ≠ 0)
  rw [e1, e2, Ideal.div, if_neg e3, ← EReal.coe_inv]
  norm_num

/-- The head of a lane, as the kernel computes it along the rows of its matrix. -/
theorem head_row (k l : Fin 512) :
    shrui (iota .tc S512x512 32 [0] iota_S512x512_d0_w32) (broadcast S512x512 6#32) (ix2 k l) = BitVec.ofNat 32 (k.val / 64) := by
  have h : ∀ k : Fin 512, shrui (iota .tc S512x512 32 [0] iota_S512x512_d0_w32) (broadcast S512x512 6#32) (ix2 k 0) = BitVec.ofNat 32 (k.val / 64) := by decide +kernel
  exact h k

/-- The head of a lane, as the kernel computes it along the columns. -/
theorem head_col (k l : Fin 512) :
    shrui (iota .tc S512x512 32 [1] iota_S512x512_d1_w32) (broadcast S512x512 6#32) (ix2 k l) = BitVec.ofNat 32 (l.val / 64) := by
  have h : ∀ l : Fin 512, shrui (iota .tc S512x512 32 [1] iota_S512x512_d1_w32) (broadcast S512x512 6#32) (ix2 0 l) = BitVec.ofNat 32 (l.val / 64) := by decide +kernel
  exact h l

/-- The kernel's matrix: one where row and column are lanes of the same head. -/
theorem ones_apply (k l : Fin 512) : k0_pay3 (F := Ideal) (ix2 k l) = if k.val / 64 = l.val / 64 then 1 else 0 := by
  have e : k0_pay3 (F := Ideal) (ix2 k l)
      = FloatOps.sitofp (F := Ideal) .f32 ((IntOp.cmpi .eq (shrui (iota .tc S512x512 32 [0] iota_S512x512_d0_w32) (broadcast S512x512 6#32) (ix2 k l))
          (shrui (iota .tc S512x512 32 [1] iota_S512x512_d1_w32) (broadcast S512x512 6#32) (ix2 k l))).setWidth 32) := rfl
  have h : ∀ i j : Fin 8, ((IntOp.cmpi .eq (BitVec.ofNat 32 i.val) (BitVec.ofNat 32 j.val)).setWidth 32).toInt = if i.val = j.val then 1 else 0 := by decide
  rw [e, head_row, head_col]
  show ((((IntOp.cmpi .eq (BitVec.ofNat 32 (k.val / 64)) (BitVec.ofNat 32 (l.val / 64))).setWidth 32).toInt : ℝ) : EReal) = _
  rw [h ⟨k.val / 64, by omega⟩ ⟨l.val / 64, by omega⟩]
  split <;> simp

/-- A sum over the lanes against that matrix is the sum over the head. -/
theorem sum_ones (f : Fin 512 → EReal) (l : Fin 512) :
    ∑ k : Fin 512, f k * (if k.val / 64 = l.val / 64 then 1 else 0) = ∑ d : Fin 64, f ⟨64 * (l.val / 64) + d.val, by omega⟩ := by
  have e := (Fintype.sum_equiv (finProdFinEquiv (m := 8) (n := 64)) (fun p => f (finProdFinEquiv p) * (if (finProdFinEquiv (m := 8) (n := 64) p).val / 64 = l.val / 64 then 1 else 0))
    (fun k : Fin 512 => f k * (if k.val / 64 = l.val / 64 then 1 else 0)) (fun _ => rfl)).symm
  rw [e, Fintype.sum_prod_type, Finset.sum_eq_single (⟨l.val / 64, by omega⟩ : Fin 8)]
  · refine Finset.sum_congr rfl fun d _ => ?_
    have hv : (finProdFinEquiv (m := 8) (n := 64) (⟨l.val / 64, by omega⟩, d)).val = d.val + 64 * (l.val / 64) := rfl
    rw [if_pos (by rw [hv]; omega), mul_one]
    exact congrArg f (Fin.ext (by rw [hv]; simp only; omega))
  · intro i _ hi
    refine Finset.sum_eq_zero fun d _ => ?_
    have hv : (finProdFinEquiv (m := 8) (n := 64) (i, d)).val = d.val + 64 * i.val := rfl
    have hn : i.val ≠ l.val / 64 := fun h => hi (Fin.ext h)
    rw [if_neg (by rw [hv]; omega), mul_zero]
  · exact fun h => absurd (Finset.mem_univ _) h

/-- The means by head, at every lane. -/
def mean (y : FVec Ideal S256x512 .f32) : FVec Ideal S256x512 .f32 :=
  mulf (matmul (φ₂ := .bf16) dot_S256x512_S512x512_S256x512_1_0_0_1_n_n none (truncf .bf16 y bitsLt_bf16_f32) (k0_pay3 (F := Ideal)) (constant S256x512 .f32 0x00000000#32))
    (broadcast S256x512 (Scalar.ofBits .f32 0x3C800000#32))

theorem mean_apply (y : FVec Ideal S256x512 .f32) (r : Fin 256) (l : Fin 512) : mean y (ix2 r l) = hmean (fun k => y (ix2 r k)) l := by
  have e : mean y (ix2 r l) = (∑ k : Fin 512, y (ix2 r k) * k0_pay3 (F := Ideal) (ix2 k l)) * Ideal.ofBits .f32 0x3C800000#32 := by
    pointwise [mean]
  rw [e, mul_inv64]
  unfold hmean
  rw [← sum_ones (fun k => y (ix2 r k)) l]
  simp only [ones_apply]

theorem pay4_apply (a b : Vec Ideal S256x512 .f32) (r : Fin 256) (l : Fin 512) :
    k0_pay4 a b (ix2 r l) = cen (fun k => a (ix2 r k) + b (ix2 r k)) l := by
  have e : k0_pay4 a b = subf (addf a b) (mean (addf a b)) := by
    unfold k0_pay4 mean
    simp only [shapeCast_self]
  rw [e]
  show addf a b (ix2 r l) - mean (addf a b) (ix2 r l) = _
  rw [mean_apply]
  rfl

theorem pay6_apply (a b : Vec Ideal S256x512 .f32) (r : Fin 256) (l : Fin 512) :
    k0_pay6 a b (ix2 r l) = hmean (fun k => cen (fun k => a (ix2 r k) + b (ix2 r k)) k * cen (fun k => a (ix2 r k) + b (ix2 r k)) k) l := by
  have e : k0_pay6 a b = mean (mulf (k0_pay4 a b) (k0_pay4 a b)) := rfl
  rw [e, mean_apply]
  exact congrArg (fun f => hmean f l) (funext fun k => congr (congrArg _ (pay4_apply a b r k)) (pay4_apply a b r k))

theorem pay8_apply (d v : FVec Ideal S256x512 .f32) (c : Ideal .f32) (w b : Vec Ideal S1x512 .f32) (bv : Vec Ideal S256x512 .f32) (g : Vec Ideal S256x512 .bf16) (r : Fin 256) (l : Fin 512) :
    k0_pay8 d v c w b bv g (ix2 r l) = (d (ix2 r l) * Ideal.rsqrt (v (ix2 r l) + c) * w (ix2 0 l) + b (ix2 0 l) + bv (ix2 r l)) * g (ix2 r l) := by
  pointwise [k0_pay8]

theorem pay10_apply (q a : FVec Ideal S256x512 .bf16) (u v : Vec Ideal S512x1024 .bf16) (x : Vec Ideal S256x1024 .f32) (m : Vec Ideal S1x1x1024 .f32) (r : Fin 256) (n : Fin 1024) :
    k0_pay10 q a u v x m (ix2 r n)
      = x (ix2 r n) + m (ix3 0 0 n) * (∑ d : Fin 512, a (ix2 r d) * u (ix2 d n) + ∑ d : Fin 512, q (ix2 r d) * v (ix2 d n)) := by
  pointwise [k0_pay10]

/-! ## Reading a block through the kernel's rectangles -/

theorem ld_512 {φ : EltTy} (X : Vec Ideal S512x512 φ) (o : ℕ) (inb : ∀ a, (![o, 0] : Fin 2 → Nat) a + S256x512.size a ≤ S512x512.size a) (r : Fin 256) (d : Fin 512) (h : o + r.val < 512) :
    View.ld X (Rect.unit (s := S512x512) ![o, 0] S256x512.size inb) (ix2 r d) = X (ix2 ⟨o + r.val, h⟩ d) :=
  congrArg X (funext fun a => Fin.ext (by
    match a with
    | ⟨0, _⟩ => show o + 1 * r.val = o + r.val; omega
    | ⟨1, _⟩ => show 0 + 1 * d.val = d.val; omega))

theorem ld_1024 (X : Vec Ideal S512x1024 .f32) (o : ℕ) (inb : ∀ a, (![o, 0] : Fin 2 → Nat) a + S256x1024.size a ≤ S512x1024.size a) (r : Fin 256) (d : Fin 1024) (h : o + r.val < 512) :
    View.ld X (Rect.unit (s := S512x1024) ![o, 0] S256x1024.size inb) (ix2 r d) = X (ix2 ⟨o + r.val, h⟩ d) :=
  congrArg X (funext fun a => Fin.ext (by
    match a with
    | ⟨0, _⟩ => show o + 1 * r.val = o + r.val; omega
    | ⟨1, _⟩ => show 0 + 1 * d.val = d.val; omega))

theorem ld_ln (X : Vec Ideal S2x512 .f32) (o : ℕ) (inb : ∀ a, (![o, 0] : Fin 2 → Nat) a + S1x512.size a ≤ S2x512.size a) (d : Fin 512) (h : o < 2) :
    View.ld X (Rect.unit (s := S2x512) ![o, 0] S1x512.size inb) (ix2 0 d) = X (ix2 ⟨o, h⟩ d) :=
  congrArg X (funext fun a => Fin.ext (by
    match a with
    | ⟨0, _⟩ => rfl
    | ⟨1, _⟩ => show 0 + 1 * d.val = d.val; omega))

theorem ld_w (X : Vec Ideal S1024x1024 .bf16) (o : ℕ) (inb : ∀ a, (![o, 0] : Fin 2 → Nat) a + S512x1024.size a ≤ S1024x1024.size a) (r : Fin 512) (d : Fin 1024) (h : o + r.val < 1024) :
    View.ld X (Rect.unit (s := S1024x1024) ![o, 0] S512x1024.size inb) (ix2 r d) = X (ix2 ⟨o + r.val, h⟩ d) :=
  congrArg X (funext fun a => Fin.ext (by
    match a with
    | ⟨0, _⟩ => show o + 1 * r.val = o + r.val; omega
    | ⟨1, _⟩ => show 0 + 1 * d.val = d.val; omega))

theorem ld_m (X : Vec Ideal S1x1x6144 .f32) (d : Fin 1024) : View.ld X r0_7 (ix3 0 0 d) = X (ix3 0 0 ⟨2048 + d.val, by omega⟩) :=
  congrArg X (funext fun a => Fin.ext (by
    match a with
    | ⟨0, _⟩ => rfl
    | ⟨1, _⟩ => rfl
    | ⟨2, _⟩ => show 2048 + 1 * d.val = 2048 + d.val; omega))

/-! ## What a point stores -/

/-- A tile's stored rows, of the values it loads. -/
def tile (yf yb : Vec Ideal S256x512 .f32) (w b : Vec Ideal S1x512 .f32) (v : Vec Ideal S256x512 .f32) (g a : Vec Ideal S256x512 .bf16)
    (u0 u1 : Vec Ideal S512x1024 .bf16) (x : Vec Ideal S256x1024 .f32) (m : Vec Ideal S1x1x1024 .f32) : FVec Ideal S256x1024 .f32 :=
  k0_pay10 (k0_pay8 (k0_pay4 yf yb) (k0_pay6 yf yb) (Scalar.ofBits .f32 0x3A27C5AC#32) w b v g) a u0 u1 x m

/-- The residual stream at a row and a column of a tile, of the row's values. -/
def one (x gate : EReal) (y w b v g a : Fin 512 → EReal) (u0 u1 : Fin 512 → EReal) : EReal :=
  x + gate * (∑ d : Fin 512, a d * u0 d + ∑ d : Fin 512, rwk y w b v g d * u1 d)

theorem tile_apply (yf yb : Vec Ideal S256x512 .f32) (w b : Vec Ideal S1x512 .f32) (v : Vec Ideal S256x512 .f32) (g a : Vec Ideal S256x512 .bf16)
    (u0 u1 : Vec Ideal S512x1024 .bf16) (x : Vec Ideal S256x1024 .f32) (m : Vec Ideal S1x1x1024 .f32) (r : Fin 256) (n : Fin 1024) :
    tile yf yb w b v g a u0 u1 x m (ix2 r n)
      = one (x (ix2 r n)) (m (ix3 0 0 n)) (fun k => yf (ix2 r k) + yb (ix2 r k)) (fun k => w (ix2 0 k)) (fun k => b (ix2 0 k)) (fun k => v (ix2 r k)) (fun k => g (ix2 r k)) (fun k => a (ix2 r k))
          (fun k => u0 (ix2 k n)) (fun k => u1 (ix2 k n)) := by
  unfold tile one
  rw [pay10_apply]
  refine congrArg (fun z => x (ix2 r n) + m (ix3 0 0 n) * (_ + z)) (Finset.sum_congr rfl fun d _ => ?_)
  rw [pay8_apply, pay4_apply, pay6_apply]
  rfl

section Blocks

variable (i : grid0.Coords) (x0 : Vec Ideal S512x1024 .f32) (x1 : Vec Ideal S512x512 .bf16) (x2 x3 x4 : Vec Ideal S512x512 .f32) (x5 : Vec Ideal S512x512 .bf16) (x6 x7 : Vec Ideal S1x1x6144 .f32)
  (x8 : Vec Ideal S2x512 .f32) (x9 : Vec Ideal S1024x1024 .bf16) (x10 : Vec Ideal S1x1024 .f32) (x11 : Vec Ideal S32x1024 .bf16) (x12 : Vec Ideal S16x1 .f32)

/-- A point's block at a row and a column, `m` being the row's tile's modulation. -/
def rowOf (m : Vec Ideal S1x1x6144 .f32) (r : Fin 512) (n : Fin 1024) : EReal :=
  one (x0 (ix2 r n)) (m (ix3 0 0 ⟨2048 + n.val, by omega⟩)) (fun k => x2 (ix2 r k) + x3 (ix2 r k)) (fun k => x8 (ix2 0 k)) (fun k => x8 (ix2 1 k)) (fun k => x4 (ix2 r k)) (fun k => x5 (ix2 r k)) (fun k => x1 (ix2 r k))
    (fun k => x9 (ix2 ⟨k.val, by omega⟩ n)) (fun k => x9 (ix2 ⟨512 + k.val, by omega⟩ n))

/-- A point's block: two tiles of 256 rows, each with its modulation. -/
def blk : Vec Ideal S512x1024 .f32 := fun y => rowOf x0 x1 x2 x3 x4 x5 x8 x9 (if (y 0).val < 256 then x6 else x7) (y 0) (y 1)

theorem tile_ld (m : Vec Ideal S1x1x6144 .f32) (o : ℕ) (ho : o ≤ 256) (h1 : ∀ a, (![o, 0] : Fin 2 → Nat) a + S256x512.size a ≤ S512x512.size a) (h2 : ∀ a, (![o, 0] : Fin 2 → Nat) a + S256x1024.size a ≤ S512x1024.size a)
    (r : Fin 256) (n : Fin 1024) :
    tile (View.ld x2 (Rect.unit (s := S512x512) ![o, 0] S256x512.size h1)) (View.ld x3 (Rect.unit (s := S512x512) ![o, 0] S256x512.size h1)) (View.ld x8 r0_2) (View.ld x8 r0_3)
        (View.ld x4 (Rect.unit (s := S512x512) ![o, 0] S256x512.size h1)) (View.ld x5 (Rect.unit (s := S512x512) ![o, 0] S256x512.size h1)) (View.ld x1 (Rect.unit (s := S512x512) ![o, 0] S256x512.size h1))
        (View.ld x9 r0_4) (View.ld x9 r0_5) (View.ld x0 (Rect.unit (s := S512x1024) ![o, 0] S256x1024.size h2)) (View.ld m r0_7) (ix2 r n)
      = rowOf x0 x1 x2 x3 x4 x5 x8 x9 m ⟨o + r.val, by omega⟩ n := by
  have hr : o + r.val < 512 := by omega
  rw [tile_apply]
  unfold rowOf
  refine congr (congr (congr (congr (congr (congr (congr (congr (congr (congrArg one ?_) ?_) ?_) ?_) ?_) ?_) ?_) ?_) ?_) ?_
  · exact ld_1024 x0 o h2 r n hr
  · exact ld_m m n
  · exact funext fun k => congr (congrArg _ (ld_512 x2 o h1 r k hr)) (ld_512 x3 o h1 r k hr)
  · exact funext fun k => ld_ln x8 0 _ k (by decide)
  · exact funext fun k => ld_ln x8 1 _ k (by decide)
  · exact funext fun k => ld_512 x4 o h1 r k hr
  · exact funext fun k => ld_512 x5 o h1 r k hr
  · exact funext fun k => ld_512 x1 o h1 r k hr
  · exact funext fun k => (ld_w x9 0 _ k n (by omega)).trans (congrArg (fun q => x9 (ix2 q n)) (Fin.ext (by simp only; omega)))
  · exact funext fun k => ld_w x9 512 _ k n (by omega)

/-- A tile's rows lie in the block from row `o` on. -/
theorem blk_under (m : Vec Ideal S1x1x6144 .f32) (o : ℕ) (ho : o ≤ 256) (h2 : ∀ a, (![o, 0] : Fin 2 → Nat) a + S256x1024.size a ≤ S512x1024.size a) (r : Fin 256) (n : Fin 1024)
    (hm : m = if o + r.val < 256 then x6 else x7) :
    blk x0 x1 x2 x3 x4 x5 x6 x7 x8 x9 ((Rect.unit (s := S512x1024) ![o, 0] S256x1024.size h2).idx (ix2 r n)) = rowOf x0 x1 x2 x3 x4 x5 x8 x9 m ⟨o + r.val, by omega⟩ n := by
  have e : (Rect.unit (s := S512x1024) ![o, 0] S256x1024.size h2).idx (ix2 r n) = ix2 ⟨o + r.val, by omega⟩ n := funext fun a => Fin.ext (by
    match a with
    | ⟨0, _⟩ => show o + 1 * r.val = o + r.val; omega
    | ⟨1, _⟩ => show 0 + 1 * n.val = n.val; omega)
  rw [e, hm]
  rfl

theorem out13 (y : S512x1024.Idx) :
    out0_13 i x0 x1 x2 x3 x4 x5 x6 x7 x8 x9 x10 x11 x12 y = blk x0 x1 x2 x3 x4 x5 x6 x7 x8 x9 y := by
  refine View.canon_apply_of_pieces (blk x0 x1 x2 x3 x4 x5 x6 x7 x8 x9) _ ?_ y (cover0_13 _ _ y)
  intro pc hpc
  rcases List.mem_cons.mp hpc with rfl | hpc
  · intro z
    idx_vars z
    exact (tile_ld x0 x1 x2 x3 x4 x5 x8 x9 x7 256 (by decide) inb_S512x512_S256x512_256_0 inb_S512x1024_S256x1024_256_0 z0 z1).trans
      (blk_under x0 x1 x2 x3 x4 x5 x6 x7 x8 x9 x7 256 (by decide) inb_S512x1024_S256x1024_256_0 z0 z1 (if_neg (by omega)).symm).symm
  rcases List.mem_cons.mp hpc with rfl | hpc
  · intro z
    idx_vars z
    exact (tile_ld x0 x1 x2 x3 x4 x5 x8 x9 x6 0 (by decide) inb_S512x512_S256x512_0_0 inb_S512x1024_S256x1024_0_0 z0 z1).trans
      (blk_under x0 x1 x2 x3 x4 x5 x6 x7 x8 x9 x6 0 (by decide) inb_S512x1024_S256x1024_0_0 z0 z1 (if_pos (by omega)).symm).symm
  nomatch hpc

end Blocks

end Cert.Proof.Mx

end
-- ==== Proof.Mx.Blocks.lean ====
module

public import proofs.«01_k».proof.Proof.Mx.Body
public import Idealize.ShloMosaic.Lib.Pipeline.ValueKit

@[expose] public section

set_option maxRecDepth 16384

noncomputable section

namespace Cert.Proof.Mx

open Cert.MixIdeal Cert.MixIdeal.Gen Idealize.ShloMosaic Idealize.ShloMosaic.TcCoe Idealize.SL.Sem

/-- The windows' block indices at a point. -/
theorem ix_0 : ∀ t : Fin grid0.N, win0_0.index t = ![t.val, 0] := by decide +kernel
theorem ix_1 : ∀ t : Fin grid0.N, win0_1.index t = ![t.val, 0] := by decide +kernel
theorem ix_2 : ∀ t : Fin grid0.N, win0_2.index t = ![t.val, 0] := by decide +kernel
theorem ix_3 : ∀ t : Fin grid0.N, win0_3.index t = ![t.val, 0] := by decide +kernel
theorem ix_4 : ∀ t : Fin grid0.N, win0_4.index t = ![t.val, 0] := by decide +kernel
theorem ix_5 : ∀ t : Fin grid0.N, win0_5.index t = ![t.val, 0] := by decide +kernel
theorem ix_6 : ∀ t : Fin grid0.N, win0_6.index t = ![if 2 * t.val % 17 < 1 then 8 else 2 * t.val / 17, 0, 0] := by decide +kernel
theorem ix_7 : ∀ t : Fin grid0.N, win0_7.index t = ![if (2 * t.val + 1) % 17 < 1 then 8 else (2 * t.val + 1) / 17, 0, 0] := by decide +kernel
theorem ix_8 : ∀ t : Fin grid0.N, win0_8.index t = ![0, 0] := by decide +kernel
theorem ix_9 : ∀ t : Fin grid0.N, win0_9.index t = ![0, 0] := by decide +kernel
theorem ix_13 : ∀ t : Fin grid0.N, win0_13.index t = ![t.val, 0] := by decide +kernel

/-- An array of the call as flat rows. -/
theorem flat_1024 (x : FVec Ideal S8x4352x1024 .f32) (R : Fin 34816) (d : Fin 1024) :
    (shapeCast S34816x1024 x shapeCasts_S8x4352x1024_S34816x1024 : FVec Ideal S34816x1024 .f32) (ix2 R d) = x (ix3 (rowB R) (rowT R) d) := by
  unfold rowB rowT
  pointwise []

theorem flat_512 {φ : FTy} (x : FVec Ideal S8x4352x512 φ) (R : Fin 34816) (d : Fin 512) :
    (shapeCast S34816x512 x shapeCasts_S8x4352x512_S34816x512 : FVec Ideal S34816x512 φ) (ix2 R d) = x (ix3 (rowB R) (rowT R) d) := by
  unfold rowB rowT
  pointwise []

/-- The normalisation's weights and shifts, stacked. -/
def stacked (w b : FVec Ideal S512 .f32) : FVec Ideal S2x512 .f32 :=
  concatenate S2x512 0 [⟨S1x512, (broadcastInDim S1x512 ![1] bcast_S512_S1x512_1 w : FVec Ideal S1x512 .f32)⟩, ⟨S1x512, (broadcastInDim S1x512 ![1] bcast_S512_S1x512_1 b : FVec Ideal S1x512 .f32)⟩] concatenates_S1x512_S1x512_S2x512_d0

theorem stacked_0 (w b : FVec Ideal S512 .f32) (d : Fin 512) : stacked w b (ix2 0 d) = w (ix1 d) := by
  pointwise [stacked]

theorem stacked_1 (w b : FVec Ideal S512 .f32) (d : Fin 512) : stacked w b (ix2 1 d) = b (ix1 d) := by
  pointwise [stacked]

variable (m : (ℓ : Loc nD τ sig) → Buf (Elt Ideal) ℓ) (c : Dev nD)

/-- The call's arguments that its first result depends on. -/
abbrev aX : Ax := m ((c : Thread nD τ).loc main_arg0)
abbrev aA : Ab := m ((c : Thread nD τ).loc main_arg1)
abbrev aF : Ah := m ((c : Thread nD τ).loc main_arg2)
abbrev aR : Ah := m ((c : Thread nD τ).loc main_arg3)
abbrev aV : Ah := m ((c : Thread nD τ).loc main_arg4)
abbrev aG : Ab := m ((c : Thread nD τ).loc main_arg5)
abbrev aM : Am := m ((c : Thread nD τ).loc main_arg6)
abbrev aL : Al := m ((c : Thread nD τ).loc main_arg7)
abbrev aB : Al := m ((c : Thread nD τ).loc main_arg8)
abbrev aW : Aw := m ((c : Thread nD τ).loc main_arg9)

theorem V_v10 : V m c main_v10 = stacked (aL m c) (aB m c) := by
  unfold_abbrev_sides
  after_results_simp
  rfl

theorem V_v11 : V m c main_v11 = truncf (F := Ideal) .bf16 (aW m c) bitsLt_bf16_f32 := by
  unfold_abbrev_sides
  after_results_simp

theorem V_v13 : V m c main_v13 = shapeCast S34816x1024 (aX m c) shapeCasts_S8x4352x1024_S34816x1024 := by
  unfold_abbrev_sides
  after_results_simp
  rfl

theorem V_v14 : V m c main_v14 = shapeCast S34816x512 (aA m c) shapeCasts_S8x4352x512_S34816x512 := by
  unfold_abbrev_sides
  after_results_simp
  rfl

theorem V_v15 : V m c main_v15 = shapeCast S34816x512 (aF m c) shapeCasts_S8x4352x512_S34816x512 := by
  unfold_abbrev_sides
  after_results_simp
  rfl

theorem V_v16 : V m c main_v16 = shapeCast S34816x512 (aR m c) shapeCasts_S8x4352x512_S34816x512 := by
  unfold_abbrev_sides
  after_results_simp
  rfl

theorem V_v17 : V m c main_v17 = shapeCast S34816x512 (aV m c) shapeCasts_S8x4352x512_S34816x512 := by
  unfold_abbrev_sides
  after_results_simp
  rfl

theorem V_v18 : V m c main_v18 = shapeCast S34816x512 (aG m c) shapeCasts_S8x4352x512_S34816x512 := by
  unfold_abbrev_sides
  after_results_simp
  rfl

section Point

variable (t : Fin cfg0.N)

theorem blk_8_0 (d : Fin 512) : (iblk m c 8 t : Vec Ideal S2x512 .f32) (ix2 0 d) = aL m c (ix1 d) := by
  have e : (iblk m c 8 t : Vec Ideal S2x512 .f32) (ix2 0 d) = (V m c main_v10 : FVec Ideal S2x512 .f32) (ix2 0 d) := by
    blk_ext [iblk, ix_8 t]
  rw [e, V_v10, stacked_0]

theorem blk_8_1 (d : Fin 512) : (iblk m c 8 t : Vec Ideal S2x512 .f32) (ix2 1 d) = aB m c (ix1 d) := by
  have e : (iblk m c 8 t : Vec Ideal S2x512 .f32) (ix2 1 d) = (V m c main_v10 : FVec Ideal S2x512 .f32) (ix2 1 d) := by
    blk_ext [iblk, ix_8 t]
  rw [e, V_v10, stacked_1]

theorem blk_9 (d n : Fin 1024) : (iblk m c 9 t : Vec Ideal S1024x1024 .bf16) (ix2 d n) = aW m c (ix2 d n) := by
  have e : (iblk m c 9 t : Vec Ideal S1024x1024 .bf16) (ix2 d n) = (V m c main_v11 : FVec Ideal S1024x1024 .bf16) (ix2 d n) := by
    blk_ext [iblk, ix_9 t]
  rw [e, V_v11]
  rfl

variable (r : Fin 512) (R : Fin 34816) (hR : R.val = 512 * t.val + r.val)

include hR

theorem blk_0 (d : Fin 1024) : (iblk m c 0 t : Vec Ideal S512x1024 .f32) (ix2 r d) = aX m c (ix3 (rowB R) (rowT R) d) := by
  have e : (iblk m c 0 t : Vec Ideal S512x1024 .f32) (ix2 r d) = (V m c main_v13 : FVec Ideal S34816x1024 .f32) (ix2 R d) := by
    blk_ext [iblk, ix_0 t]
  rw [e, V_v13, flat_1024]

theorem blk_1 (d : Fin 512) : (iblk m c 1 t : Vec Ideal S512x512 .bf16) (ix2 r d) = aA m c (ix3 (rowB R) (rowT R) d) := by
  have e : (iblk m c 1 t : Vec Ideal S512x512 .bf16) (ix2 r d) = (V m c main_v14 : FVec Ideal S34816x512 .bf16) (ix2 R d) := by
    blk_ext [iblk, ix_1 t]
  rw [e, V_v14, flat_512]

theorem blk_2 (d : Fin 512) : (iblk m c 2 t : Vec Ideal S512x512 .f32) (ix2 r d) = aF m c (ix3 (rowB R) (rowT R) d) := by
  have e : (iblk m c 2 t : Vec Ideal S512x512 .f32) (ix2 r d) = (V m c main_v15 : FVec Ideal S34816x512 .f32) (ix2 R d) := by
    blk_ext [iblk, ix_2 t]
  rw [e, V_v15, flat_512]

theorem blk_3 (d : Fin 512) : (iblk m c 3 t : Vec Ideal S512x512 .f32) (ix2 r d) = aR m c (ix3 (rowB R) (rowT R) d) := by
  have e : (iblk m c 3 t : Vec Ideal S512x512 .f32) (ix2 r d) = (V m c main_v16 : FVec Ideal S34816x512 .f32) (ix2 R d) := by
    blk_ext [iblk, ix_3 t]
  rw [e, V_v16, flat_512]

theorem blk_4 (d : Fin 512) : (iblk m c 4 t : Vec Ideal S512x512 .f32) (ix2 r d) = aV m c (ix3 (rowB R) (rowT R) d) := by
  have e : (iblk m c 4 t : Vec Ideal S512x512 .f32) (ix2 r d) = (V m c main_v17 : FVec Ideal S34816x512 .f32) (ix2 R d) := by
    blk_ext [iblk, ix_4 t]
  rw [e, V_v17, flat_512]

theorem blk_5 (d : Fin 512) : (iblk m c 5 t : Vec Ideal S512x512 .bf16) (ix2 r d) = aG m c (ix3 (rowB R) (rowT R) d) := by
  have e : (iblk m c 5 t : Vec Ideal S512x512 .bf16) (ix2 r d) = (V m c main_v18 : FVec Ideal S34816x512 .bf16) (ix2 R d) := by
    blk_ext [iblk, ix_5 t]
  rw [e, V_v18, flat_512]

theorem blk_6 (k : Fin 6144) (hr : r.val < 256) : (iblk m c 6 t : Vec Ideal S1x1x6144 .f32) (ix3 0 0 k) = aM m c (ix3 (modRow (rowB R) (rowT R)) 0 k) := by
  have hm : (modRow (rowB R) (rowT R)).val = if 2 * t.val % 17 < 1 then 8 else 2 * t.val / 17 := by
    show (if R.val % 4352 < 256 then 8 else R.val / 4352) = _
    by_cases h : 2 * t.val % 17 < 1
    · rw [if_pos h, if_pos (by omega)]
    · rw [if_neg h, if_neg (by omega)]
      omega
  blk_ext [iblk, V, ix_6 t, hm]

theorem blk_7 (k : Fin 6144) (hr : ¬ r.val < 256) : (iblk m c 7 t : Vec Ideal S1x1x6144 .f32) (ix3 0 0 k) = aM m c (ix3 (modRow (rowB R) (rowT R)) 0 k) := by
  have hm : (modRow (rowB R) (rowT R)).val = if (2 * t.val + 1) % 17 < 1 then 8 else (2 * t.val + 1) / 17 := by
    have := r.isLt
    show (if R.val % 4352 < 256 then 8 else R.val / 4352) = _
    by_cases h : (2 * t.val + 1) % 17 < 1
    · rw [if_pos h, if_pos (by omega)]
    · rw [if_neg h, if_neg (by omega)]
      omega
  blk_ext [iblk, V, ix_7 t, hm]

end Point

/-- A row of a point's block, with its tile's modulation, is the residual stream of the arguments. -/
theorem row_eq (t : Fin cfg0.N) (r : Fin 512) (R : Fin 34816) (hR : R.val = 512 * t.val + r.val) (n : Fin 1024) (M : Vec Ideal S1x1x6144 .f32)
    (hM : ∀ k : Fin 6144, M (ix3 0 0 k) = aM m c (ix3 (modRow (rowB R) (rowT R)) 0 k)) :
    rowOf (iblk m c 0 t) (iblk m c 1 t) (iblk m c 2 t) (iblk m c 3 t) (iblk m c 4 t) (iblk m c 5 t) (iblk m c 8 t) (iblk m c 9 t) M r n
      = res (aX m c) (aA m c) (aF m c) (aR m c) (aV m c) (aG m c) (aM m c) (aL m c) (aB m c) (aW m c) (rowB R) (rowT R) n := by
  unfold rowOf
  refine Eq.trans (congr (congr (congr (congr (congr (congr (congr (congr (congr (congrArg one (blk_0 m c t r R hR n)) (hM ⟨2048 + n.val, by omega⟩))
    (funext fun k => congr (congrArg _ (blk_2 m c t r R hR k)) (blk_3 m c t r R hR k))) (funext fun k => blk_8_0 m c t k)) (funext fun k => blk_8_1 m c t k))
    (funext fun k => blk_4 m c t r R hR k)) (funext fun k => blk_5 m c t r R hR k)) (funext fun k => blk_1 m c t r R hR k))
    (funext fun k => blk_9 m c t ⟨k.val, by omega⟩ n)) (funext fun k => blk_9 m c t ⟨512 + k.val, by omega⟩ n)) ?_
  rfl

/-- After the run the first output's array is the residual stream. -/
theorem arr_13 : (dats m 0 c).arrAt 13 cfg0.N = resArr (aX m c) (aA m c) (aF m c) (aR m c) (aV m c) (aG m c) (aM m c) (aL m c) (aB m c) (aW m c) := by
  refine (dats m 0 c).arrAt_eq_of_covers 13 _ (by decide +kernel) fun t hf y => ?_
  blk_simp
  rw [after0_13]
  idx_vars y
  have ht : t.val < 68 := lt_of_lt_of_eq t.isLt N_0
  have e : out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 y0 y1)
      = resArr (aX m c) (aA m c) (aF m c) (aR m c) (aV m c) (aG m c) (aM m c) (aL m c) (aB m c) (aW m c) (ix2 ⟨512 * t.val + y0.val, by omega⟩ y1) := by
    rw [out13]
    refine row_eq m c t y0 ⟨512 * t.val + y0.val, by omega⟩ rfl y1 _ fun k => ?_
    by_cases h : y0.val < 256
    · exact (congrFun (if_pos h) _).trans (blk_6 m c t y0 _ rfl k h)
    · exact (congrFun (if_neg h) _).trans (blk_7 m c t y0 _ rfl k h)
  refine e.trans ?_
  blk_ext [ix_13 t]

end Cert.Proof.Mx

end
-- ==== Proof.Mx.Ref.lean ====
module

public import proofs.«01_k».proof.Proof.Gen.MixRefIdeal.Run
public import proofs.«01_k».proof.Proof.Mx.Spec

@[expose] public section

set_option maxRecDepth 16384

noncomputable section

namespace Cert.Proof.Mx.Ref

open Cert.MixRefIdeal Cert.MixRefIdeal.Gen Idealize.ShloMosaic Idealize.ShloMosaic.TcCoe Idealize.SL.Sem

/-! ## The reference's stages -/

/-- The two scans' sum, by head. -/
def heads (f r : FVec Ideal S8x4352x512 .f32) : FVec Ideal S8x4352x8x64 .f32 :=
  shapeCast S8x4352x8x64 (addf f r) shapeCasts_S8x4352x512_S8x4352x8x64

/-- The means over the heads. -/
def mean (y : FVec Ideal S8x4352x8x64 .f32) : FVec Ideal S8x4352x8x1 .f32 :=
  Host.divf (broadcastInDim S8x4352x8x1 ![0, 1, 2] bcast_S8x4352x8_S8x4352x8x1_0_1_2 (Host.reduceAdd y (constant S_ .f32 0x00000000#32) reducesTo_S8x4352x8x64_S8x4352x8_d3 h_S_))
    (broadcastInDim S8x4352x8x1 ![] bcast_S_S8x4352x8x1 (constant S_ .f32 0x42800000#32))

/-- The heads less their means. -/
def less (y : FVec Ideal S8x4352x8x64 .f32) (u : FVec Ideal S8x4352x8x1 .f32) : FVec Ideal S8x4352x8x64 .f32 :=
  subf y (broadcastInDim S8x4352x8x64 ![0, 1, 2, 3] bcast_S8x4352x8x1_S8x4352x8x64_0_1_2_3 u)

/-- The normalised heads. -/
def norm (d : FVec Ideal S8x4352x8x64 .f32) (v : FVec Ideal S8x4352x8x1 .f32) : FVec Ideal S8x4352x8x64 .f32 :=
  mulf d (broadcastInDim S8x4352x8x64 ![0, 1, 2, 3] bcast_S8x4352x8x1_S8x4352x8x64_0_1_2_3 (Host.rsqrt (addf v (broadcastInDim S8x4352x8x1 ![] bcast_S_S8x4352x8x1 (constant S_ .f32 0x3A27C5AC#32)))))

/-- The recurrent half: weighted, shifted, with the bonus, gated. -/
def gated (h : FVec Ideal S8x4352x8x64 .f32) (w b : FVec Ideal S512 .f32) (v : FVec Ideal S8x4352x512 .f32) (g : FVec Ideal S8x4352x512 .bf16) : FVec Ideal S8x4352x512 .f32 :=
  mulf (addf (addf (mulf (shapeCast S8x4352x512 h shapeCasts_S8x4352x8x64_S8x4352x512)
    (broadcastInDim S8x4352x512 ![0, 1, 2] bcast_S1x1x512_S8x4352x512_0_1_2 (broadcastInDim S1x1x512 ![2] bcast_S512_S1x1x512_2 w)))
    (broadcastInDim S8x4352x512 ![0, 1, 2] bcast_S1x1x512_S8x4352x512_0_1_2 (broadcastInDim S1x1x512 ![2] bcast_S512_S1x1x512_2 b))) v) (extf .f32 g bitsLt_bf16_f32)

/-- The attention's half and the recurrent one side by side. -/
def side (a : FVec Ideal S8x4352x512 .bf16) (r : FVec Ideal S8x4352x512 .f32) : FVec Ideal S8x4352x1024 .f32 :=
  concatenate S8x4352x1024 2 [⟨S8x4352x512, (extf .f32 a bitsLt_bf16_f32 : FVec Ideal S8x4352x512 .f32)⟩, ⟨S8x4352x512, r⟩] concatenates_S8x4352x512_S8x4352x512_S8x4352x1024_d2

/-- The product with the weights. -/
def dot (h : FVec Ideal S8x4352x1024 .f32) (w : FVec Ideal S1024x1024 .f32) : FVec Ideal S8x4352x1024 .f32 :=
  Host.dotGeneral dot_S8x4352x1024_S1024x1024_S8x4352x1024_2_0_01_1_n_n none h w

/-- The context's rows of the residual stream. -/
def ctx (x p : FVec Ideal S8x4352x1024 .f32) (md : FVec Ideal S16x1x6144 .f32) : FVec Ideal S8x256x1024 .f32 :=
  addf (extractStridedSlice S8x256x1024 ![0, 0, 0] x slices_S8x4352x1024_S8x256x1024_0_0_0)
    (mulf (broadcastInDim S8x256x1024 ![0, 1, 2] bcast_S1x1x1024_S8x256x1024_0_1_2 (extractStridedSlice S1x1x1024 ![8, 0, 0] (extractStridedSlice S16x1x1024 ![0, 0, 2048] md slices_S16x1x6144_S16x1x1024_0_0_2048) slices_S16x1x1024_S1x1x1024_8_0_0))
      (extractStridedSlice S8x256x1024 ![0, 0, 0] p slices_S8x4352x1024_S8x256x1024_0_0_0))

/-- The latents' rows of it. -/
def lat (x p : FVec Ideal S8x4352x1024 .f32) (md : FVec Ideal S16x1x6144 .f32) : FVec Ideal S8x4096x1024 .f32 :=
  addf (extractStridedSlice S8x4096x1024 ![0, 256, 0] x slices_S8x4352x1024_S8x4096x1024_0_256_0)
    (mulf (broadcastInDim S8x4096x1024 ![0, 1, 2] bcast_S8x1x1024_S8x4096x1024_0_1_2 (extractStridedSlice S8x1x1024 ![0, 0, 0] (extractStridedSlice S16x1x1024 ![0, 0, 2048] md slices_S16x1x6144_S16x1x1024_0_0_2048) slices_S16x1x1024_S8x1x1024_0_0_0))
      (extractStridedSlice S8x4096x1024 ![0, 256, 0] p slices_S8x4352x1024_S8x4096x1024_0_256_0))

/-- Context and latents one after the other, as flat rows. -/
def both (a : FVec Ideal S8x256x1024 .f32) (b : FVec Ideal S8x4096x1024 .f32) : FVec Ideal S34816x1024 .f32 :=
  shapeCast S34816x1024 (concatenate S8x4352x1024 1 [⟨S8x256x1024, a⟩, ⟨S8x4096x1024, b⟩] concatenates_S8x256x1024_S8x4096x1024_S8x4352x1024_d1 : FVec Ideal S8x4352x1024 .f32) shapeCasts_S8x4352x1024_S34816x1024

/-- The heads of the scans' sum less their means. -/
def cens (f r : FVec Ideal S8x4352x512 .f32) : FVec Ideal S8x4352x8x64 .f32 := less (heads f r) (mean (heads f r))

/-- The whole product. -/
def prod (a : FVec Ideal S8x4352x512 .bf16) (f r v : FVec Ideal S8x4352x512 .f32) (g : FVec Ideal S8x4352x512 .bf16) (w b : FVec Ideal S512 .f32) (wo : FVec Ideal S1024x1024 .f32) : FVec Ideal S8x4352x1024 .f32 :=
  dot (side a (gated (norm (cens f r) (mean (mulf (cens f r) (cens f r)))) w b v g)) wo

/-! ## What each stage holds at an index -/

theorem heads_apply (f r : FVec Ideal S8x4352x512 .f32) (s : Fin 8) (t : Fin 4352) (h : Fin 8) (d : Fin 64) :
    heads f r (ix4 s t h d) = f (ix3 s t ⟨64 * h.val + d.val, by omega⟩) + r (ix3 s t ⟨64 * h.val + d.val, by omega⟩) := by
  have e : heads f r (ix4 s t h d) = addf f r (ix3 s t ⟨64 * h.val + d.val, by omega⟩) := by
    unfold heads
    generalize addf f r = q
    pointwise []
    exact congrArg q (congrArg (ix3 s t) (Fin.ext (by simp only; omega)))
  exact e

theorem mean_apply (y : FVec Ideal S8x4352x8x64 .f32) (s : Fin 8) (t : Fin 4352) (h : Fin 8) :
    mean y (ix4 s t h 0) = Ideal.div (∑ d : Fin 64, y (ix4 s t h d)) (Ideal.ofBits .f32 0x42800000#32) := by
  pointwise [mean]

theorem less_apply (y : FVec Ideal S8x4352x8x64 .f32) (u : FVec Ideal S8x4352x8x1 .f32) (s : Fin 8) (t : Fin 4352) (h : Fin 8) (d : Fin 64) :
    less y u (ix4 s t h d) = y (ix4 s t h d) - u (ix4 s t h 0) := by
  pointwise [less]

theorem norm_apply (y : FVec Ideal S8x4352x8x64 .f32) (u : FVec Ideal S8x4352x8x1 .f32) (s : Fin 8) (t : Fin 4352) (h : Fin 8) (d : Fin 64) :
    norm y u (ix4 s t h d) = y (ix4 s t h d) * Ideal.rsqrt (u (ix4 s t h 0) + Ideal.ofBits .f32 0x3A27C5AC#32) := by
  pointwise [norm]

theorem gated_apply (h : FVec Ideal S8x4352x8x64 .f32) (w b : FVec Ideal S512 .f32) (v : FVec Ideal S8x4352x512 .f32) (g : FVec Ideal S8x4352x512 .bf16) (s : Fin 8) (t : Fin 4352) (l : Fin 512) :
    gated h w b v g (ix3 s t l) = (h (ix4 s t ⟨l.val / 64, by omega⟩ ⟨l.val % 64, Nat.mod_lt _ (by decide)⟩) * w (ix1 l) + b (ix1 l) + v (ix3 s t l)) * g (ix3 s t l) := by
  pointwise [gated]

theorem side_apply (a : FVec Ideal S8x4352x512 .bf16) (r : FVec Ideal S8x4352x512 .f32) (s : Fin 8) (t : Fin 4352) (d : Fin 1024) :
    side a r (ix3 s t d) = if h : d.val < 512 then a (ix3 s t ⟨d.val, h⟩) else r (ix3 s t ⟨d.val - 512, by omega⟩) := by
  pointwise [side]

theorem dot_apply (h : FVec Ideal S8x4352x1024 .f32) (w : FVec Ideal S1024x1024 .f32) (s : Fin 8) (t : Fin 4352) (n : Fin 1024) :
    dot h w (ix3 s t n) = ∑ d : Fin 1024, h (ix3 s t d) * w (ix2 d n) := by
  pointwise [dot]

theorem ctx_apply (x p : FVec Ideal S8x4352x1024 .f32) (md : FVec Ideal S16x1x6144 .f32) (s : Fin 8) (t : Fin 256) (n : Fin 1024) :
    ctx x p md (ix3 s t n) = x (ix3 s ⟨t.val, by omega⟩ n) + md (ix3 8 0 ⟨2048 + n.val, by omega⟩) * p (ix3 s ⟨t.val, by omega⟩ n) := by
  pointwise [ctx]

theorem lat_apply (x p : FVec Ideal S8x4352x1024 .f32) (md : FVec Ideal S16x1x6144 .f32) (s : Fin 8) (t : Fin 4096) (n : Fin 1024) :
    lat x p md (ix3 s t n) = x (ix3 s ⟨256 + t.val, by omega⟩ n) + md (ix3 ⟨s.val, by omega⟩ 0 ⟨2048 + n.val, by omega⟩) * p (ix3 s ⟨256 + t.val, by omega⟩ n) := by
  pointwise [lat]

theorem both_apply (a : FVec Ideal S8x256x1024 .f32) (b : FVec Ideal S8x4096x1024 .f32) (R : Fin 34816) (n : Fin 1024) :
    both a b (ix2 R n) = if h : (rowT R).val < 256 then a (ix3 (rowB R) ⟨(rowT R).val, h⟩ n) else b (ix3 (rowB R) ⟨(rowT R).val - 256, by omega⟩ n) := by
  unfold rowB rowT
  pointwise [both]

/-! ## The stages put together -/

section Rows

variable (f r : FVec Ideal S8x4352x512 .f32) (s : Fin 8) (t : Fin 4352)

theorem mean_heads (h : Fin 8) (l : Fin 512) (hl : l.val / 64 = h.val) :
    mean (heads f r) (ix4 s t h 0) = hmean (fun k => f (ix3 s t k) + r (ix3 s t k)) l := by
  rw [mean_apply]
  unfold hmean
  refine congrArg (fun q => Ideal.div q _) (Finset.sum_congr rfl fun d _ => ?_)
  rw [heads_apply]
  have e : (⟨64 * h.val + d.val, by omega⟩ : Fin 512) = ⟨64 * (l.val / 64) + d.val, by omega⟩ := Fin.ext (by simp only [hl])
  rw [e]

theorem cens_apply (h : Fin 8) (d : Fin 64) (l : Fin 512) (hl : l.val = 64 * h.val + d.val) :
    cens f r (ix4 s t h d) = cen (fun k => f (ix3 s t k) + r (ix3 s t k)) l := by
  unfold cens cen
  have e : (⟨64 * h.val + d.val, by omega⟩ : Fin 512) = l := Fin.ext hl.symm
  rw [less_apply, heads_apply, mean_heads f r s t h l (by omega), e]

theorem var_apply (h : Fin 8) (l : Fin 512) (hl : l.val / 64 = h.val) :
    mean (mulf (cens f r) (cens f r)) (ix4 s t h 0) = hmean (fun k => cen (fun k => f (ix3 s t k) + r (ix3 s t k)) k * cen (fun k => f (ix3 s t k) + r (ix3 s t k)) k) l := by
  rw [mean_apply]
  unfold hmean
  refine congrArg (fun q => Ideal.div q _) (Finset.sum_congr rfl fun d _ => ?_)
  have e := cens_apply f r s t h d ⟨64 * (l.val / 64) + d.val, by omega⟩ (by simp only [hl])
  exact congr (congrArg _ e) e

theorem gated_eq (w b : FVec Ideal S512 .f32) (v : FVec Ideal S8x4352x512 .f32) (g : FVec Ideal S8x4352x512 .bf16) (l : Fin 512) :
    gated (norm (cens f r) (mean (mulf (cens f r) (cens f r)))) w b v g (ix3 s t l)
      = rwk (fun k => f (ix3 s t k) + r (ix3 s t k)) (fun k => w (ix1 k)) (fun k => b (ix1 k)) (fun k => v (ix3 s t k)) (fun k => g (ix3 s t k)) l := by
  unfold rwk
  rw [gated_apply, norm_apply, var_apply f r s t _ l rfl, cens_apply f r s t _ _ l (by simp only; omega)]

theorem prod_apply (a : FVec Ideal S8x4352x512 .bf16) (v : FVec Ideal S8x4352x512 .f32) (g : FVec Ideal S8x4352x512 .bf16) (w b : FVec Ideal S512 .f32) (wo : FVec Ideal S1024x1024 .f32) (n : Fin 1024) :
    prod a f r v g w b wo (ix3 s t n)
      = mixed (fun d => a (ix3 s t d)) (rwk (fun d => f (ix3 s t d) + r (ix3 s t d)) (fun d => w (ix1 d)) (fun d => b (ix1 d)) (fun d => v (ix3 s t d)) (fun d => g (ix3 s t d))) (fun d => wo (ix2 d n)) := by
  unfold prod mixed
  rw [dot_apply]
  refine (Fin.sum_univ_add (a := 512) (b := 512) _).trans (congr (congrArg _ (Finset.sum_congr rfl fun d _ => ?_)) (Finset.sum_congr rfl fun d _ => ?_))
  · rw [side_apply, dif_pos (show (Fin.castAdd 512 d).val < 512 from d.isLt)]
    rfl
  · have hv : (Fin.natAdd 512 d).val = 512 + d.val := rfl
    have e : (⟨(Fin.natAdd 512 d).val - 512, by omega⟩ : Fin 512) = d := Fin.ext (by simp only; omega)
    rw [side_apply, dif_neg (by omega), e, gated_eq]
    rfl

end Rows

/-- The reference's result is the residual stream. -/
theorem out_eq (x : FVec Ideal S8x4352x1024 .f32) (a : FVec Ideal S8x4352x512 .bf16) (f r v : FVec Ideal S8x4352x512 .f32) (g : FVec Ideal S8x4352x512 .bf16) (md : FVec Ideal S16x1x6144 .f32)
    (w b : FVec Ideal S512 .f32) (wo : FVec Ideal S1024x1024 .f32) :
    both (ctx x (prod a f r v g w b wo) md) (lat x (prod a f r v g w b wo) md) = resArr x a f r v g md w b wo := by
  funext i
  idx_vars i
  show _ = res x a f r v g md w b wo (rowB i0) (rowT i0) i1
  unfold res
  rw [both_apply]
  by_cases h : (rowT i0).val < 256
  · have em : modRow (rowB i0) (rowT i0) = 8 := Fin.ext (if_pos h)
    rw [dif_pos h, ctx_apply, em]
    exact congrArg (fun q => _ + _ * q) (prod_apply f r _ _ a v g w b wo i1)
  · have em : modRow (rowB i0) (rowT i0) = ⟨(rowB i0).val, by omega⟩ := Fin.ext (if_neg h)
    have et : (⟨256 + ((rowT i0).val - 256), by omega⟩ : Fin 4352) = rowT i0 := Fin.ext (by simp only; omega)
    rw [dif_neg h, lat_apply, em]
    simp only [et]
    rw [prod_apply]

variable (m : (ℓ : Loc nD τ sig) → Buf (Elt Ideal) ℓ) (c : Dev nD)

/-- The reference's arguments that its result depends on. -/
abbrev rX : Ax := m ((c.tc : Thread nD τ).loc main_arg0)
abbrev rA : Ab := m ((c.tc : Thread nD τ).loc main_arg1)
abbrev rF : Ah := m ((c.tc : Thread nD τ).loc main_arg2)
abbrev rR : Ah := m ((c.tc : Thread nD τ).loc main_arg3)
abbrev rV : Ah := m ((c.tc : Thread nD τ).loc main_arg4)
abbrev rG : Ab := m ((c.tc : Thread nD τ).loc main_arg5)
abbrev rM : Am := m ((c.tc : Thread nD τ).loc main_arg6)
abbrev rL : Al := m ((c.tc : Thread nD τ).loc main_arg7)
abbrev rB : Al := m ((c.tc : Thread nD τ).loc main_arg8)
abbrev rW : Aw := m ((c.tc : Thread nD τ).loc main_arg9)

theorem result_eq : Value.res_out0 m c = both (ctx (rX m c) (prod (rA m c) (rF m c) (rR m c) (rV m c) (rG m c) (rL m c) (rB m c) (rW m c)) (rM m c))
    (lat (rX m c) (prod (rA m c) (rF m c) (rR m c) (rV m c) (rG m c) (rL m c) (rB m c) (rW m c)) (rM m c)) := rfl

/-- The reference's result, by index, of its arguments. -/
theorem result : Value.res_out0 m c = resArr (rX m c) (rA m c) (rF m c) (rR m c) (rV m c) (rG m c) (rM m c) (rL m c) (rB m c) (rW m c) :=
  (result_eq m c).trans (out_eq _ _ _ _ _ _ _ _ _ _)

/-- The reference's run: its result, the arguments kept. -/
theorem run (ρ : Dev nD → PrngReg) :
    θ_run defs (onTc (τ := τ) (main (F := Ideal))) ⟨m, fun _ => 0, ρ⟩ fun r => ∀ c : Dev nD,
      r.2.mem ((c.tc : Thread nD τ).loc main_v47) = resArr (rX m c) (rA m c) (rF m c) (rR m c) (rV m c) (rG m c) (rM m c) (rL m c) (rB m c) (rW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (result m c), (h c).2⟩) (Value.run m ρ)

end Cert.Proof.Mx.Ref

end
-- ==== Proof.Mx.Claims.lean ====
module

public import proofs.«01_k».proof.Defs
public import proofs.«01_k».proof.Proof.Gen.Mix.Frame
public import proofs.«01_k».proof.Proof.Gen.MixIdeal.Frame
public import proofs.«01_k».proof.Proof.Mx.Blocks
public import proofs.«01_k».proof.Proof.Mx.Ref
public import Idealize.ShloMosaic.Lib.Bf16PairInverse

@[expose] public section

set_option maxRecDepth 16384

noncomputable section

namespace Cert.Proof.Mx

open Idealize.ShloMosaic Idealize.ShloMosaic.TcCoe Idealize.SL.Sem

/-- The output projection's kernel runs, leaves its arguments and ends with every counter at zero. -/
theorem frame_kernel : Cert.quiescent_Mix (hMix := Cert.Mix.Gen.facts) := fun m ρ _ => Cert.Mix.Gen.frame m ρ

/-- The ideal kernel does so too. -/
theorem frame_ideal : Cert.quiescent_MixIdeal (hMixIdeal := Cert.MixIdeal.Gen.facts) := fun m ρ _ => Cert.MixIdeal.Gen.frame m ρ

/-- The reference runs, leaves its arguments, and has no counter. -/
theorem frame_ref : Cert.quiescent_MixRefIdeal (hMixRefIdeal := Cert.MixRefIdeal.Gen.facts) := fun m ρ _ =>
  (θ_run Cert.MixRefIdeal.defs _ _).mono (fun r h => ⟨fun c => (h c).2, sem_eq_zero_of_no_sems (by decide) r.2⟩) (Ref.run m ρ)

/-- The ideal kernel is the kernel, its packed words held as pairs of bfloat16: the rules' statements at the shapes it
    packs, unpacks and stores. -/
theorem preserved : Cert.preserves_Mix_MixIdeal :=
  open Cert.MixIdeal IdealRules.bf16_pair in
  ⟨bufferStatement S87040x2x512 S87040x1x512, bufferStatement S1280x2x512 S1280x1x512, statement S640x2x512 S640x1x512, IdealRules.bf16_pack.statement S640x512⟩

/-- The kernel and the reference end with the same residual stream. -/
theorem equal : Cert.algebraic_MixIdeal_MixRefIdeal (hMixIdeal := Cert.MixIdeal.Gen.facts) (hMixRefIdeal := Cert.MixRefIdeal.Gen.facts) := fun m ρ m' ρ' _ hag =>
  ⟨fun c => resArr (aX m c) (aA m c) (aF m c) (aR m c) (aV m c) (aG m c) (aM m c) (aL m c) (aB m c) (aW m c),
    (θ_run Cert.MixIdeal.defs _ _).mono (fun _ h c => ⟨(h c).1.trans (arr_13 m c), (h c).2.2.2.2.2⟩)
      (Cert.MixIdeal.Value.run_blocks (F := Ideal) m ρ),
    (θ_run Cert.MixRefIdeal.defs _ _).mono (fun _ h c => by
      obtain ⟨h0, hk⟩ := h c
      obtain ⟨g0, g1, g2, g3, g4, g5, g6, g7, g8, g9, -⟩ := hag c
      have eX : Ref.rX m' c = aX m c := g0
      have eA : Ref.rA m' c = aA m c := g1
      have eF : Ref.rF m' c = aF m c := g2
      have eR : Ref.rR m' c = aR m c := g3
      have eV : Ref.rV m' c = aV m c := g4
      have eG : Ref.rG m' c = aG m c := g5
      have eM : Ref.rM m' c = aM m c := g6
      have eL : Ref.rL m' c = aL m c := g7
      have eB : Ref.rB m' c = aB m c := g8
      have eW : Ref.rW m' c = aW m c := g9
      rw [eX, eA, eF, eR, eV, eG, eM, eL, eB, eW] at h0
      exact ⟨h0, hk⟩) (Ref.run m' ρ')⟩

end Cert.Proof.Mx

end
-- ==== Proof.Ex.Spec.lean ====
module

public import proofs.«01_k».proof.Proof.Gen.ExpertsIdeal.Skeleton
public import Idealize.ShloMosaic.Lib.Pointwise

@[expose] public section

noncomputable section

namespace Cert.Proof.Ex

open Idealize.ShloMosaic

/-- The gate's sigmoid as the reference spells it. -/
def sgm (g : EReal) : EReal := Ideal.div (Ideal.ofBits .f32 0x3F800000#32) (Ideal.ofBits .f32 0x3F800000#32 + Ideal.exp (-g))

/-- An expert on one row: gate and up, multiplied after the gate's sigmoid, then down, at column `n`. -/
def ffn (x : Fin 1024 → EReal) (g u : Fin 1024 → Fin 1024 → EReal) (d : Fin 1024 → EReal) : EReal :=
  ∑ k : Fin 1024, ((∑ j : Fin 1024, x j * g j k) * sgm (∑ j : Fin 1024, x j * g j k) * ∑ j : Fin 1024, x j * u j k) * d k

/-! ## The experts' rows, by index, of the arguments -/

abbrev Ae := IVec ⟨1, ![182]⟩ 32
abbrev An := IVec ⟨1, ![1]⟩ 32
abbrev Ax := FVec Ideal ⟨2, ![93184, 1024]⟩ .bf16
abbrev Aw := FVec Ideal ⟨4, ![2, 16, 1024, 1024]⟩ .f32

/-- A token's row in a block of 512. -/
def tok (x : Ax) (b : Fin 182) (r : Fin 512) (j : Fin 1024) : EReal := x (ix2 ⟨512 * b.val + r.val, by omega⟩ j)

/-- The expert of a block. -/
def expt (e : Ae) (b : Fin 182) : Fin 16 := ⟨min (e (ix1 b)).toInt.toNat 15, by omega⟩

/-- The column of a row that half `p` of the word at column `n` holds: the low half the right columns, the high half the left. -/
def colOf (p : Fin 2) (n : Fin 512) : Fin 1024 := if p.val = 0 then ⟨512 + n.val, by omega⟩ else ⟨n.val, by omega⟩

/-- A token's result at a column: its block's expert, or zero past the used blocks. -/
def tokOut (e : Ae) (nu : An) (x : Ax) (wg wu wd : Aw) (b : Fin 182) (r : Fin 512) (n : Fin 1024) : EReal :=
  if (b.val : ℤ) < (nu (ix1 0)).toInt then
    ffn (tok x b r) (fun j k => wg (ix4 0 (expt e b) j k)) (fun j k => wu (ix4 0 (expt e b) j k)) (fun k => wd (ix4 0 (expt e b) k n))
  else 0

/-- The result. -/
def outArr (e : Ae) (nu : An) (x : Ax) (wg wu wd : Aw) : Ax := fun i =>
  tokOut e nu x wg wu wd ⟨(i 0).val / 512, by have : (i 0).val < 93184 := (i 0).isLt; omega⟩ ⟨(i 0).val % 512, by omega⟩ (i 1)

/-- Rows as pairs of halves of words. -/
def packArr (x : Ax) : FVec Ideal ⟨3, ![93184, 2, 512]⟩ .bf16 := fun i => x (ix2 (i 0) (colOf (i 1) (i 2)))

/-! ## The two spellings of the sigmoid -/

theorem one_eq : Ideal.ofBits .f32 0x3F800000#32 = ((1 : ℝ) : EReal) := by
  simp [Ideal.ofBits, Ideal.ieee, -EReal.coe_mul, -EReal.coe_one]; norm_num

theorem half_eq : Ideal.ofBits .f32 0x3F000000#32 = ((1 / 2 : ℝ) : EReal) := by
  simp [Ideal.ofBits, Ideal.ieee, -EReal.coe_mul]; norm_num

theorem real_sig (g : ℝ) : 1 / 2 * Real.tanh (1 / 2 * g) + 1 / 2 = (1 + Real.exp (-g))⁻¹ := by
  have h : Real.exp (-g) = Real.exp (-(1 / 2 * g)) * Real.exp (-(1 / 2 * g)) := by rw [← Real.exp_add]; congr 1; ring
  rw [Real.tanh_eq_sinh_div_cosh, Real.sinh_eq, Real.cosh_eq, h, Real.exp_neg]
  have := Real.exp_pos (1 / 2 * g)
  field_simp
  ring

/-- The kernel's sigmoid is the reference's. -/
theorem tanh_sig (g : EReal) :
    Ideal.ofBits .f32 0x3F000000#32 * Ideal.tanh (Ideal.ofBits .f32 0x3F000000#32 * g) + Ideal.ofBits .f32 0x3F000000#32 = sgm g := by
  unfold sgm
  rw [one_eq, half_eq]
  induction g using EReal.rec with
  | bot =>
    rw [EReal.coe_mul_bot_of_pos (by norm_num : (0 : ℝ) < 1 / 2), Ideal.tanh_bot, EReal.neg_bot, Ideal.exp_top, EReal.coe_add_top]
    rw [Ideal.div, if_neg (by simp), EReal.inv_top, mul_zero, ← EReal.coe_one, ← EReal.coe_neg, ← EReal.coe_mul, ← EReal.coe_add]
    norm_num
  | top =>
    rw [EReal.coe_mul_top_of_pos (by norm_num : (0 : ℝ) < 1 / 2), Ideal.tanh_top, EReal.neg_top, Ideal.exp_bot, add_zero]
    rw [Ideal.div, if_neg (by simp), ← EReal.coe_one, ← EReal.coe_mul, ← EReal.coe_add, ← EReal.coe_inv, ← EReal.coe_mul]
    norm_num
  | coe r =>
    have hp : (1 + Real.exp (-r)) ≠ 0 := by have := Real.exp_pos (-r); positivity
    rw [← EReal.coe_mul, Ideal.tanh_coe, ← EReal.coe_mul, ← EReal.coe_add, ← EReal.coe_neg, Ideal.exp_coe, ← EReal.coe_add, real_sig]
    rw [Ideal.div, if_neg (by exact_mod_cast hp), ← EReal.coe_inv, ← EReal.coe_mul, one_mul]

end Cert.Proof.Ex

end
-- ==== Proof.Ex.Run.lean ====
module

public import proofs.«01_k».proof.Proof.Gen.ExpertsIdeal.Launch
public import proofs.«01_k».proof.Proof.Gen.ExpertsIdeal.Skeleton
public import Idealize.ShloMosaic.Lib.Exec
public import Idealize.ShloMosaic.Lib.Pipeline.FrameBody
public import Idealize.ShloMosaic.Lib.VecWindow

@[expose] public section

set_option maxRecDepth 16384

noncomputable section

namespace Cert.ExpertsIdeal.Ex

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ExpertsIdeal Cert.ExpertsIdeal.Gen

variable {F : FTy → Type} [FloatOps F]

/-- The machine's resources. -/
abbrev MM (F : FTy → Type) [FloatOps F] : Type := MT nD τ sig Unit (Elt F) ℕ (UR sig nD τ) ℕ

/-! # One point of the experts' grid, run on any tables and buffers -/

/-- The two tables as the body is handed them: the blocks' experts and the number of used blocks. -/
abbrev tb0 : Memref sig .tc .smem S182 .i32 := Memref.whole main_arg0
abbrev tb1 : Memref sig .tc .smem S1 .i32 := Memref.whole main_arg1
/-- A table's contents, and the table held. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp (MM F) :=
  M.view.loc (c : Thread nD τ) ↦{fullShare} f

/-- The three scratch buffers: the current expert's weights. -/
abbrev sc0 : Memref sig .tc .vmem S1024x1024 .bf16 := Memref.whole cc1_scratch0
abbrev sc1 : Memref sig .tc .vmem S1024x1024 .bf16 := Memref.whole cc1_scratch1
abbrev sc2 : Memref sig .tc .vmem S1024x1024 .bf16 := Memref.whole cc1_scratch2

/-- The number of used blocks, a block's expert and the previous block's, as the body loads them. -/
abbrev rdNu (c : Dev nD) (xt1 : TbBuf (F := F) c tb1) : BitVec 32 :=
  View.readAt (Elt F) tb1.view (Rect.unit ![0] S1.size inb_S1_S1_0).toLoadRect xt1 (Shape.Idx.first (numel1_S1.symm ▸ Nat.one_pos))
abbrev rdB (c : Dev nD) (i : grid1.Coords) (xt0 : TbBuf (F := F) c tb0) : BitVec 32 :=
  View.readAt (Elt F) tb0.view (Rect.unit (s := S182) (k1_off1 i) S1.size (k1_off1_inb i)).toLoadRect xt0 (Shape.Idx.first (numel1_S1.symm ▸ Nat.one_pos))
abbrev rdP (c : Dev nD) (i : grid1.Coords) (xt0 : TbBuf (F := F) c tb0) : BitVec 32 :=
  View.readAt (Elt F) tb0.view (Rect.unit (s := S182) (k1_off2 i) S1.size (k1_off2_inb i)).toLoadRect xt0 (Shape.Idx.first (numel1_S1.symm ▸ Nat.one_pos))

/-- Whether a point loads its expert's weights: its block is used, and it is the first or its expert is not the block before's. -/
def newW (i : grid1.Coords) (nu b p : BitVec 32) : BitVec 1 :=
  Scalar.cmpi .ne (Scalar.extui (Scalar.andi (Scalar.cmpi .slt (BitVec.ofNat 32 (i 0).val) nu)
    (Scalar.ori (Scalar.cmpi .eq (BitVec.ofNat 32 (i 0).val) 0#32) (Scalar.cmpi .ne b p))) : BitVec 32) 0#32

/-- The weights a scratch buffer holds after the point. -/
def keep (n : BitVec 1) (w s : Vec F S1024x1024 .bf16) : Vec F S1024x1024 .bf16 := if n = 1#1 then w else s

/-- The zeros a point past the used blocks stores. -/
abbrev zeroW : Vec F S512x2x512 .bf16 := constant S512x2x512 .bf16 0x0000#16

/-- What the point leaves in the output's buffer. -/
def outW (i : grid1.Coords) (nu : BitVec 32) (x0 : Vec F S512x2x512 .bf16) (w0 w1 w2 : Vec F S1024x1024 .bf16) (y : Vec F S512x2x512 .bf16) : Vec F S512x2x512 .bf16 :=
  if k1_cond3 i nu = 1#1 then zeroW else if k1_cond2 i nu = 1#1 then k1_pay4 x0 w0 w1 w2 else y

/-- The scratch buffer's contents after the point, read. -/
theorem read_keep {n : BitVec 1} (v : View sig .tc .vmem S1024x1024 .bf16) (g : v.ty.Contents (Elt F)) (w s : Vec F S1024x1024 .bf16) (hg : v.read (Elt F) g = s) :
    v.read (Elt F) (if hc : n = 1#1 then v.writes (Elt F) g [⟨Rect.unit ![0, 0] S1024x1024.size inb_S1024x1024_S1024x1024_0_0, w⟩] else g) = keep n w s := by
  unfold keep
  by_cases h : n = 1#1
  · rw [dif_pos h, if_pos h]; exact View.read_writes_full _ _ _ _ _
  · rw [dif_neg h, if_neg h, hg]

set_option maxHeartbeats 1000000 in
/-- One point: the tables and the inputs as they were, the scratch buffers at the current expert's weights, the output's buffer at the block's rows. -/
theorem run (c : Dev nD) (i : grid1.Coords) (arg3 : Memref sig .tc .vmem S512x2x512 .bf16) (harg3 : arg3.IsWhole)
    (arg4 : Memref sig .tc .vmem S1x1x1024x1024 .f32) (harg4 : arg4.IsWhole) (arg5 : Memref sig .tc .vmem S1x1x1024x1024 .f32) (harg5 : arg5.IsWhole)
    (arg6 : Memref sig .tc .vmem S1x1x1024x1024 .f32) (harg6 : arg6.IsWhole) (arg7 : Memref sig .tc .vmem S512x2x512 .bf16) (harg7 : arg7.IsWhole)
    (xt0 : TbBuf (F := F) c tb0) (xt1 : TbBuf (F := F) c tb1)
    (x0 : Vec F S512x2x512 .bf16) (x1 x2 x3 : Vec F S1x1x1024x1024 .f32) (y : Vec F S512x2x512 .bf16) (s0 s1 s2 : Vec F S1024x1024 .bf16)
    (E : Set ℕ) (K : PUnit → sProp (MM F)) :
    iprop(tbPt c tb0 xt0 ∗ tbPt c tb1 xt1 ∗ owns (c : Thread nD τ) arg3 fullShare x0 ∗ owns (c : Thread nD τ) arg4 fullShare x1
        ∗ owns (c : Thread nD τ) arg5 fullShare x2 ∗ owns (c : Thread nD τ) arg6 fullShare x3 ∗ owns (c : Thread nD τ) arg7 fullShare y
        ∗ owns (c : Thread nD τ) sc0 fullShare s0 ∗ owns (c : Thread nD τ) sc1 fullShare s1 ∗ owns (c : Thread nD τ) sc2 fullShare s2
        ∗ (iprop(tbPt c tb0 xt0 ∗ tbPt c tb1 xt1 ∗ owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (outW i (rdNu c xt1) x0 (keep (newW i (rdNu c xt1) (rdB c i xt0) (rdP c i xt0)) (k1_pay1 x1) s0)
                (keep (newW i (rdNu c xt1) (rdB c i xt0) (rdP c i xt0)) (k1_pay2 x2) s1) (keep (newW i (rdNu c xt1) (rdB c i xt0) (rdP c i xt0)) (k1_pay3 x3) s2) y)
            ∗ owns (c : Thread nD τ) sc0 fullShare (keep (newW i (rdNu c xt1) (rdB c i xt0) (rdP c i xt0)) (k1_pay1 x1) s0)
            ∗ owns (c : Thread nD τ) sc1 fullShare (keep (newW i (rdNu c xt1) (rdB c i xt0) (rdP c i xt0)) (k1_pay2 x2) s1)
            ∗ owns (c : Thread nD τ) sc2 fullShare (keep (newW i (rdNu c xt1) (rdB c i xt0) (rdP c i xt0)) (k1_pay3 x3) s2))
          -∗ K ⟨⟩))
      ⊢ wp frame (wpE (defs₀ (F := F)) Variants.none c none) E
          (cc1_moe_ffn i tb0 (Memref.isWhole_whole _) tb1 (Memref.isWhole_whole _) arg3 harg3 arg4 harg4 arg5 harg5 arg6 harg6 arg7 harg7
            sc0 (Memref.isWhole_whole _) sc1 (Memref.isWhole_whole _) sc2 (Memref.isWhole_whole _)) K := by
  rw [cc1_moe_ffn_eq_skeleton]; unfold cc1_moe_ffn_skel
  unfold owns
  iintro ⟨HT0, HT1, ⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, Hk⟩
  sl_exec
  iapply (Idealize.SL.Sem.le_wp_ret _ _)
  have e1 : run.sl.v13 c i xt0 xt1 = newW i (rdNu c xt1) (rdB c i xt0) (rdP c i xt0) := rfl
  have e2 : run.sl.r c xt1 = rdNu c xt1 := rfl
  have k0 : run.sl.v30 c i arg4 xt0 xt1 f1 g0 = keep (newW i (rdNu c xt1) (rdB c i xt0) (rdP c i xt0)) (k1_pay1 x1) s0 := by
    unfold run.sl.v30
    rw [e1, View.readAt_full]
    exact (read_keep _ _ _ _ hg0).trans (by rw [View.readAt_full, hf1])
  have k1 : run.sl.v32 c i arg5 xt0 xt1 f2 g1 = keep (newW i (rdNu c xt1) (rdB c i xt0) (rdP c i xt0)) (k1_pay2 x2) s1 := by
    unfold run.sl.v32
    rw [e1, View.readAt_full]
    exact (read_keep _ _ _ _ hg1).trans (by rw [View.readAt_full, hf2])
  have k2 : run.sl.v44 c i arg6 xt0 xt1 f3 g2 = keep (newW i (rdNu c xt1) (rdB c i xt0) (rdP c i xt0)) (k1_pay3 x3) s2 := by
    unfold run.sl.v44
    rw [e1, View.readAt_full]
    exact (read_keep _ _ _ _ hg2).trans (by rw [View.readAt_full, hf3])
  rw [e1, e2, k0, k1, k2]
  iapply Hk
  isplitl [HT0]; · iexact HT0
  isplitl [HT1]; · iexact HT1
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    unfold outW
    by_cases h3 : k1_cond3 i (rdNu c xt1) = 1#1
    · rw [dif_pos h3, if_pos h3]; exact View.read_writes_full _ _ _ _ _
    · rw [dif_neg h3, if_neg h3]
      by_cases h2 : k1_cond2 i (rdNu c xt1) = 1#1
      · rw [dif_pos h2, if_pos h2, View.readAt_full, hf0]; exact View.read_writes_full _ _ _ _ _
      · rw [dif_neg h2, if_neg h2, hf4]
  isplitl [S0]
  · iexists _; isplitr; swap; · iexact S0
    ipureintro; exact (read_keep _ _ _ _ hg0).trans (by rw [View.readAt_full, hf1])
  isplitl [S1]
  · iexists _; isplitr; swap; · iexact S1
    ipureintro; exact (read_keep _ _ _ _ hg1).trans (by rw [View.readAt_full, hf2])
  iexists _; isplitr; swap; · iexact S2
  ipureintro; exact (read_keep _ _ _ _ hg2).trans (by rw [View.readAt_full, hf3])

end Cert.ExpertsIdeal.Ex

end
-- ==== Proof.Ex.Body.lean ====
module

public import proofs.«01_k».proof.Proof.Ex.Spec
public import proofs.«01_k».proof.Proof.Ex.Run

@[expose] public section

set_option maxRecDepth 16384

noncomputable section

namespace Cert.Proof.Ex

open Cert.ExpertsIdeal hiding ix1
open Cert.ExpertsIdeal.Gen Idealize.ShloMosaic

/-- A block's tokens, unpacked. -/
def unp (x : Vec Ideal S512x2x512 .bf16) : FVec Ideal S512x1024 .bf16 :=
  truncf .bf16 (concatenate S512x1024 1 [⟨S512x512, (extf .f32 (shapeCast S512x512 (rowsOfParity 1 S512x1x512 x bitcasts_S512x2x512_w16_S512x1x512_w32) shapeCasts_S512x1x512_S512x512 : FVec Ideal S512x512 .bf16) bitsLt_bf16_f32 : FVec Ideal S512x512 .f32)⟩,
    ⟨S512x512, (extf .f32 (shapeCast S512x512 (rowsOfParity 0 S512x1x512 x bitcasts_S512x2x512_w16_S512x1x512_w32) shapeCasts_S512x1x512_S512x512 : FVec Ideal S512x512 .bf16) bitsLt_bf16_f32 : FVec Ideal S512x512 .f32)⟩] concatenates_S512x512_S512x512_S512x1024_d1 : FVec Ideal S512x1024 .f32) bitsLt_bf16_f32

/-- A product with an expert's weights. -/
def dotw (a : FVec Ideal S512x1024 .bf16) (w : Vec Ideal S1024x1024 .bf16) : FVec Ideal S512x1024 .f32 :=
  matmul (φ₂ := .bf16) dot_S512x1024_S1024x1024_S512x1024_1_0_0_1_n_n none a w (constant S512x1024 .f32 0x00000000#32)

/-- Gate and up, multiplied after the gate's sigmoid. -/
def act (g u : FVec Ideal S512x1024 .f32) : FVec Ideal S512x1024 .f32 :=
  mulf (mulf g (addf (mulf (broadcast S512x1024 (Scalar.ofBits .f32 0x3F000000#32)) (tanh (mulf (broadcast S512x1024 (Scalar.ofBits .f32 0x3F000000#32)) g))) (broadcast S512x1024 (Scalar.ofBits .f32 0x3F000000#32)))) u

/-- Rows packed into words, as their halves. -/
def pck (y : FVec Ideal S512x1024 .f32) : Vec Ideal S512x2x512 .bf16 :=
  interleaveRows S512x2x512
    (shapeCast S512x1x512 (truncf .bf16 (extractStridedSlice S512x512 ![0, 512] y slices_S512x1024_o0_512_S512x512 : FVec Ideal S512x512 .f32) bitsLt_bf16_f32 : FVec Ideal S512x512 .bf16) shapeCasts_S512x512_S512x1x512)
    (shapeCast S512x1x512 (truncf .bf16 (extractStridedSlice S512x512 ![0, 0] y slices_S512x1024_o0_0_S512x512 : FVec Ideal S512x512 .f32) bitsLt_bf16_f32 : FVec Ideal S512x512 .bf16) shapeCasts_S512x512_S512x1x512)
    bitcasts_S512x2x512_w16_S512x1x512_w32

theorem pay4_eq (x : Vec Ideal S512x2x512 .bf16) (g u d : Vec Ideal S1024x1024 .bf16) :
    k1_pay4 x g u d = pck (extf .f32 (truncf .bf16 (dotw (truncf .bf16 (act (dotw (unp x) g) (dotw (unp x) u)) bitsLt_bf16_f32) d) bitsLt_bf16_f32 : FVec Ideal S512x1024 .bf16) bitsLt_bf16_f32) := rfl

theorem pack_eq (x : Vec Ideal S512x1024 .bf16) : k0_pay1 x = pck (extf .f32 x bitsLt_bf16_f32) := rfl

theorem unpack_eq (x : Vec Ideal S512x2x512 .bf16) : k2_pay1 x = unp x := rfl

theorem unp_apply (x : Vec Ideal S512x2x512 .bf16) (r : Fin 512) (j : Fin 1024) :
    unp x (ix2 r j) = if h : j.val < 512 then x (ix3 r 1 ⟨j.val, h⟩) else x (ix3 r 0 ⟨j.val - 512, by omega⟩) := by
  pointwise [unp]

theorem dotw_apply (a : FVec Ideal S512x1024 .bf16) (w : Vec Ideal S1024x1024 .bf16) (r : Fin 512) (n : Fin 1024) :
    dotw a w (ix2 r n) = ∑ j : Fin 1024, a (ix2 r j) * w (ix2 j n) := by
  pointwise [dotw]

theorem act_apply (g u : FVec Ideal S512x1024 .f32) (r : Fin 512) (n : Fin 1024) :
    act g u (ix2 r n) = g (ix2 r n) * sgm (g (ix2 r n)) * u (ix2 r n) := by
  rw [← tanh_sig]
  pointwise [act]

theorem pck_apply (y : FVec Ideal S512x1024 .f32) (r : Fin 512) (p : Fin 2) (n : Fin 512) :
    pck y (ix3 r p n) = y (ix2 r (colOf p n)) := by
  unfold colOf
  have h2 : p.val % 2 = p.val := by omega
  by_cases h : p.val = 0
  · rw [if_pos h]; pointwise [pck]; exact if_pos (h2.trans h)
  · rw [if_neg h]; pointwise [pck]; exact if_neg fun e => h (h2.symm.trans e)

theorem pack_apply (x : Vec Ideal S512x1024 .bf16) (r : Fin 512) (p : Fin 2) (n : Fin 512) : k0_pay1 x (ix3 r p n) = x (ix2 r (colOf p n)) := by
  rw [pack_eq, pck_apply]; rfl

/-- A used point's result. -/
theorem pay4_apply (x : Vec Ideal S512x2x512 .bf16) (g u d : Vec Ideal S1024x1024 .bf16) (r : Fin 512) (p : Fin 2) (n : Fin 512) :
    k1_pay4 x g u d (ix3 r p n) = ffn (fun j => unp x (ix2 r j)) (fun j k => g (ix2 j k)) (fun j k => u (ix2 j k)) (fun k => d (ix2 k (colOf p n))) := by
  rw [pay4_eq, pck_apply]
  refine (show _ = dotw (truncf .bf16 (act (dotw (unp x) g) (dotw (unp x) u)) bitsLt_bf16_f32) d (ix2 r (colOf p n)) from rfl).trans ?_
  rw [dotw_apply]
  unfold ffn
  refine Finset.sum_congr rfl fun k _ => congrArg (fun z => z * _) ?_
  refine (show _ = act (dotw (unp x) g) (dotw (unp x) u) (ix2 _ k) from rfl).trans ?_
  rw [act_apply, dotw_apply, dotw_apply]

theorem zero_apply (i : S512x2x512.Idx) : (Cert.ExpertsIdeal.Ex.zeroW : Vec Ideal S512x2x512 .bf16) i = 0 := by
  show Ideal.ofBits .bf16 0x0000#16 = 0
  simp [Ideal.ofBits, Ideal.ieee]

theorem pay1_apply (w : Vec Ideal S1x1x1024x1024 .f32) (j k : Fin 1024) : k1_pay1 w (ix2 j k) = w (ix4 0 0 j k) := by
  pointwise [k1_pay1]

theorem pay2_apply (w : Vec Ideal S1x1x1024x1024 .f32) (j k : Fin 1024) : k1_pay2 w (ix2 j k) = w (ix4 0 0 j k) := by
  pointwise [k1_pay2]

theorem pay3_apply (w : Vec Ideal S1x1x1024x1024 .f32) (j k : Fin 1024) : k1_pay3 w (ix2 j k) = w (ix4 0 0 j k) := by
  pointwise [k1_pay3]

end Cert.Proof.Ex

end
-- ==== Proof.Ex.Frame.lean ====
module

public import proofs.«01_k».proof.Proof.Ex.Run

@[expose] public section

set_option maxRecDepth 16384

noncomputable section

namespace Cert.ExpertsIdeal.Ex

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ExpertsIdeal Cert.ExpertsIdeal.Gen

variable {F : FTy → Type} [FloatOps F]

/-! # The experts' call run over its whole grid -/

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

/-- The prefetched tables' contents at the region's entry. -/
def tbl : pre1.Contents (Elt F) := fun j => V m (0 : Dev nD) (pre1.ref j)

theorem V_pre (c : Dev nD) (j : Fin 2) : V m c (pre1.ref j) = tbl m j := by
  obtain rfl : c = 0 := Subsingleton.elim _ _
  rfl

/-- The pipeline's side condition at those tables. -/
abbrev Ok : Prop := ok1 (tbl m)
abbrev adm (hO : Ok m) : (pcfg1 (F := F)).Adm := ⟨tbl m, hO⟩
abbrev cfgM (hO : Ok m) : Pipeline.Cfg sig Λ₀ := cfg1 (adm m hO)

theorem tbl_held (c : Dev nD) : (Pipeline.prefHeld pre1 c (fun _ => fullShare) (tbl m) : sProp (MM F)) = iprop(tbPt c tb0 (tbl m 0) ∗ tbPt c tb1 (tbl m 1)) := by
  unfold Pipeline.prefHeld
  rw [show (Finset.univ : Finset (Fin 2)) = insert (0 : Fin 2) {(1 : Fin 2)} from by decide, bigSep_insert (by decide), bigSep_singleton]
  rfl

/-- A scoped buffer at some contents, and those that belong to the two other calls. -/
abbrev anyB (c : Dev nD) (b : Ref sig .tc) : sProp (MM F) := iprop(∃ f : Buf (Elt F) ((c : Thread nD τ).loc b), ((c : Thread nD τ).loc b) ↦{fullShare} f)
def oth (c : Dev nD) : sProp (MM F) :=
  iprop(anyB c cc0_stg0_0 ∗ anyB c cc0_stg0_1 ∗ anyB c cc0_stg1_0 ∗ anyB c cc0_stg1_1 ∗ anyB c cc2_stg0_0 ∗ anyB c cc2_stg0_1 ∗ anyB c cc2_stg1_0 ∗ anyB c cc2_stg1_1)

/-- Window `w`'s block at point `t`. -/
def iblk (hO : Ok m) (c : Dev nD) (w : Fin 5) (t : Fin (cfgM m hO).N) : (((cfgM m hO).win w).xblock ((cfgM m hO).grid.coords t)).Idx → Elt F ((cfgM m hO).win w).elt :=
  (((cfgM m hO).win w).blk t).view.read (Elt F) (V m c (Pipeline.arrRef spec1 w))

/-- The number of used blocks and the experts of a point's block and of the one before. -/
abbrev nuM (c : Dev nD) : BitVec 32 := rdNu c (tbl m 1)
abbrev beM (c : Dev nD) (i : grid1.Coords) : BitVec 32 := rdB c i (tbl m 0)
abbrev bpM (c : Dev nD) (i : grid1.Coords) : BitVec 32 := rdP c i (tbl m 0)

/-- What the output's buffer holds after point `t`. -/
def outB (hO : Ok m) (c : Dev nD) (t : Fin (cfgM m hO).N) : Vec F S512x2x512 .bf16 :=
  outW (grid1.coords t) (nuM m c) (iblk m hO c 0 t) (k1_pay1 (iblk m hO c 1 t)) (k1_pay2 (iblk m hO c 2 t)) (k1_pay3 (iblk m hO c 3 t)) zeroW

/-- What the scratch buffers hold before point `t`: the weights of the block before, when that block was a used one. -/
def Inv (hO : Ok m) (c : Dev nD) (t : ℕ) (s0 s1 s2 : Vec F S1024x1024 .bf16) : Prop :=
  ∀ u : Fin (cfgM m hO).N, u.val + 1 = t → k1_cond2 (grid1.coords u) (nuM m c) = 1#1 →
    s0 = k1_pay1 (iblk m hO c 1 u) ∧ s1 = k1_pay2 (iblk m hO c 2 u) ∧ s2 = k1_pay3 (iblk m hO c 3 u)

/-- The invariant: the tables, the generator, and the scratch buffers so. -/
def PhiM (hO : Ok m) (c : Dev nD) (t : ℕ) : sProp (MM F) :=
  iprop(tbPt c tb0 (tbl m 0) ∗ tbPt c tb1 (tbl m 1) ∗ ((∃ r, prngReg c r) ∗ oth c)
    ∗ (∃ s0 s1 s2, ⌜Inv m hO c t s0 s1 s2⌝ ∗ owns (c : Thread nD τ) sc0 fullShare s0 ∗ owns (c : Thread nD τ) sc1 fullShare s1 ∗ owns (c : Thread nD τ) sc2 fullShare s2))

/-- The pipeline's proof data. -/
def dats (hO : Ok m) (c : Dev nD) : Dat τ (Elt F) Unit ℕ (UR sig nD τ) ℕ (cfgM m hO) c where
  A w := V m c (Pipeline.arrRef spec1 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outB m hO c t
  Φ t := PhiM m hO c t.val
  q _ := fullShare
  owed _ := 0

theorem A_eq (hO : Ok m) (c : Dev nD) (w : Fin 5) : (dats m hO c).A w = V m c (Pipeline.arrRef spec1 w) := by
  dsimp only [dats]
theorem after4 (hO : Ok m) (c : Dev nD) (t : Fin (cfgM m hO).N) : (dats m hO c).after 4 t = outB m hO c t := rfl

theorem fetched_eq (hO : Ok m) (c : Dev nD) (t : Fin (cfgM m hO).N) :
    (∀ d, (dats m hO c).fetched 0 t d = iblk m hO c 0 t) ∧ (∀ d, (dats m hO c).fetched 1 t d = iblk m hO c 1 t)
      ∧ (∀ d, (dats m hO c).fetched 2 t d = iblk m hO c 2 t) ∧ (∀ d, (dats m hO c).fetched 3 t d = iblk m hO c 3 t) :=
  ⟨fun d => by unfold Dat.fetched Dat.blockOf iblk; rw [A_eq]; try rfl, fun d => by unfold Dat.fetched Dat.blockOf iblk; rw [A_eq]; try rfl,
    fun d => by unfold Dat.fetched Dat.blockOf iblk; rw [A_eq]; try rfl, fun d => by unfold Dat.fetched Dat.blockOf iblk; rw [A_eq]; try rfl⟩

theorem before_in (hO : Ok m) (c : Dev nD) (t : Fin (cfgM m hO).N) :
    (∀ d, (dats m hO c).before 0 t d = iblk m hO c 0 t) ∧ (∀ d, (dats m hO c).before 1 t d = iblk m hO c 1 t)
      ∧ (∀ d, (dats m hO c).before 2 t d = iblk m hO c 2 t) ∧ (∀ d, (dats m hO c).before 3 t d = iblk m hO c 3 t) :=
  ⟨fun d => ((dats m hO c).before_in_eq_fetched 0 rfl (fun _ => rfl) (fun _ _ _ => rfl) (fun t => by unfold Dat.blockOf; dsimp only [dats, iblk]; try rfl) t d).trans ((fetched_eq m hO c t).1 d),
    fun d => ((dats m hO c).before_in_eq_fetched 1 rfl (fun _ => rfl) (fun _ _ _ => rfl) (fun t => by unfold Dat.blockOf; dsimp only [dats, iblk]; try rfl) t d).trans ((fetched_eq m hO c t).2.1 d),
    fun d => ((dats m hO c).before_in_eq_fetched 2 rfl (fun _ => rfl) (fun _ _ _ => rfl) (fun t => by unfold Dat.blockOf; dsimp only [dats, iblk]; try rfl) t d).trans ((fetched_eq m hO c t).2.2.1 d),
    fun d => ((dats m hO c).before_in_eq_fetched 3 rfl (fun _ => rfl) (fun _ _ _ => rfl) (fun t => by unfold Dat.blockOf; dsimp only [dats, iblk]; try rfl) t d).trans ((fetched_eq m hO c t).2.2.2 d)⟩

/-- The weights' blocks of two points of one expert are the same. -/
theorem iblk_same (hO : Ok m) (c : Dev nD) (t u : Fin (cfgM m hO).N) (h : beM m c (grid1.coords t) = beM m c (grid1.coords u)) :
    iblk m hO c 1 t = iblk m hO c 1 u ∧ iblk m hO c 2 t = iblk m hO c 2 u ∧ iblk m hO c 3 t = iblk m hO c 3 u := by
  obtain rfl : c = 0 := Subsingleton.elim _ _
  have e : (![0, (beM m 0 (grid1.coords t)).toNat, 0, 0] : Fin 4 → ℕ) = ![0, (beM m 0 (grid1.coords u)).toNat, 0, 0] := by rw [h]
  refine ⟨?_, ?_, ?_⟩
  · exact ((fetched_eq m hO 0 t).2.1 default).symm.trans (((dats m hO 0).fetched_congr 1 e rfl default).trans ((fetched_eq m hO 0 u).2.1 default))
  · exact ((fetched_eq m hO 0 t).2.2.1 default).symm.trans (((dats m hO 0).fetched_congr 2 e rfl default).trans ((fetched_eq m hO 0 u).2.2.1 default))
  · exact ((fetched_eq m hO 0 t).2.2.2 default).symm.trans (((dats m hO 0).fetched_congr 3 e rfl default).trans ((fetched_eq m hO 0 u).2.2.2 default))

theorem coord_val (t : Fin grid1.N) : (grid1.coords t 0).val = t.val := by
  revert t; decide

/-- A condition as the program widens and compares it is the condition. -/
theorem ne_ext (v : BitVec 1) : Scalar.cmpi .ne (Scalar.extui v : BitVec 32) 0#32 = v := by
  revert v; decide

theorem coord_int (i : grid1.Coords) : (BitVec.ofNat 32 (i 0).val).toInt = ((i 0).val : ℤ) := by
  have h : (i 0).val < 182 := (i 0).isLt
  rw [BitVec.toInt_eq_toNat_cond, BitVec.toNat_ofNat, Nat.mod_eq_of_lt (by omega)]
  rw [if_pos (by omega)]

/-- A point's block is a used one exactly if it comes before the number of used blocks. -/
theorem used_iff (i : grid1.Coords) (nu : BitVec 32) : k1_cond2 i nu = 1#1 ↔ ((i 0).val : ℤ) < nu.toInt := by
  have e : k1_cond2 i nu = BitVec.ofBool (decide ((BitVec.ofNat 32 (i 0).val).toInt < nu.toInt)) := ne_ext _
  rw [e, coord_int]
  by_cases h : ((i 0).val : ℤ) < nu.toInt <;> simp [h]

theorem past_iff (i : grid1.Coords) (nu : BitVec 32) : k1_cond3 i nu = 1#1 ↔ nu.toInt ≤ ((i 0).val : ℤ) := by
  have e : k1_cond3 i nu = BitVec.ofBool (decide (nu.toInt ≤ (BitVec.ofNat 32 (i 0).val).toInt)) := ne_ext _
  rw [e, coord_int]
  by_cases h : nu.toInt ≤ ((i 0).val : ℤ) <;> simp [h]

/-- A point's block is a used one, or it is past them. -/
theorem used_or (i : grid1.Coords) (nu : BitVec 32) : k1_cond2 i nu = 1#1 ∨ k1_cond3 i nu = 1#1 := by
  rw [used_iff, past_iff]; exact lt_or_ge _ _

/-- A used point that loads no weights has a point before it, of the same expert. -/
theorem not_new (i : grid1.Coords) (nu b p : BitVec 32) (h : k1_cond2 i nu = 1#1) (hn : ¬ newW i nu b p = 1#1) : (i 0).val ≠ 0 ∧ b = p := by
  have e : Scalar.cmpi .slt (BitVec.ofNat 32 (i 0).val) nu = 1#1 := (ne_ext _).symm.trans h
  unfold newW at hn
  rw [ne_ext, e] at hn
  constructor
  · intro h0
    apply hn
    rw [h0]
    generalize Scalar.cmpi .ne b p = v
    revert v; decide
  · by_contra hb
    apply hn
    rw [show Scalar.cmpi .ne b p = 1#1 from by
      show BitVec.ofBool (!(b == p)) = _
      rw [beq_false_of_ne hb]; rfl]
    generalize Scalar.cmpi .eq _ _ = v
    revert v; decide

theorem off1_val (t : Fin grid1.N) : k1_off1 (grid1.coords t) 0 = t.val := by revert t; decide
theorem off2_val (t : Fin grid1.N) : k1_off2 (grid1.coords t) 0 = t.val - 1 := by revert t; decide

/-- The expert of the block before, as a point reads it. -/
theorem bpM_eq (c : Dev nD) (t u : Fin grid1.N) (h : u.val + 1 = t.val) : bpM m c (grid1.coords t) = beM m c (grid1.coords u) := by
  have e : k1_off2 (grid1.coords t) = k1_off1 (grid1.coords u) := by
    funext a
    obtain rfl : a = 0 := Subsingleton.elim _ _
    rw [off1_val, off2_val]; omega
  have key : ∀ (o o' : Fin 1 → ℕ) (p : ∀ a, o a + S1.size a ≤ S182.size a) (p' : ∀ a, o' a + S1.size a ≤ S182.size a), o = o' →
      View.readAt (Elt F) tb0.view (Rect.unit (s := S182) o S1.size p).toLoadRect (tbl m 0) (Shape.Idx.first (numel1_S1.symm ▸ Nat.one_pos))
        = View.readAt (Elt F) tb0.view (Rect.unit (s := S182) o' S1.size p').toLoadRect (tbl m 0) (Shape.Idx.first (numel1_S1.symm ▸ Nat.one_pos)) := by
    rintro o _ p p' rfl; rfl
  exact key _ _ _ _ e

set_option maxHeartbeats 800000 in
/-- After a used point the scratch buffers hold its expert's weights, loaded there or kept. -/
theorem keep_used (hO : Ok m) (c : Dev nD) (t : Fin (cfgM m hO).N) (s0 s1 s2 : Vec F S1024x1024 .bf16) (hI : Inv m hO c t.val s0 s1 s2)
    (hu : k1_cond2 (grid1.coords t) (nuM m c) = 1#1) :
    keep (newW (grid1.coords t) (nuM m c) (beM m c (grid1.coords t)) (bpM m c (grid1.coords t))) (k1_pay1 (iblk m hO c 1 t)) s0 = k1_pay1 (iblk m hO c 1 t)
    ∧ keep (newW (grid1.coords t) (nuM m c) (beM m c (grid1.coords t)) (bpM m c (grid1.coords t))) (k1_pay2 (iblk m hO c 2 t)) s1 = k1_pay2 (iblk m hO c 2 t)
    ∧ keep (newW (grid1.coords t) (nuM m c) (beM m c (grid1.coords t)) (bpM m c (grid1.coords t))) (k1_pay3 (iblk m hO c 3 t)) s2 = k1_pay3 (iblk m hO c 3 t) := by
  unfold keep
  by_cases hn : newW (grid1.coords t) (nuM m c) (beM m c (grid1.coords t)) (bpM m c (grid1.coords t)) = 1#1
  · simp only [if_pos hn, and_self]
  · simp only [if_neg hn]
    obtain ⟨h0, hb⟩ := not_new _ _ _ _ hu hn
    have hc : (grid1.coords t 0).val = t.val := coord_val t
    have hlt : t.val < grid1.N := t.isLt
    have ht : (⟨t.val - 1, by omega⟩ : Fin grid1.N).val + 1 = t.val := by show t.val - 1 + 1 = t.val; omega
    have hp := bpM_eq m c t ⟨t.val - 1, by omega⟩ ht
    have hu' : k1_cond2 (grid1.coords ⟨t.val - 1, by omega⟩) (nuM m c) = 1#1 := by
      rw [used_iff] at hu ⊢
      rw [coord_val]; rw [hc] at hu
      show ((t.val - 1 : ℕ) : ℤ) < _
      omega
    obtain ⟨a0, a1, a2⟩ := hI ⟨t.val - 1, by omega⟩ ht hu'
    obtain ⟨b0, b1, b2⟩ := iblk_same m hO c t ⟨t.val - 1, by omega⟩ (hb.trans hp)
    exact ⟨by rw [a0, b0], by rw [a1, b1], by rw [a2, b2]⟩

/-! ## The body obligation -/

abbrev ms (hO : Ok m) (t : Fin (cfgM m hO).N) (w : Fin 5) := ((cfgM m hO).win w).stage ((cfgM m hO).slots t w)

theorem live4 (hO : Ok m) (i : grid1.Coords) : (cfgM m hO).idle 4 i = false := by
  show (!(k1_cond2 i ((tbl m).atD 1 ![0]) == 1#1) && !(k1_cond3 i ((tbl m).atD 1 ![0]) == 1#1)) = false
  rcases used_or i ((tbl m).atD 1 ![0]) with h | h <;> simp [h]

def bodyPre (hO : Ok m) (c : Dev nD) (t : Fin (cfgM m hO).N) : sProp (MM F) :=
  iprop((dats m hO c).Φ t.castSucc ∗ (dats m hO c).owesAt () t.castSucc
    ∗ (∃ d, owns (c : Thread nD τ) (ms m hO t 0) fullShare ((dats m hO c).before 0 t d))
    ∗ (∃ d, owns (c : Thread nD τ) (ms m hO t 1) fullShare ((dats m hO c).before 1 t d))
    ∗ (∃ d, owns (c : Thread nD τ) (ms m hO t 2) fullShare ((dats m hO c).before 2 t d))
    ∗ (∃ d, owns (c : Thread nD τ) (ms m hO t 3) fullShare ((dats m hO c).before 3 t d))
    ∗ (∃ d, owns (c : Thread nD τ) (ms m hO t 4) fullShare ((dats m hO c).before 4 t d)))

def bodyPost (hO : Ok m) (c : Dev nD) (t : Fin (cfgM m hO).N) : sProp (MM F) :=
  iprop((dats m hO c).Φ t.succ ∗ (dats m hO c).owesAt () t.succ
    ∗ owns (c : Thread nD τ) (ms m hO t 0) fullShare ((dats m hO c).after 0 t)
    ∗ owns (c : Thread nD τ) (ms m hO t 1) fullShare ((dats m hO c).after 1 t)
    ∗ owns (c : Thread nD τ) (ms m hO t 2) fullShare ((dats m hO c).after 2 t)
    ∗ owns (c : Thread nD τ) (ms m hO t 3) fullShare ((dats m hO c).after 3 t)
    ∗ owns (c : Thread nD τ) (ms m hO t 4) fullShare ((dats m hO c).after 4 t))

/-- The body as the grid calls it at point `t`. -/
abbrev bodyAt (hO : Ok m) (t : Fin (cfgM m hO).N) : Prog (TpuEff nD τ sig (Elt F) Λ₀ .tc) PUnit :=
  cc1_moe_ffn (grid1.coords t) tb0 (Memref.isWhole_whole _) tb1 (Memref.isWhole_whole _)
    (spec1_0.stage ((cfgM m hO).slots t 0)) (hstage1_0 (((cfgM m hO).slots t 0).cast nbuf1_0)) (spec1_1.stage ((cfgM m hO).slots t 1)) (hstage1_1 (((cfgM m hO).slots t 1).cast nbuf1_1))
    (spec1_2.stage ((cfgM m hO).slots t 2)) (hstage1_2 (((cfgM m hO).slots t 2).cast nbuf1_2)) (spec1_3.stage ((cfgM m hO).slots t 3)) (hstage1_3 (((cfgM m hO).slots t 3).cast nbuf1_3))
    (spec1_4.stage ((cfgM m hO).slots t 4)) (hstage1_4 (((cfgM m hO).slots t 4).cast nbuf1_4))
    sc0 (Memref.isWhole_whole _) sc1 (Memref.isWhole_whole _) sc2 (Memref.isWhole_whole _)

/-- The output's contents after a point, from what `run` leaves. -/
theorem out_eq (hO : Ok m) (c : Dev nD) (t : Fin (cfgM m hO).N) (y : Vec F S512x2x512 .bf16) (s0 s1 s2 : Vec F S1024x1024 .bf16) (hI : Inv m hO c t.val s0 s1 s2) :
    outW (grid1.coords t) (nuM m c) (iblk m hO c 0 t)
      (keep (newW (grid1.coords t) (nuM m c) (beM m c (grid1.coords t)) (bpM m c (grid1.coords t))) (k1_pay1 (iblk m hO c 1 t)) s0)
      (keep (newW (grid1.coords t) (nuM m c) (beM m c (grid1.coords t)) (bpM m c (grid1.coords t))) (k1_pay2 (iblk m hO c 2 t)) s1)
      (keep (newW (grid1.coords t) (nuM m c) (beM m c (grid1.coords t)) (bpM m c (grid1.coords t))) (k1_pay3 (iblk m hO c 3 t)) s2) y = outB m hO c t := by
  unfold outB outW
  by_cases h3 : k1_cond3 (grid1.coords t) (nuM m c) = 1#1
  · rw [if_pos h3, if_pos h3]
  · have h2 := (used_or (grid1.coords t) (nuM m c)).resolve_right h3
    obtain ⟨a, b, d⟩ := keep_used m hO c t s0 s1 s2 hI h2
    rw [if_neg h3, if_neg h3, if_pos h2, if_pos h2, a, b, d]

set_option maxHeartbeats 1000000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  obtain ⟨b0, b1, b2, b3⟩ := before_in m hO c t
  simp only [b0, b1, b2, b3]
  rw [show (dats m hO c).Φ t.castSucc = PhiM m hO c t.val from rfl, show (dats m hO c).Φ t.succ = PhiM m hO c (t.val + 1) from rfl,
    show (dats m hO c).owesAt () t.succ = (dats m hO c).owesAt () t.castSucc from rfl,
    show (dats m hO c).after 0 t = iblk m hO c 0 t from rfl, show (dats m hO c).after 1 t = iblk m hO c 1 t from rfl,
    show (dats m hO c).after 2 t = iblk m hO c 2 t from rfl, show (dats m hO c).after 3 t = iblk m hO c 3 t from rfl, after4]
  unfold PhiM
  iintro ⟨⟨HT0, HT1, Hp, ⟨%s0, %s1, %s2, %hI, S0, S1, S2⟩⟩, Ho, ⟨%d0, H0⟩, ⟨%d1, H1⟩, ⟨%d2, H2⟩, ⟨%d3, H3⟩, ⟨%d4, H4⟩⟩
  rw [← out_eq m hO c t ((dats m hO c).before 4 t d4) s0 s1 s2 hI]
  iapply (run c (grid1.coords t) _ _ _ _ _ _ _ _ _ _ (tbl m 0) (tbl m 1) (iblk m hO c 0 t) (iblk m hO c 1 t) (iblk m hO c 2 t) (iblk m hO c 3 t) ((dats m hO c).before 4 t d4) s0 s1 s2 Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  iintro ⟨HT0, HT1, H0, H1, H2, H3, H4, S0, S1, S2⟩
  isplitl [HT0 HT1 Hp S0 S1 S2]
  · isplitl [HT0]; · iexact HT0
    isplitl [HT1]; · iexact HT1
    isplitl [Hp]; · iexact Hp
    iexists _; iexists _; iexists _
    isplitr
    swap
    · isplitl [S0]; · iexact S0
      isplitl [S1]; · iexact S1
      iexact S2
    ipureintro
    intro u hu hused
    obtain rfl : u = t := Fin.ext (Nat.succ_injective hu)
    exact keep_used m hO c u s0 s1 s2 hI hused
  isplitl [Ho]; · iexact Ho
  isplitl [H0]; · iexact H0
  isplitl [H1]; · iexact H1
  isplitl [H2]; · iexact H2
  isplitl [H3]; · iexact H3
  iexact H4

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body obligation at every point. -/
theorem body_obligation (hO : Ok m) (c : Dev nD) : BodyObligation (dats (F := F) m hO c) (defs₀ (F := F)) Variants.none () Set.univ := fun t => by
  have hi : idle1 (tbl m) 4 (((pcfg1 (F := F)).gridAt (tbl m)).coords t) = false := live4 m hO _
  rw [bigSep_W1, bigSep_W1, defs₀_row]
  simp only [hi]
  exact triple_restated (sound_body m hO c t) rfl .rfl fun _ => .rfl

/-! ## The run and the frame -/

/-- A scratch buffer held whole is its memref owned at what it reads as, and back. -/
theorem sc_in (c : Dev nD) {S : Shape} {e : EltTy} {sp : Space} (b : Ref sig .tc) (M : Memref sig .tc sp S e) (hM : M.IsWhole) (hb : M.view.ref = b) :
    iprop(∃ f : Buf (Elt F) ((c : Thread nD τ).loc b), ((c : Thread nD τ).loc b) ↦{fullShare} f) ⊢ (∃ X, owns (c : Thread nD τ) M fullShare X : sProp (MM F)) := by
  subst hb
  unfold owns
  rw [hM.set_eq_univ]
  iintro ⟨%f, H⟩
  iexists (M.view.read (Elt F) f); iexists f
  isplitr; · ipureintro; rfl
  iexact H
theorem sc_out (c : Dev nD) {S : Shape} {e : EltTy} {sp : Space} (b : Ref sig .tc) (M : Memref sig .tc sp S e) (hM : M.IsWhole) (hb : M.view.ref = b) :
    (∃ X, owns (c : Thread nD τ) M fullShare X : sProp (MM F)) ⊢ iprop(∃ f : Buf (Elt F) ((c : Thread nD τ).loc b), ((c : Thread nD τ).loc b) ↦{fullShare} f) := by
  subst hb
  unfold owns
  rw [hM.set_eq_univ]
  iintro ⟨%X, %f, %hf, H⟩
  iexists f
  iexact H

theorem hin (hO : Ok m) (c : Dev nD) : iprop((∃ r, prngReg c r) ∗ Pipeline.prefHeld pre1 c (fun _ => fullShare) (tbl m) ∗ Pipeline.scopedRest spec1 c) ⊢ (dats m hO c).Φ 0 := by
  rw [show (dats m hO c).Φ 0 = PhiM m hO c 0 from rfl, tbl_held]
  unfold PhiM oth
  rw [scopedRest1_eq]
  iintro ⟨Hp, ⟨HT0, HT1⟩, A0, A1, A2, A3, R0, R1, R2, A4, A5, A6, A7⟩
  ihave S0 := (sc_in (F := F) c cc1_scratch0 sc0 (Memref.isWhole_whole _) rfl) $$ R0
  ihave S1 := (sc_in (F := F) c cc1_scratch1 sc1 (Memref.isWhole_whole _) rfl) $$ R1
  ihave S2 := (sc_in (F := F) c cc1_scratch2 sc2 (Memref.isWhole_whole _) rfl) $$ R2
  icases S0 with ⟨%s0, S0⟩
  icases S1 with ⟨%s1, S1⟩
  icases S2 with ⟨%s2, S2⟩
  isplitl [HT0]; · iexact HT0
  isplitl [HT1]; · iexact HT1
  isplitl [Hp A0 A1 A2 A3 A4 A5 A6 A7]
  · isplitl [Hp]; · iexact Hp
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  iexists s0; iexists s1; iexists s2
  isplitr
  · ipureintro; intro u hu; omega
  isplitl [S0]; · iexact S0
  isplitl [S1]; · iexact S1
  iexact S2

theorem hout (hO : Ok m) (c : Dev nD) : (dats m hO c).Φ (Fin.last (cfgM m hO).N)
    ⊢ (iprop(((∃ r, prngReg c r) ∗ Pipeline.prefHeld pre1 c (fun _ => fullShare) (tbl m)) ∗ Pipeline.scopedRest spec1 c) : sProp (MM F)) := by
  rw [show (dats m hO c).Φ (Fin.last (cfgM m hO).N) = PhiM m hO c (cfgM m hO).N from rfl, tbl_held]
  unfold PhiM oth
  rw [scopedRest1_eq]
  iintro ⟨HT0, HT1, ⟨Hp, A0, A1, A2, A3, A4, A5, A6, A7⟩, ⟨%s0, %s1, %s2, %hI, S0, S1, S2⟩⟩
  isplitl [Hp HT0 HT1]
  · isplitl [Hp]; · iexact Hp
    isplitl [HT0]; · iexact HT0
    iexact HT1
  isplitl [A0]; · iexact A0
  isplitl [A1]; · iexact A1
  isplitl [A2]; · iexact A2
  isplitl [A3]; · iexact A3
  isplitl [S0]
  · iapply (sc_out (F := F) c cc1_scratch0 sc0 (Memref.isWhole_whole _) rfl); iexists s0; iexact S0
  isplitl [S1]
  · iapply (sc_out (F := F) c cc1_scratch1 sc1 (Memref.isWhole_whole _) rfl); iexists s1; iexact S1
  isplitl [S2]
  · iapply (sc_out (F := F) c cc1_scratch2 sc2 (Memref.isWhole_whole _) rfl); iexists s2; iexact S2
  isplitl [A4]; · iexact A4
  isplitl [A5]; · iexact A5
  isplitl [A6]; · iexact A6
  iexact A7

end Cert.ExpertsIdeal.Ex

end
-- ==== Proof.Ex.Ends.lean ====
module

public import proofs.«01_k».proof.Proof.Ex.Frame

@[expose] public section

set_option maxRecDepth 16384

noncomputable section

namespace Cert.ExpertsIdeal.Ex

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ExpertsIdeal Cert.ExpertsIdeal.Gen

variable {F : FTy → Type} [FloatOps F]

/-! # The call that packs the rows into words, over its grid -/

namespace R0

theorem run (c : Dev nD) (i : grid0.Coords) (arg1 : Memref sig .tc .vmem S512x1024 .bf16) (harg1 : arg1.IsWhole) (arg2 : Memref sig .tc .vmem S512x2x512 .bf16) (harg2 : arg2.IsWhole)
    (x : Vec F S512x1024 .bf16) (y : Vec F S512x2x512 .bf16) (E : Set ℕ) (K : PUnit → sProp (MM F)) :
    iprop(owns (c : Thread nD τ) arg1 fullShare x ∗ owns (c : Thread nD τ) arg2 fullShare y
        ∗ (iprop(owns (c : Thread nD τ) arg1 fullShare x ∗ owns (c : Thread nD τ) arg2 fullShare (k0_pay1 x)) -∗ K ⟨⟩))
      ⊢ wp frame (wpE (defs₀ (F := F)) Variants.none c none) E (cc0_pack i arg1 harg1 arg2 harg2) K := by
  rw [cc0_pack_eq_skeleton]; unfold cc0_pack_skel
  unfold owns
  iintro ⟨⟨%f0, %hf0, H0⟩, ⟨%f1, %hf1, H1⟩, Hk⟩
  sl_exec
  iapply (Idealize.SL.Sem.le_wp_ret _ _)
  iapply Hk
  isplitl [H0]
  · iexists _; isplitr; · ipureintro; exact hf0
    iexact H0
  iexists _; isplitr; swap; · iexact H1
  ipureintro
  exact (View.read_writes_full _ _ _ _ _).trans (by rw [View.readAt_full, hf0])

variable (m : (ℓ : Loc nD τ sig) → Buf (Elt F) ℓ)

/-- Window `w`'s block at point `t`. -/
def iblk (c : Dev nD) (w : Fin 2) (t : Fin cfg0.N) : ((cfg0.win w).xblock (cfg0.grid.coords t)).Idx → Elt F (cfg0.win w).elt :=
  ((cfg0.win w).blk t).view.read (Elt F) (V m c (Pipeline.arrRef spec0 w))

/-- The pipeline's proof data. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => k0_pay1 (iblk m c 0 t)
  Φ _ := iprop((∃ r, prngReg c r) ∗ Pipeline.scopedRest spec0 c)
  q _ := fullShare
  owed _ := 0

theorem A_eq (c : Dev nD) (w : Fin 2) : (dats m c).A w = V m c (Pipeline.arrRef spec0 w) := by
  dsimp only [dats]
theorem after1 (c : Dev nD) (t : Fin cfg0.N) : (dats m c).after 1 t = k0_pay1 (iblk m c 0 t) := rfl

theorem before_in (c : Dev nD) (t : Fin cfg0.N) (d) : (dats m c).before 0 t d = iblk m c 0 t :=
  ((dats m c).before_in_eq_fetched 0 rfl (fun _ => rfl) (fun _ _ _ => rfl) (fun t => by unfold Dat.blockOf; dsimp only [dats, iblk]; try rfl) t d).trans
    (by unfold Dat.fetched Dat.blockOf iblk; rw [A_eq]; try rfl)

abbrev ms (t : Fin cfg0.N) (w : Fin 2) := (cfg0.win w).stage (cfg0.slots t w)

/-- The body as the grid calls it at point `t`. -/
abbrev bodyAt (t : Fin cfg0.N) : Prog (TpuEff nD τ sig (Elt F) Λ₀ .tc) PUnit :=
  cc0_pack (grid0.coords t) (win0_0.stage (cfg0.slots t 0)) (hstage0_0 ((cfg0.slots t 0).cast nbuf0_0))
    (win0_1.stage (cfg0.slots t 1)) (hstage0_1 ((cfg0.slots t 1).cast nbuf0_1))

theorem sound_body (c : Dev nD) (t : Fin cfg0.N) :
    iprop((dats m c).Φ t.castSucc ∗ (dats m c).owesAt () t.castSucc
      ∗ (∃ d, owns (c : Thread nD τ) (ms t 0) fullShare ((dats m c).before 0 t d)) ∗ (∃ d, owns (c : Thread nD τ) (ms t 1) fullShare ((dats m c).before 1 t d)))
    ⊢ wp frame (wpE (defs₀ (F := F)) Variants.none c none) Set.univ (bodyAt t) (fun _ => iprop((dats m c).Φ t.succ ∗ (dats m c).owesAt () t.succ
      ∗ owns (c : Thread nD τ) (ms t 0) fullShare ((dats m c).after 0 t) ∗ owns (c : Thread nD τ) (ms t 1) fullShare ((dats m c).after 1 t))) := by
  unfold bodyAt
  simp only [before_in m c t]
  rw [show (dats m c).Φ t.succ = (dats m c).Φ t.castSucc from rfl, show (dats m c).owesAt () t.succ = (dats m c).owesAt () t.castSucc from rfl,
    show (dats m c).after 0 t = iblk m c 0 t from rfl, after1]
  iintro ⟨HP, Ho, ⟨%d0, H0⟩, ⟨%d1, H1⟩⟩
  iapply (run c (grid0.coords t) _ _ _ _ (iblk m c 0 t) ((dats m c).before 1 t d1) Set.univ _)
  isplitl [H0]; · iexact H0
  isplitl [H1]; · iexact H1
  iintro ⟨H0, H1⟩
  isplitl [HP]; · iexact HP
  isplitl [Ho]; · iexact Ho
  isplitl [H0]; · iexact H0
  iexact H1

theorem defs₀_row (t : Fin cfg0.N) :
    defs₀ (F := F) .tc cfg0.body (cfg0.bodyArgs t (cfg0.slots t)) = bodyAt t := by
  unfold defs₀; rw [Defs.onTc_tc]

/-- The body obligation at every point. -/
theorem body_obligation (c : Dev nD) : BodyObligation (dats (F := F) m c) (defs₀ (F := F)) Variants.none () Set.univ := fun t => by
  rw [bigSep_W0, bigSep_W0, defs₀_row]
  exact triple_restated (sound_body m c t) rfl .rfl fun _ => .rfl

end R0

/-! # The call that unpacks the words into rows, over its grid -/

namespace R2

theorem run (c : Dev nD) (i : grid2.Coords) (arg1 : Memref sig .tc .vmem S512x2x512 .bf16) (harg1 : arg1.IsWhole) (arg2 : Memref sig .tc .vmem S512x1024 .bf16) (harg2 : arg2.IsWhole)
    (x : Vec F S512x2x512 .bf16) (y : Vec F S512x1024 .bf16) (E : Set ℕ) (K : PUnit → sProp (MM F)) :
    iprop(owns (c : Thread nD τ) arg1 fullShare x ∗ owns (c : Thread nD τ) arg2 fullShare y
        ∗ (iprop(owns (c : Thread nD τ) arg1 fullShare x ∗ owns (c : Thread nD τ) arg2 fullShare (k2_pay1 x)) -∗ K ⟨⟩))
      ⊢ wp frame (wpE (defs₀ (F := F)) Variants.none c none) E (cc2_unpack i arg1 harg1 arg2 harg2) K := by
  rw [cc2_unpack_eq_skeleton]; unfold cc2_unpack_skel
  unfold owns
  iintro ⟨⟨%f0, %hf0, H0⟩, ⟨%f1, %hf1, H1⟩, Hk⟩
  sl_exec
  iapply (Idealize.SL.Sem.le_wp_ret _ _)
  iapply Hk
  isplitl [H0]
  · iexists _; isplitr; · ipureintro; exact hf0
    iexact H0
  iexists _; isplitr; swap; · iexact H1
  ipureintro
  exact (View.read_writes_full _ _ _ _ _).trans (by rw [View.readAt_full, hf0])

variable (m : (ℓ : Loc nD τ sig) → Buf (Elt F) ℓ)

/-- Window `w`'s block at point `t`. -/
def iblk (c : Dev nD) (w : Fin 2) (t : Fin cfg2.N) : ((cfg2.win w).xblock (cfg2.grid.coords t)).Idx → Elt F (cfg2.win w).elt :=
  ((cfg2.win w).blk t).view.read (Elt F) (V m c (Pipeline.arrRef spec2 w))

/-- The pipeline's proof data. -/
def dats (c : Dev nD) : Dat τ (Elt F) Unit ℕ (UR sig nD τ) ℕ cfg2 c where
  A w := V m c (Pipeline.arrRef spec2 w)
  after w t := match w with
    | ⟨0, _⟩ => iblk m c 0 t
    | ⟨1, _⟩ => k2_pay1 (iblk m c 0 t)
  Φ _ := iprop((∃ r, prngReg c r) ∗ Pipeline.scopedRest spec2 c)
  q _ := fullShare
  owed _ := 0

theorem A_eq (c : Dev nD) (w : Fin 2) : (dats m c).A w = V m c (Pipeline.arrRef spec2 w) := by
  dsimp only [dats]
theorem after1 (c : Dev nD) (t : Fin cfg2.N) : (dats m c).after 1 t = k2_pay1 (iblk m c 0 t) := rfl

theorem before_in (c : Dev nD) (t : Fin cfg2.N) (d) : (dats m c).before 0 t d = iblk m c 0 t :=
  ((dats m c).before_in_eq_fetched 0 rfl (fun _ => rfl) (fun _ _ _ => rfl) (fun t => by unfold Dat.blockOf; dsimp only [dats, iblk]; try rfl) t d).trans
    (by unfold Dat.fetched Dat.blockOf iblk; rw [A_eq]; try rfl)

abbrev ms (t : Fin cfg2.N) (w : Fin 2) := (cfg2.win w).stage (cfg2.slots t w)

/-- The body as the grid calls it at point `t`. -/
abbrev bodyAt (t : Fin cfg2.N) : Prog (TpuEff nD τ sig (Elt F) Λ₀ .tc) PUnit :=
  cc2_unpack (grid2.coords t) (win2_0.stage (cfg2.slots t 0)) (hstage2_0 ((cfg2.slots t 0).cast nbuf2_0))
    (win2_1.stage (cfg2.slots t 1)) (hstage2_1 ((cfg2.slots t 1).cast nbuf2_1))

theorem sound_body (c : Dev nD) (t : Fin cfg2.N) :
    iprop((dats m c).Φ t.castSucc ∗ (dats m c).owesAt () t.castSucc
      ∗ (∃ d, owns (c : Thread nD τ) (ms t 0) fullShare ((dats m c).before 0 t d)) ∗ (∃ d, owns (c : Thread nD τ) (ms t 1) fullShare ((dats m c).before 1 t d)))
    ⊢ wp frame (wpE (defs₀ (F := F)) Variants.none c none) Set.univ (bodyAt t) (fun _ => iprop((dats m c).Φ t.succ ∗ (dats m c).owesAt () t.succ
      ∗ owns (c : Thread nD τ) (ms t 0) fullShare ((dats m c).after 0 t) ∗ owns (c : Thread nD τ) (ms t 1) fullShare ((dats m c).after 1 t))) := by
  unfold bodyAt
  simp only [before_in m c t]
  rw [show (dats m c).Φ t.succ = (dats m c).Φ t.castSucc from rfl, show (dats m c).owesAt () t.succ = (dats m c).owesAt () t.castSucc from rfl,
    show (dats m c).after 0 t = iblk m c 0 t from rfl, after1]
  iintro ⟨HP, Ho, ⟨%d0, H0⟩, ⟨%d1, H1⟩⟩
  iapply (run c (grid2.coords t) _ _ _ _ (iblk m c 0 t) ((dats m c).before 1 t d1) Set.univ _)
  isplitl [H0]; · iexact H0
  isplitl [H1]; · iexact H1
  iintro ⟨H0, H1⟩
  isplitl [HP]; · iexact HP
  isplitl [Ho]; · iexact Ho
  isplitl [H0]; · iexact H0
  iexact H1

theorem defs₀_row (t : Fin cfg2.N) :
    defs₀ (F := F) .tc cfg2.body (cfg2.bodyArgs t (cfg2.slots t)) = bodyAt t := by
  unfold defs₀; rw [Defs.onTc_tc]

/-- The body obligation at every point. -/
theorem body_obligation (c : Dev nD) : BodyObligation (dats (F := F) m c) (defs₀ (F := F)) Variants.none () Set.univ := fun t => by
  rw [bigSep_W2, bigSep_W2, defs₀_row]
  exact triple_restated (sound_body m c t) rfl .rfl fun _ => .rfl

end R2

end Cert.ExpertsIdeal.Ex

end
-- ==== Proof.Ex.Regs.lean ====
module

public import proofs.«01_k».proof.Proof.Ex.Ends
public import Idealize.ShloMosaic.Lib.Pipeline.RegionsLoop

@[expose] public section

set_option maxRecDepth 16384

noncomputable section

namespace Cert.ExpertsIdeal.Ex

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ExpertsIdeal Cert.ExpertsIdeal.Gen

variable {F : FTy → Type} [FloatOps F]

/-! # The three calls in order -/

variable (m : (ℓ : Loc nD τ sig) → Buf (Elt F) ℓ) (ρ : Dev nD → PrngReg)

/-- The memory with one buffer's contents replaced. -/
def upd (b : Ref sig .tc) (X : Buf (Elt F) (((0 : Dev nD) : Thread nD τ).loc b)) : (ℓ : Loc nD τ sig) → Buf (Elt F) ℓ :=
  Function.update m (((0 : Dev nD) : Thread nD τ).loc b) X

theorem upd_same (b : Ref sig .tc) (X : Buf (Elt F) (((0 : Dev nD) : Thread nD τ).loc b)) : V (upd m b X) 0 b = X :=
  Function.update_self _ _ _

theorem upd_ne (b : Ref sig .tc) (X : Buf (Elt F) (((0 : Dev nD) : Thread nD τ).loc b)) (b' : Ref sig .tc) (h : b' ≠ b) : V (upd m b X) 0 b' = V m 0 b' :=
  Function.update_of_ne (fun e => h (Proc.devRef_injective _ (congrArg Prod.snd e))) _ _

/-- The memory after the first call, after the second and after the third. -/
def m1 : (ℓ : Loc nD τ sig) → Buf (Elt F) ℓ := upd m main_v0 ((R0.dats m 0).arrAt 1 cfg0.N)

theorem tbl_m1 : tbl (m1 m) = tbl m := by
  funext j
  fin_cases j
  · exact upd_ne m main_v0 ((R0.dats m 0).arrAt 1 cfg0.N) main_arg0 (by decide)
  · exact upd_ne m main_v0 ((R0.dats m 0).arrAt 1 cfg0.N) main_arg1 (by decide)

theorem ok_m1 (hO : Ok m) : Ok (m1 m) := by
  show ok1 (tbl (m1 m))
  rw [tbl_m1]; exact hO

def m2 (hO : Ok m) : (ℓ : Loc nD τ sig) → Buf (Elt F) ℓ := upd (m1 m) main_v1 ((dats (m1 m) (ok_m1 m hO) 0).arrAt 4 (cfgM (m1 m) (ok_m1 m hO)).N)
def m3 (hO : Ok m) : (ℓ : Loc nD τ sig) → Buf (Elt F) ℓ := upd (m2 m hO) main_v2 ((R2.dats (m2 m hO) 0).arrAt 1 cfg2.N)

/-- Every call's tables and proof data. -/
def adms (hO : Ok m) : (p : Fin 3) → (pcfgs (F := F) p).Adm
  | ⟨0, _⟩ => cfg0.toPCfg_adm
  | ⟨1, _⟩ => adm (m1 m) (ok_m1 m hO)
  | ⟨2, _⟩ => cfg2.toPCfg_adm

def pdats (hO : Ok m) : (p : Fin 3) → (c : Dev nD) → Dat τ (Elt F) Unit ℕ (UR sig nD τ) ℕ (Pipeline.pin (pcfgs (F := F)) (adms m hO) p) c
  | ⟨0, _⟩ => R0.dats m
  | ⟨1, _⟩ => dats (m1 m) (ok_m1 m hO)
  | ⟨2, _⟩ => R2.dats (m2 m hO)

abbrev L : GSem nD τ sig → Finset Unit := fun _ => ∅
abbrev lv : GSem nD τ sig → Unit → ℕ := fun _ _ => 0

/-- What a core holds between the calls: its buffers, its generator, nothing owed. -/
def St (V : (c : Dev nD) → (b : Ref sig .tc) → Buf (Elt F) ((c : Thread nD τ).loc b)) (c : Dev nD) : sProp (MM F) :=
  iprop(unscopedBufs c (V c) ∗ (∃ r, prngReg c r) ∗ ∃ W, owes (c : Thread nD τ) (0 : CellTallies nD τ sig Unit) W)

set_option backward.isDefEq.respectTransparency.types false in
/-- The call as a segment of the program. -/
def reg0 (hO : Ok m) : Pipeline.RegionSeg (pcfgs (F := F)) (adms m hO) (pdats m hO) () defs₀ Variants.none L lv 0 where
  win := (launch0 (F := F)).win.to₀
  block_pos := (launch0 (F := F)).block_pos
  stage_whole := (launch0 (F := F)).stage_whole
  K := PEmpty
  osem k := k.elim
  ho := Pipeline.OwnSemFacts.none _
  hbody c := (R0.body_obligation m c).loose
  hwaits := Pipeline.hwaits_of_owed_zero _ _ _ _ L lv 0 fun _ _ => rfl
  pre := St (V m)
  post := St (V (m1 m))
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := Pipeline.arrays_of_unscopedBufs (p := 0) (pcfgs (F := F)) (adms m hO) (pdats m hO) (launch0 (F := F)).win (launch0 (F := F)).arr_whole c
      ((pdats m hO 0 c).share_full fun _ => rfl) (V m c) fun w => R0.A_eq m c w
    unfold St
    iintro ⟨⟨Hub, HX, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HX] <;> iassumption
  hin c := by
    rw [show (pdats m hO 0 c).Φ 0 = iprop((∃ r, prngReg c r) ∗ Pipeline.scopedRest spec0 c) from rfl]
    iintro ⟨HX, -, Hr⟩
    isplitl [HX] <;> iassumption
  hout c := by
    rw [Pipeline.ownSems0_none, show (pdats m hO 0 c).Φ (Fin.last _) = iprop((∃ r, prngReg c r) ∗ Pipeline.scopedRest spec0 c) from rfl]
    iintro ⟨HX, Hr⟩
    isplitl [HX]; · iexact HX
    isplitr; · iempintro
    iexact Hr
  hexit c := by
    obtain rfl : c = 0 := Subsingleton.elim _ _
    have hjoin := Pipeline.unscopedBufs_of_arrays (p := 0) (pcfgs (F := F)) (adms m hO) (Ix := Unit) (Name := ℕ) (U := UR sig nD τ) (Lvl := ℕ) (launch0 (F := F)).win (launch0 (F := F)).arr_whole 0
      (pdats m hO) ((pdats m hO 0 0).share_full fun _ => rfl) (V m 0) (V (m1 m) 0) ((pdats m hO 0 0).arrAt · cfg0.N)
      (fun w => by
        fin_cases w
        · exact (((R0.dats m 0).arrAt_in 0 rfl _).trans (R0.A_eq m 0 0)).trans (upd_ne m main_v0 _ (Pipeline.arrRef spec0 0) (by decide)).symm
        · exact (upd_same m main_v0 _).symm)
      (fun b hb => upd_ne m main_v0 _ b fun h => hb (h ▸ Finset.mem_image.mpr ⟨1, Finset.mem_univ _, rfl⟩))
    unfold St
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The experts' call as a segment of the program. -/
def reg1 (hO : Ok m) : Pipeline.RegionSeg (pcfgs (F := F)) (adms m hO) (pdats m hO) () defs₀ Variants.none L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation (m1 m) (ok_m1 m hO) c).loose
  hwaits := Pipeline.hwaits_of_owed_zero _ _ _ _ L lv 1 fun _ _ => rfl
  pre := St (V (m1 m))
  post := St (V (m2 m hO))
  X c := iprop(∃ r, prngReg c r)
  Y c := iprop((∃ r, prngReg c r) ∗ Pipeline.prefHeld pre1 c (fun _ => fullShare) (tbl (m1 m)))
  Z c := Pipeline.unscopedRestP (Ix := Unit) (Name := ℕ) (U := UR sig nD τ) (Lvl := ℕ) pre1 spec1 c (V (m1 m) c)
  hentry c := by
    rw [Pipeline.ownSems0_none]
    have hsplit := Pipeline.arrays_of_unscopedBufs (p := 1) (pcfgs (F := F)) (adms m hO) (pdats m hO) (launch1 (F := F)).win (launch1 (F := F)).arr_whole c
      ((pdats m hO 1 c).share_full fun _ => rfl) (V (m1 m) c) fun w => A_eq (m1 m) (ok_m1 m hO) c w
    have htbl := Pipeline.unscopedRest_split (Ix := Unit) (Name := ℕ) (U := UR sig nD τ) (Lvl := ℕ) preFacts1 c (V (m1 m) c)
    rw [show (fun k => V (m1 m) c (pre1.ref k)) = tbl (m1 m) from funext fun k => V_pre (m1 m) c k] at htbl
    unfold St
    iintro ⟨⟨Hub, HX, HO⟩, -, -⟩
    ihave H := hsplit $$ Hub
    icases H with ⟨Ha, Hrest⟩
    ihave H' := (Entails.of_eq htbl) $$ Hrest
    icases H' with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [HX] <;> iassumption
  hin c := hin (m1 m) (ok_m1 m hO) c
  hout c := by
    rw [Pipeline.ownSems0_none]
    refine (hout (m1 m) (ok_m1 m hO) c).trans ?_
    iintro ⟨HY, Hr⟩
    isplitl [HY]; · iexact HY
    isplitr; · iempintro
    iexact Hr
  hexit c := by
    obtain rfl : c = 0 := Subsingleton.elim _ _
    have hjoin := Pipeline.unscopedBufs_of_arrays (p := 1) (pcfgs (F := F)) (adms m hO) (Ix := Unit) (Name := ℕ) (U := UR sig nD τ) (Lvl := ℕ) (launch1 (F := F)).win (launch1 (F := F)).arr_whole 0
      (pdats m hO) ((pdats m hO 1 0).share_full fun _ => rfl) (V (m1 m) 0) (V (m2 m hO) 0) ((pdats m hO 1 0).arrAt · (cfgM (m1 m) (ok_m1 m hO)).N)
      (fun w => by
        fin_cases w
        · exact (((dats (m1 m) (ok_m1 m hO) 0).arrAt_in 0 rfl _).trans (A_eq (m1 m) (ok_m1 m hO) 0 0)).trans (upd_ne (m1 m) main_v1 _ (Pipeline.arrRef spec1 0) (by decide)).symm
        · exact (((dats (m1 m) (ok_m1 m hO) 0).arrAt_in 1 rfl _).trans (A_eq (m1 m) (ok_m1 m hO) 0 1)).trans (upd_ne (m1 m) main_v1 _ (Pipeline.arrRef spec1 1) (by decide)).symm
        · exact (((dats (m1 m) (ok_m1 m hO) 0).arrAt_in 2 rfl _).trans (A_eq (m1 m) (ok_m1 m hO) 0 2)).trans (upd_ne (m1 m) main_v1 _ (Pipeline.arrRef spec1 2) (by decide)).symm
        · exact (((dats (m1 m) (ok_m1 m hO) 0).arrAt_in 3 rfl _).trans (A_eq (m1 m) (ok_m1 m hO) 0 3)).trans (upd_ne (m1 m) main_v1 _ (Pipeline.arrRef spec1 3) (by decide)).symm
        · exact (upd_same (m1 m) main_v1 _).symm)
      (fun b hb => upd_ne (m1 m) main_v1 _ b fun h => hb (h ▸ Finset.mem_image.mpr ⟨4, Finset.mem_univ _, rfl⟩))
    have htbl := Pipeline.unscopedRest_split (Ix := Unit) (Name := ℕ) (U := UR sig nD τ) (Lvl := ℕ) preFacts1 0 (V (m1 m) 0)
    rw [show (fun k => V (m1 m) 0 (pre1.ref k)) = tbl (m1 m) from funext fun k => V_pre (m1 m) 0 k] at htbl
    unfold St
    iintro ⟨Ha, HO, ⟨HY, Ht⟩, Hrest⟩
    imodintro
    isplitl [Ha Ht Hrest]
    · iapply hjoin
      isplitl [Ha]; · iexact Ha
      iapply (Entails.of_eq htbl.symm)
      isplitl [Ht] <;> iassumption
    isplitl [HY]; · iexact HY
    unfold Pipeline.Dat.owesAt Pipeline.owesWithin
    icases HO with ⟨%W, -, HO⟩; iexists W; iexact HO

set_option backward.isDefEq.respectTransparency.types false in
/-- The call as a segment of the program. -/
def reg2 (hO : Ok m) : Pipeline.RegionSeg (pcfgs (F := F)) (adms m hO) (pdats m hO) () defs₀ Variants.none L lv 2 where
  win := (launch2 (F := F)).win.to₀
  block_pos := (launch2 (F := F)).block_pos
  stage_whole := (launch2 (F := F)).stage_whole
  K := PEmpty
  osem k := k.elim
  ho := Pipeline.OwnSemFacts.none _
  hbody c := (R2.body_obligation (m2 m hO) c).loose
  hwaits := Pipeline.hwaits_of_owed_zero _ _ _ _ L lv 2 fun _ _ => rfl
  pre := St (V (m2 m hO))
  post := St (V (m3 m hO))
  X c := iprop(∃ r, prngReg c r)
  Y c := iprop(∃ r, prngReg c r)
  Z c := Pipeline.unscopedRest (Ix := Unit) (Name := ℕ) (U := UR sig nD τ) (Lvl := ℕ) spec2 c (V (m2 m hO) c)
  hentry c := by
    rw [Pipeline.ownSems0_none]
    have hsplit := Pipeline.arrays_of_unscopedBufs (p := 2) (pcfgs (F := F)) (adms m hO) (pdats m hO) (launch2 (F := F)).win (launch2 (F := F)).arr_whole c
      ((pdats m hO 2 c).share_full fun _ => rfl) (V (m2 m hO) c) fun w => R2.A_eq (m2 m hO) c w
    unfold St
    iintro ⟨⟨Hub, HX, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HX] <;> iassumption
  hin c := by
    rw [show (pdats m hO 2 c).Φ 0 = iprop((∃ r, prngReg c r) ∗ Pipeline.scopedRest spec2 c) from rfl]
    iintro ⟨HX, -, Hr⟩
    isplitl [HX] <;> iassumption
  hout c := by
    rw [Pipeline.ownSems0_none, show (pdats m hO 2 c).Φ (Fin.last _) = iprop((∃ r, prngReg c r) ∗ Pipeline.scopedRest spec2 c) from rfl]
    iintro ⟨HX, Hr⟩
    isplitl [HX]; · iexact HX
    isplitr; · iempintro
    iexact Hr
  hexit c := by
    obtain rfl : c = 0 := Subsingleton.elim _ _
    have hjoin := Pipeline.unscopedBufs_of_arrays (p := 2) (pcfgs (F := F)) (adms m hO) (Ix := Unit) (Name := ℕ) (U := UR sig nD τ) (Lvl := ℕ) (launch2 (F := F)).win (launch2 (F := F)).arr_whole 0
      (pdats m hO) ((pdats m hO 2 0).share_full fun _ => rfl) (V (m2 m hO) 0) (V (m3 m hO) 0) ((pdats m hO 2 0).arrAt · cfg2.N)
      (fun w => by
        fin_cases w
        · exact (((R2.dats (m2 m hO) 0).arrAt_in 0 rfl _).trans (R2.A_eq (m2 m hO) 0 0)).trans (upd_ne (m2 m hO) main_v2 _ (Pipeline.arrRef spec2 0) (by decide)).symm
        · exact (upd_same (m2 m hO) main_v2 _).symm)
      (fun b hb => upd_ne (m2 m hO) main_v2 _ b fun h => hb (h ▸ Finset.mem_image.mpr ⟨1, Finset.mem_univ _, rfl⟩))
    unfold St
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs (hO : Ok m) : List (Pipeline.Seg (pcfgs (F := F)) (adms m hO) (pdats m hO) () defs₀ Variants.none L lv) :=
  [.region (reg0 m hO), .region (reg1 m hO), .region (reg2 m hO)]

set_option backward.isDefEq.respectTransparency.types false in
/-- The run: every final state has every buffer as the three calls leave it and every semaphore at zero. -/
theorem run_main (hO : Ok m) : θ_run defs (onTc (τ := τ) (main (F := F))) (s₀ m ρ)
    (fun r => (∀ c : Dev nD, ∀ b : Ref sig .tc, b.isScoped = false → r.2.mem ((c : Thread nD τ).loc b) = V (m3 m hO) c b) ∧ r.2.sem = fun _ => 0) :=
  Pipeline.θ_run_regions_kit_sems (pcfgs (F := F)) (adms m hO) (pdats m hO) () (cellOf_inj (adms m hO)) emb₁ defs₀ Variants.none L lv m ρ main (segs m hO)
    (fun c Q => by rw [main_segs (adms m hO) (pdats m hO) () Variants.none L lv (reg0 m hO) (reg1 m hO) (reg2 m hO) c])
    (by simp only [segs, Pipeline.Seg.pipes_region, Pipeline.Seg.pipes_nil]; decide) (O₀ := 0) (hL := fun _ _ => rfl) (G := fun _ => iprop(emp))
    (u₀ := initOf (Pipeline.cells (Pipeline.pin (pcfgs (F := F)) (adms m hO)) (cellOf_inj (adms m hO))) (Pipeline.launchToks (Pipeline.pin (pcfgs (F := F)) (adms m hO)) (cellOf_inj (adms m hO))))
    (hu₀ := by
      iintro Hu; imodintro
      isplitl [Hu]
      · iapply (show (ownU _ : sProp (MM F)) ⊢ BI.own (emb₁ (initOf (Pipeline.cells (Pipeline.pin (pcfgs (F := F)) (adms m hO)) (cellOf_inj (adms m hO))) (Pipeline.launchToks (Pipeline.pin (pcfgs (F := F)) (adms m hO)) (cellOf_inj (adms m hO))))) from .rfl)
        iexact Hu
      iapply (show (BI.emp : sProp (MM F)) ⊢ bigSep Finset.univ (fun _ : Dev nD => (BI.emp : sProp (MM F))) from by rw [BI.bigSep_emp_const])
      iempintro)
    (T₀ := St (V m)) (Tₙ := fun c => iprop(unscopedBufs c (V (m3 m hO) c) ∗ ∃ r, prngReg c r))
    (hch := ⟨fun _ => .rfl, fun _ => .rfl, fun _ => .rfl, fun c => by
      show St (V (m3 m hO)) c ⊢ _
      unfold St
      iintro ⟨H, Hp, HO⟩
      isplitl [H Hp]
      · isplitl [H] <;> iassumption
      iexact HO⟩)
    (hinit := by
      refine Pipeline.initEach L lv fun c => ?_
      unfold St
      iintro ⟨⟨Hh, -, HO, -, Hp, -⟩, -⟩
      imodintro
      isplitl [Hh]; · iexact Hh
      isplitl [Hp]; · iexists _; iexact Hp
      iexists ∅; iexact HO)
    (QY := fun c s => ∀ b : Ref sig .tc, b.isScoped = false → s.mem ((c : Thread nD τ).loc b) = V (m3 m hO) c b)
    (hfin := fun c s' => by
      iintro ⟨⟨Hu, -⟩, HSI⟩
      unfold unscopedBufs
      imodintro
      ihave H := (pointsTo_read_all (Finset.univ.filter fun b : Ref sig .tc => ¬ b.isScoped) (fun b => (c.tc : Thread nD τ).loc b) (V (m3 m hO) c) s') $$ [Hu HSI]
      · isplitl [Hu] <;> iassumption
      icases H with ⟨%h, HSI⟩
      isplitr
      · ipureintro; intro b hb; exact h b (Finset.mem_filter.mpr ⟨Finset.mem_univ _, by simp [hb]⟩)
      iexact HSI)
    (hQ := fun _ h hz => ⟨h, funext fun g => hz g (.inr (by revert g; decide))⟩)

/-- A buffer no call writes is as launched. -/
theorem kept (hO : Ok m) (b : Ref sig .tc) (h0 : b ≠ main_v0) (h1 : b ≠ main_v1) (h2 : b ≠ main_v2) : V (m3 m hO) 0 b = V m 0 b :=
  ((upd_ne _ main_v2 _ b h2).trans (upd_ne _ main_v1 _ b h1)).trans (upd_ne _ main_v0 _ b h0)

/-- The frame: every weakly fair run ends, the arguments as they were, the result as the last call leaves it, and every semaphore at zero. -/
theorem frame (hO : Ok m) : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v2) = (R2.dats (m2 m hO) c).arrAt 1 cfg2.N)
      ∧ r.2.sem = fun _ => 0) :=
  (θ_run defs _ _).mono (fun r h => by
    refine ⟨fun c => ?_, h.2⟩
    obtain rfl : c = 0 := Subsingleton.elim _ _
    have k := h.1 0
    exact ⟨(k main_arg0 rfl).trans (kept m hO _ (by decide) (by decide) (by decide)), (k main_arg1 rfl).trans (kept m hO _ (by decide) (by decide) (by decide)),
      (k main_arg2 rfl).trans (kept m hO _ (by decide) (by decide) (by decide)), (k main_arg3 rfl).trans (kept m hO _ (by decide) (by decide) (by decide)),
      (k main_arg4 rfl).trans (kept m hO _ (by decide) (by decide) (by decide)), (k main_arg5 rfl).trans (kept m hO _ (by decide) (by decide) (by decide)),
      (k main_v2 rfl).trans (upd_same _ main_v2 _)⟩) (run_main m ρ hO)

end Cert.ExpertsIdeal.Ex

end
-- ==== Proof.Ex.Pre.lean ====
module

public import proofs.«01_k».proof.Proof.Ex.Regs
public import proofs.«01_k».proof.Proof.Gen.Pre_tables
public import Idealize.ShloMosaic.Lib.Pointwise
public import Idealize.ShloMosaic.Lib.StableHlo.Predicate

@[expose] public section

set_option maxRecDepth 16384

noncomputable section

namespace Cert.ExpertsIdeal.Ex

open Idealize.ShloMosaic Idealize.ShloMosaic.TcCoe Cert.ExpertsIdeal Cert.ExpertsIdeal.Gen

variable {F : FTy → Type} [FloatOps F]

/-! # The pipeline's side condition, from the precondition -/

/-- What the precondition says of the two tables. -/
def Tables (e : IVec S182 32) (n : IVec S1 32) : Prop :=
  (∀ b : Fin 182, 0 ≤ (e (Idealize.ShloMosaic.ix1 b)).toInt ∧ (e (Idealize.ShloMosaic.ix1 b)).toInt < 16) ∧ 1 ≤ (n (Idealize.ShloMosaic.ix1 0)).toInt

/-- It says so. -/
theorem tables_of (a0 : IVec S182 32) (a1 : IVec S1 32) (a2 : FVec F S93184x1024 .bf16) (a3 a4 a5 : FVec F S2x16x1024x1024 .f32)
    (h : (Cert.Pre_tables.fn (F := F) a0 a1 a2 a3 a4 a5).1 = (fun _ => 1#1) ∧ (Cert.Pre_tables.fn (F := F) a0 a1 a2 a3 a4 a5).2.1 = (fun _ => 1#1)
      ∧ (Cert.Pre_tables.fn (F := F) a0 a1 a2 a3 a4 a5).2.2 = (fun _ => 1#1)) : Tables a0 a1 := by
  obtain ⟨h0, h1, h2⟩ := h
  have bit : ∀ (p : Bool), BitVec.ofBool p = 1#1 → p = true := by decide
  have k0 : ∀ b : Fin 182, (0#32).sle (a0 (Idealize.ShloMosaic.ix1 b)) = true := fun b => bit _ (congrFun h0 (Idealize.ShloMosaic.ix1 b))
  have k1 : ∀ b : Fin 182, (a0 (Idealize.ShloMosaic.ix1 b)).slt 16#32 = true := fun b => bit _ (congrFun h1 (Idealize.ShloMosaic.ix1 b))
  have k2 : (1#32).sle (a1 (Idealize.ShloMosaic.ix1 0)) = true := bit _ (congrFun h2 (Idealize.ShloMosaic.ix1 0))
  refine ⟨fun b => ⟨?_, ?_⟩, ?_⟩
  · exact of_decide_eq_true (k0 b)
  · exact of_decide_eq_true (k1 b)
  · exact of_decide_eq_true k2

theorem toNat_of_toInt (v : BitVec 32) (h : 0 ≤ v.toInt) : v.toNat = v.toInt.toNat := by
  rw [BitVec.toInt_eq_toNat_cond] at h ⊢
  split at h <;> rename_i q <;> simp only [q] <;> simp
  have := v.isLt; omega

/-- A table's word at a rectangle of one element. -/
theorem at_be (pf : pre1.Contents (Elt F)) (i : grid1.Coords) :
    (pf.at 0 (Rect.unit (s := S182) ![(Scalar.indexCast (BitVec.ofNat 32 (i 0).val) : Index).toNat] S1.size (k1_off1_inb i)) numel1_S1 : BitVec 32) = (pf 0 : IVec S182 32) (Idealize.ShloMosaic.ix1 (i 0)) := by
  have hi : (i 0).val < 182 := (i 0).isLt
  refine congrArg (pf 0 : IVec S182 32) (funext fun (a : Fin 1) => ?_)
  obtain rfl : a = 0 := Subsingleton.elim _ _
  refine Fin.ext ?_
  show (BitVec.ofNat 32 (i 0).val).toNat + 1 * 0 = (i 0).val
  rw [BitVec.toNat_ofNat, Nat.mod_eq_of_lt (by omega)]
  omega

theorem at_nu (pf : pre1.Contents (Elt F)) :
    (pf.at 1 (Rect.unit (s := S1) ![0] S1.size inb_S1_S1_0) numel1_S1 : BitVec 32) = (pf 1 : IVec S1 32) (Idealize.ShloMosaic.ix1 0) := by
  refine congrArg (pf 1 : IVec S1 32) (funext fun (a : Fin 1) => ?_)
  obtain rfl : a = 0 := Subsingleton.elim _ _
  rfl

/-- The block a point fetches its tokens from: its own, or the last used one. -/
theorem min_val (i : ℕ) (hi : i < 182) (n : BitVec 32) (h1 : 1 ≤ n.toInt) :
    (Scalar.minsi (BitVec.ofNat 32 i) (Scalar.subi n 1#32)).toNat = min i (n.toInt.toNat - 1) := by
  have hl : n.toInt < 2147483648 := BitVec.toInt_lt (x := n)
  have hn : n.toNat = n.toInt.toNat := toNat_of_toInt n (by omega)
  have e1 : (Scalar.subi n 1#32).toNat = n.toInt.toNat - 1 := by
    show (n - 1#32).toNat = _
    rw [BitVec.toNat_sub]
    simp only [BitVec.toNat_ofNat]
    omega
  have t1 : (BitVec.ofNat 32 i).toInt = (i : ℤ) := by
    rw [BitVec.toInt_eq_toNat_cond, BitVec.toNat_ofNat, Nat.mod_eq_of_lt (by omega), if_pos (by omega)]
  have t2 : (Scalar.subi n 1#32).toInt = ((n.toInt.toNat - 1 : ℕ) : ℤ) := by
    rw [BitVec.toInt_eq_toNat_cond, e1, if_pos (by omega)]
  show (if (BitVec.ofNat 32 i).slt (Scalar.subi n 1#32) then BitVec.ofNat 32 i else Scalar.subi n 1#32).toNat = _
  unfold BitVec.slt
  rw [t1, t2]
  by_cases h : (i : ℤ) < ((n.toInt.toNat - 1 : ℕ) : ℤ)
  · rw [if_pos (decide_eq_true h), BitVec.toNat_ofNat, Nat.mod_eq_of_lt (by omega)]; omega
  · rw [if_neg (by simpa using h), e1]; omega

/-- The windows' block indices at a point. -/
theorem tr0 (pf : pre1.Contents (Elt F)) (i : grid1.Coords) (h : Tables (pf 0) (pf 1)) :
    cc1_transform_0 inb_S1_S1_0 numel1_S1 pf i = ![min (i 0).val (((pf 1 : IVec S1 32) (Idealize.ShloMosaic.ix1 0)).toInt.toNat - 1), 0, 0] := by
  have e : (Scalar.minsi (BitVec.ofNat 32 (i 0).val) (Scalar.subi (pf.at 1 (Rect.unit (s := S1) ![0] S1.size inb_S1_S1_0) numel1_S1 : BitVec 32) 1#32)).toNat = min (i 0).val (((pf 1 : IVec S1 32) (Idealize.ShloMosaic.ix1 0)).toInt.toNat - 1) := by
    rw [at_nu, min_val _ (i 0).isLt _ h.2]
  exact congrArg (fun z : ℕ => (![z, 0, 0] : Fin 3 → ℕ)) e

theorem tr1 (pf : pre1.Contents (Elt F)) (i : grid1.Coords) (h : Tables (pf 0) (pf 1)) :
    cc1_transform_1 k1_off1_inb numel1_S1 pf i = ![0, ((pf 0 : IVec S182 32) (Idealize.ShloMosaic.ix1 (i 0))).toInt.toNat, 0, 0] := by
  have e : (pf.at 0 (Rect.unit (s := S182) ![(Scalar.indexCast (BitVec.ofNat 32 (i 0).val) : Index).toNat] S1.size (k1_off1_inb i)) numel1_S1 : BitVec 32).toNat = ((pf 0 : IVec S182 32) (Idealize.ShloMosaic.ix1 (i 0))).toInt.toNat := by
    rw [at_be, toNat_of_toInt _ (h.1 (i 0)).1]
  exact congrArg (fun z : ℕ => (![0, z, 0, 0] : Fin 4 → ℕ)) e

theorem ok_of (pf : pre1.Contents (Elt F)) (h : Tables (pf 0) (pf 1)) : ok1 pf := by
  have w : ∀ i : grid1.Coords, ∃ h : (∀ a, (cc1_transform_1 k1_off1_inb numel1_S1 pf i a + 1) * S1x1x1024x1024.size a ≤ S2x16x1024x1024.size a), EltTy.bits .f32 = 32 ∨ (Rect.block (s := S2x16x1024x1024) S1x1x1024x1024.size (cc1_transform_1 k1_off1_inb numel1_S1 pf i) h).WholeWords (EltTy.packing .f32) := fun i => by
    refine ⟨?_, .inl rfl⟩
    rw [tr1 pf i h]
    have := h.1 (i 0)
    intro a
    fin_cases a
    · exact (by decide : (0 + 1) * 1 ≤ 2)
    · show (((pf 0 : IVec S182 32) (Idealize.ShloMosaic.ix1 (i 0))).toInt.toNat + 1) * 1 ≤ 16; omega
    · exact (by decide : (0 + 1) * 1024 ≤ 1024)
    · exact (by decide : (0 + 1) * 1024 ≤ 1024)
  refine ⟨fun i => ⟨?_, .inr (Affine.block_words_dvd (of_decide_eq_true rfl) (by decide))⟩, w, w, w⟩
  rw [tr0 pf i h]
  have hi : (i 0).val < 182 := (i 0).isLt
  intro a
  fin_cases a
  · show (min (i 0).val (((pf 1 : IVec S1 32) (Idealize.ShloMosaic.ix1 0)).toInt.toNat - 1) + 1) * 512 ≤ 93184; omega
  · exact (by decide : (0 + 1) * 2 ≤ 2)
  · exact (by decide : (0 + 1) * 512 ≤ 512)

end Cert.ExpertsIdeal.Ex

end
-- ==== Proof.Ex.Blocks.lean ====
module

public import proofs.«01_k».proof.Proof.Ex.Body
public import proofs.«01_k».proof.Proof.Ex.Pre
public import Idealize.ShloMosaic.Lib.Pipeline.ValueKit

@[expose] public section

set_option maxRecDepth 16384

noncomputable section

namespace Cert.Proof.Ex

open Cert.ExpertsIdeal hiding ix1
open Cert.ExpertsIdeal.Gen Cert.ExpertsIdeal.Ex Idealize.ShloMosaic Idealize.ShloMosaic.TcCoe Idealize.SL.Sem

variable (m : (ℓ : Loc nD τ Cert.ExpertsIdeal.sig) → Buf (Elt Ideal) ℓ) (c : Dev nD)

/-- The call's arguments. -/
abbrev aE : Ae := m ((c : Thread nD τ).loc main_arg0)
abbrev aN : An := m ((c : Thread nD τ).loc main_arg1)
abbrev aX : Ax := m ((c : Thread nD τ).loc main_arg2)
abbrev aG : Aw := m ((c : Thread nD τ).loc main_arg3)
abbrev aU : Aw := m ((c : Thread nD τ).loc main_arg4)
abbrev aD : Aw := m ((c : Thread nD τ).loc main_arg5)

theorem N_182 (hO : Ok m) : (cfgM m hO).N = 182 := N_1

theorem nu_val : nuM m c = aN m c (ix1 0) := by
  obtain rfl : c = 0 := Subsingleton.elim _ _
  exact at_nu (tbl m)

/-- The windows' block indices at a point. -/
theorem ix_0 (hO : Ok m) (hT : Tables (aE m c) (aN m c)) (t : Fin (cfgM m hO).N) :
    ((pcfg1 (F := Ideal)).win (adm m hO) 0).index t = ![min t.val ((aN m c (ix1 0)).toInt.toNat - 1), 0, 0] := by
  obtain rfl : c = 0 := Subsingleton.elim _ _
  have e := tr0 (tbl m) (grid1.coords t) hT
  rw [coord_val] at e
  exact e

theorem ix_w (hO : Ok m) (hT : Tables (aE m c) (aN m c)) (t : Fin (cfgM m hO).N) (b : Fin 182) (hb : b.val = t.val) :
    ((pcfg1 (F := Ideal)).win (adm m hO) 1).index t = ![0, (expt (aE m c) b).val, 0, 0] ∧ ((pcfg1 (F := Ideal)).win (adm m hO) 2).index t = ![0, (expt (aE m c) b).val, 0, 0]
      ∧ ((pcfg1 (F := Ideal)).win (adm m hO) 3).index t = ![0, (expt (aE m c) b).val, 0, 0] := by
  obtain rfl : c = 0 := Subsingleton.elim _ _
  have e := tr1 (tbl m) (grid1.coords t) hT
  have hi : (grid1.coords t 0 : Fin 182) = b := Fin.ext ((coord_val t).trans hb.symm)
  have h16 := (hT.1 b).2
  have hv : (aE m 0 (ix1 b)).toInt.toNat = (expt (aE m 0) b).val := by
    show _ = min _ 15
    omega
  have e' : ((tbl m 0 : IVec S182 32) (ix1 (grid1.coords t 0))).toInt.toNat = (expt (aE m 0) b).val := by
    rw [hi]; exact hv
  rw [e'] at e
  exact ⟨e, e, e⟩

theorem ix_4 (hO : Ok m) (t : Fin (cfgM m hO).N) : ((pcfg1 (F := Ideal)).win (adm m hO) 4).index t = ![t.val, 0, 0] := by
  have h : ∀ t : Fin grid1.N, cc1_transform_4 (grid1.coords t) = ![t.val, 0, 0] := by decide +kernel
  exact h t

/-- A row read back from its pairs of halves. -/
theorem half_eq_row (x : Ax) (q : Fin 93184) (j : Fin 1024) :
    (if h : j.val < 512 then packArr x (ix3 q 1 ⟨j.val, h⟩) else packArr x (ix3 q 0 ⟨j.val - 512, by omega⟩)) = x (ix2 q j) := by
  by_cases h : j.val < 512
  · rw [dif_pos h]
    refine congrArg x (congrArg (ix2 q) ?_)
    exact if_neg (show ¬ (1 : Fin 2).val = 0 by decide)
  · rw [dif_neg h]
    refine congrArg x (congrArg (ix2 q) ?_)
    refine (if_pos rfl).trans (Fin.ext ?_)
    show 512 + (j.val - 512) = j.val
    omega

/-! ## The experts' call -/

section Point

variable (hO : Ok m) (hT : Tables (aE m c) (aN m c)) (x : Ax) (hX : V m c main_v0 = packArr x) (t : Fin (cfgM m hO).N) (b : Fin 182) (hb : b.val = t.val)

include hT hX hb

theorem blk_0 (hu : (b.val : ℤ) < (aN m c (ix1 0)).toInt) (r : Fin 512) (p : Fin 2) (n : Fin 512) :
    (iblk m hO c 0 t : Vec Ideal S512x2x512 .bf16) (ix3 r p n) = packArr x (ix3 ⟨512 * b.val + r.val, by omega⟩ p n) := by
  have hm : min t.val ((aN m c (ix1 0)).toInt.toNat - 1) = b.val := by omega
  have e : (iblk m hO c 0 t : Vec Ideal S512x2x512 .bf16) (ix3 r p n) = (V m c main_v0 : FVec Ideal S93184x2x512 .bf16) (ix3 ⟨512 * b.val + r.val, by omega⟩ p n) := by
    blk_ext [iblk, ix_0 m c hO hT t, hm]
  rw [e, hX]

omit hX in
theorem blk_1 (j k : Fin 1024) : (iblk m hO c 1 t : Vec Ideal S1x1x1024x1024 .f32) (ix4 0 0 j k) = aG m c (ix4 0 (expt (aE m c) b) j k) := by
  blk_ext [iblk, V, (ix_w m c hO hT t b hb).1]

omit hX in
theorem blk_2 (j k : Fin 1024) : (iblk m hO c 2 t : Vec Ideal S1x1x1024x1024 .f32) (ix4 0 0 j k) = aU m c (ix4 0 (expt (aE m c) b) j k) := by
  blk_ext [iblk, V, (ix_w m c hO hT t b hb).2.1]

omit hX in
theorem blk_3 (j k : Fin 1024) : (iblk m hO c 3 t : Vec Ideal S1x1x1024x1024 .f32) (ix4 0 0 j k) = aD m c (ix4 0 (expt (aE m c) b) j k) := by
  blk_ext [iblk, V, (ix_w m c hO hT t b hb).2.2]

/-- A token of a used point's block. -/
theorem unp_tok (hu : (b.val : ℤ) < (aN m c (ix1 0)).toInt) (r : Fin 512) (j : Fin 1024) :
    unp (iblk m hO c 0 t) (ix2 r j) = tok x b r j := by
  refine (unp_apply _ r j).trans ?_
  simp only [blk_0 m c hO hT x hX t b hb hu]
  exact half_eq_row x ⟨512 * b.val + r.val, by omega⟩ j

/-- What a point leaves in the output's buffer. -/
theorem out_apply (r : Fin 512) (p : Fin 2) (n : Fin 512) : outB m hO c t (ix3 r p n) = tokOut (aE m c) (aN m c) x (aG m c) (aU m c) (aD m c) b r (colOf p n) := by
  unfold outB outW tokOut
  have hc : (grid1.coords t 0).val = b.val := (coord_val t).trans hb.symm
  by_cases hu : (b.val : ℤ) < (aN m c (ix1 0)).toInt
  · have h3 : ¬ k1_cond3 (grid1.coords t) (nuM m c) = 1#1 := by
      rw [past_iff, nu_val, hc]; omega
    have h2 : k1_cond2 (grid1.coords t) (nuM m c) = 1#1 := by
      rw [used_iff, nu_val, hc]; exact hu
    rw [if_neg h3, if_pos h2, if_pos hu, pay4_apply]
    refine congr (congr (congr (congrArg ffn ?_) ?_) ?_) ?_
    · exact funext fun j => unp_tok m c hO hT x hX t b hb hu _ j
    · exact funext fun j => funext fun k => (pay1_apply _ j k).trans (blk_1 m c hO hT t b hb j k)
    · exact funext fun j => funext fun k => (pay2_apply _ j k).trans (blk_2 m c hO hT t b hb j k)
    · exact funext fun k => (pay3_apply _ k _).trans (blk_3 m c hO hT t b hb k _)
  · have h3 : k1_cond3 (grid1.coords t) (nuM m c) = 1#1 := by
      rw [past_iff, nu_val, hc]; omega
    rw [if_pos h3, if_neg hu]
    exact zero_apply _

end Point

theorem flush_4 (hO : Ok m) (t : Fin (cfgM m hO).N) : ((cfgM m hO).win 4).flush t = true := by
  have h : ∀ t : Fin grid1.N, (t.val + 1 = grid1.N || decide (∃ h : t.val + 1 < grid1.N, cc1_transform_4 (grid1.coords ⟨t.val + 1, h⟩) ≠ cc1_transform_4 (grid1.coords t))) = true := by decide +kernel
  exact h t

/-- The output's blocks cover its array. -/
theorem cover_4 (hO : Ok m) (i : S93184x2x512.Idx) : ∃ t : Fin (cfgM m hO).N, ((cfgM m hO).win 4).flush t = true ∧ i ∈ (((cfgM m hO).win 4).blk t).view.set := by
  have hi : (i 0).val < 93184 := (i 0).isLt
  have hi1 : (i 1).val < 2 := (i 1).isLt
  have hi2 : (i 2).val < 512 := (i 2).isLt
  have hlt : (i 0).val / 512 < (cfgM m hO).N := by rw [N_182]; omega
  refine ⟨⟨(i 0).val / 512, hlt⟩, flush_4 m hO _, ?_⟩
  have e0 : ((pcfg1 (F := Ideal)).win (adm m hO) 4).index ⟨(i 0).val / 512, hlt⟩ 0 = (i 0).val / 512 := congrFun (ix_4 m hO ⟨(i 0).val / 512, hlt⟩) 0
  have e1 : ((pcfg1 (F := Ideal)).win (adm m hO) 4).index ⟨(i 0).val / 512, hlt⟩ 1 = 0 := congrFun (ix_4 m hO ⟨(i 0).val / 512, hlt⟩) 1
  have e2 : ((pcfg1 (F := Ideal)).win (adm m hO) 4).index ⟨(i 0).val / 512, hlt⟩ 2 = 0 := congrFun (ix_4 m hO ⟨(i 0).val / 512, hlt⟩) 2
  refine (Pipeline.Window.emb_mem_blk_iff ((cfgM m hO).win 4) ⟨(i 0).val / 512, hlt⟩ i rfl).mpr fun a => ?_
  match a with
  | ⟨0, _⟩ =>
    show ((pcfg1 (F := Ideal)).win (adm m hO) 4).index ⟨(i 0).val / 512, hlt⟩ 0 * 512 ≤ (i 0).val ∧ (i 0).val < ((pcfg1 (F := Ideal)).win (adm m hO) 4).index ⟨(i 0).val / 512, hlt⟩ 0 * 512 + 512
    rw [e0]; omega
  | ⟨1, _⟩ =>
    show ((pcfg1 (F := Ideal)).win (adm m hO) 4).index ⟨(i 0).val / 512, hlt⟩ 1 * 2 ≤ (i 1).val ∧ (i 1).val < ((pcfg1 (F := Ideal)).win (adm m hO) 4).index ⟨(i 0).val / 512, hlt⟩ 1 * 2 + 2
    rw [e1]; omega
  | ⟨2, _⟩ =>
    show ((pcfg1 (F := Ideal)).win (adm m hO) 4).index ⟨(i 0).val / 512, hlt⟩ 2 * 512 ≤ (i 2).val ∧ (i 2).val < ((pcfg1 (F := Ideal)).win (adm m hO) 4).index ⟨(i 0).val / 512, hlt⟩ 2 * 512 + 512
    rw [e2]; omega

/-- A point leaves its block of the experts' rows. -/
theorem after_4 (hO : Ok m) (hT : Tables (aE m c) (aN m c)) (x : Ax) (hX : V m c main_v0 = packArr x) (t : Fin (cfgM m hO).N) (r : Fin 512) (p : Fin 2) (n : Fin 512) :
    outB m hO c t (ix3 r p n) = packArr (outArr (aE m c) (aN m c) x (aG m c) (aU m c) (aD m c)) ((((cfgM m hO).win 4).blk t).view.emb (ix3 r p n)) := by
  have ht : t.val < 182 := lt_of_lt_of_eq t.isLt (N_182 m hO)
  refine (out_apply m c hO hT x hX t ⟨t.val, ht⟩ rfl r p n).trans ?_
  have e : tokOut (aE m c) (aN m c) x (aG m c) (aU m c) (aD m c) ⟨t.val, ht⟩ r (colOf p n)
      = packArr (outArr (aE m c) (aN m c) x (aG m c) (aU m c) (aD m c)) (ix3 ⟨512 * t.val + r.val, by omega⟩ p n) := by
    have e1 : (⟨(512 * t.val + r.val) / 512, by omega⟩ : Fin 182) = ⟨t.val, ht⟩ := Fin.ext (by simp only; omega)
    have e2 : (⟨(512 * t.val + r.val) % 512, by omega⟩ : Fin 512) = r := Fin.ext (by simp only; omega)
    show _ = tokOut _ _ _ _ _ _ (⟨(512 * t.val + r.val) / 512, _⟩ : Fin 182) (⟨(512 * t.val + r.val) % 512, _⟩ : Fin 512) (colOf p n)
    rw [e1, e2]
  refine e.trans ?_
  blk_ext []
  · refine Eq.trans ?_ (congrArg (fun z : ℕ => z * 512 + r.val) (congrFun (ix_4 m hO t) 0).symm)
    show _ = t.val * 512 + r.val
    omega
  · refine Eq.trans ?_ (congrArg (fun z : ℕ => z * 2 + p.val) (congrFun (ix_4 m hO t) 1).symm)
    show _ = 0 * 2 + p.val
    omega
  · refine Eq.trans ?_ (congrArg (fun z : ℕ => z * 512 + n.val) (congrFun (ix_4 m hO t) 2).symm)
    show _ = 0 * 512 + n.val
    omega

/-- After the call its output's array is the experts' rows, packed. -/
theorem arr_4 (hO : Ok m) (hT : Tables (aE m c) (aN m c)) (x : Ax) (hX : V m c main_v0 = packArr x) :
    (dats m hO c).arrAt 4 (cfgM m hO).N = packArr (outArr (aE m c) (aN m c) x (aG m c) (aU m c) (aD m c)) := by
  refine (dats m hO c).arrAt_eq_of_emb 4 _ (fun t _ y => ?_) (cover_4 m hO)
  have k : ∀ z : S512x2x512.Idx, outB m hO c t z = packArr (outArr (aE m c) (aN m c) x (aG m c) (aU m c) (aD m c)) ((((cfgM m hO).win 4).blk t).view.emb z) := by
    intro z
    idx_vars z
    exact after_4 m c hO hT x hX t z0 z1 z2
  exact k y

/-! ## The call that packs -/

theorem p_0 : ∀ t : Fin grid0.N, win0_0.index t = ![t.val, 0] := by decide +kernel
theorem p_1 : ∀ t : Fin grid0.N, win0_1.index t = ![t.val, 0, 0] := by decide +kernel

theorem packed : (R0.dats m c).arrAt 1 cfg0.N = packArr (aX m c) := by
  refine (R0.dats m c).arrAt_eq_of_covers 1 _ (by decide +kernel) fun t hf y => ?_
  blk_simp
  rw [R0.after1]
  idx_vars y
  have ht : t.val < 182 := lt_of_lt_of_eq t.isLt N_0
  have e : k0_pay1 (R0.iblk m c 0 t) (ix3 y0 y1 y2) = packArr (aX m c) (ix3 ⟨512 * t.val + y0.val, by omega⟩ y1 y2) := by
    rw [pack_apply]
    show _ = aX m c (ix2 ⟨512 * t.val + y0.val, _⟩ (colOf y1 y2))
    blk_ext [R0.iblk, V, p_0 t]
  refine e.trans ?_
  blk_ext [p_1 t]

/-! ## The call that unpacks -/

theorem u_0 : ∀ t : Fin grid2.N, win2_0.index t = ![t.val, 0, 0] := by decide +kernel
theorem u_1 : ∀ t : Fin grid2.N, win2_1.index t = ![t.val, 0] := by decide +kernel

theorem unpacked (x : Ax) (hX : V m c main_v1 = packArr x) : (R2.dats m c).arrAt 1 cfg2.N = x := by
  refine (R2.dats m c).arrAt_eq_of_covers 1 _ (by decide +kernel) fun t hf y => ?_
  blk_simp
  rw [R2.after1]
  idx_vars y
  have ht : t.val < 182 := lt_of_lt_of_eq t.isLt N_2
  have hb : ∀ (p : Fin 2) (n : Fin 512), (R2.iblk m c 0 t : Vec Ideal S512x2x512 .bf16) (ix3 y0 p n) = packArr x (ix3 ⟨512 * t.val + y0.val, by omega⟩ p n) := by
    intro p n
    have e : (R2.iblk m c 0 t : Vec Ideal S512x2x512 .bf16) (ix3 y0 p n) = (V m c main_v1 : FVec Ideal S93184x2x512 .bf16) (ix3 ⟨512 * t.val + y0.val, by omega⟩ p n) := by
      blk_ext [R2.iblk, u_0 t]
    rw [e, hX]
  have e : k2_pay1 (R2.iblk m c 0 t) (ix2 y0 y1) = x (ix2 ⟨512 * t.val + y0.val, by omega⟩ y1) := by
    rw [unpack_eq]
    refine (unp_apply _ y0 y1).trans ?_
    simp only [hb]
    exact half_eq_row x _ y1
  refine e.trans ?_
  blk_ext [u_1 t]

/-! ## The three calls -/

/-- After the run the result is the experts' rows. -/
theorem result (hO : Ok m) (hT : Tables (aE m 0) (aN m 0)) :
    (R2.dats (m2 m hO) 0).arrAt 1 cfg2.N = outArr (aE m 0) (aN m 0) (aX m 0) (aG m 0) (aU m 0) (aD m 0) := by
  have k : ∀ b : Ref Cert.ExpertsIdeal.sig .tc, b ≠ main_v0 → V (m1 m) 0 b = V m 0 b := fun b h => upd_ne m main_v0 _ b h
  have eE : aE (m1 m) 0 = aE m 0 := k main_arg0 (by decide)
  have eN : aN (m1 m) 0 = aN m 0 := k main_arg1 (by decide)
  have eG : aG (m1 m) 0 = aG m 0 := k main_arg3 (by decide)
  have eU : aU (m1 m) 0 = aU m 0 := k main_arg4 (by decide)
  have eD : aD (m1 m) 0 = aD m 0 := k main_arg5 (by decide)
  have h0 : V (m1 m) 0 main_v0 = packArr (aX m 0) := (upd_same m main_v0 _).trans (packed m 0)
  have hT1 : Tables (aE (m1 m) 0) (aN (m1 m) 0) := by rw [eE, eN]; exact hT
  have h1 := arr_4 (m1 m) 0 (ok_m1 m hO) hT1 (aX m 0) h0
  rw [eE, eN, eG, eU, eD] at h1
  exact unpacked (m2 m hO) 0 _ ((upd_same (m1 m) main_v1 _).trans h1)

end Cert.Proof.Ex

end
-- ==== Proof.Ex.Ref.lean ====
module

public import proofs.«01_k».proof.Proof.Gen.ExpertsRefIdeal.Run
public import proofs.«01_k».proof.Proof.Ex.Spec

@[expose] public section

set_option maxRecDepth 16384

noncomputable section

namespace Cert.Proof.Ex.Ref

open Cert.ExpertsRefIdeal Cert.ExpertsRefIdeal.Gen Idealize.ShloMosaic Idealize.ShloMosaic.TcCoe Idealize.SL.Sem

/-! ## The reference's stages -/

/-- The tokens, by block. -/
def toks (x : Ax) : FVec Ideal S182x512x1024 .f32 :=
  extf .f32 (shapeCast S182x512x1024 x shapeCasts_S93184x1024_S182x512x1024 : FVec Ideal S182x512x1024 .bf16) bitsLt_bf16_f32

/-- The first layer's experts. -/
def layer (w : Aw) : FVec Ideal S16x1024x1024 .f32 :=
  shapeCast S16x1024x1024 (extractStridedSlice S1x16x1024x1024 ![0, 0, 0, 0] w slices_S2x16x1024x1024_S1x16x1024x1024_0_0_0_0) shapeCasts_S1x16x1024x1024_S16x1024x1024

/-- The blocks' experts, one below the other. -/
def column (e : Ae) : IVec S182x1 32 := broadcastInDim S182x1 ![0] bcast_S182_S182x1_0 e

/-- The weights of each block's expert. -/
def take (w : FVec Ideal S16x1024x1024 .f32) (e : IVec S182x1 32) : FVec Ideal S182x1024x1024 .f32 :=
  Host.gather gather_S16x1024x1024_S182x1_S182x1024x1024_12_0_n_n_0_1_110241024 w e

/-- A product by block. -/
def dot (h : FVec Ideal S182x512x1024 .f32) (w : FVec Ideal S182x1024x1024 .f32) : FVec Ideal S182x512x1024 .f32 :=
  Host.dotGeneral dot_S182x512x1024_S182x1024x1024_S182x512x1024_2_1_1_2_0_0 none h w

/-- The gate after its sigmoid, times the other factor. -/
def act (g u : FVec Ideal S182x512x1024 .f32) : FVec Ideal S182x512x1024 .f32 :=
  mulf (mulf g (Host.divf (broadcastInDim S182x512x1024 ![] bcast_S_S182x512x1024 (constant S_ .f32 0x3F800000#32))
    (addf (broadcastInDim S182x512x1024 ![] bcast_S_S182x512x1024 (constant S_ .f32 0x3F800000#32)) (Host.exp (Host.negf g))))) u

/-- Which blocks are used. -/
def used (n : An) : IVec S182x1x1 1 :=
  cmpi .slt (broadcastInDim S182x1x1 ![0] bcast_S182_S182x1x1_0 (iotaInDim S182 32 0)) (broadcastInDim S182x1x1 ![0, 1, 2] bcast_S1x1x1_S182x1x1_0_1_2 (broadcastInDim S1x1x1 ![2] bcast_S1_S1x1x1_2 n))

/-- The used blocks' rows, zero elsewhere. -/
def mask (n : An) (y : FVec Ideal S182x512x1024 .f32) : FVec Ideal S182x512x1024 .bf16 :=
  truncf .bf16 (select (broadcastInDim S182x512x1024 ![0, 1, 2] bcast_S182x1x1_S182x512x1024_0_1_2 (used n)) y
    (broadcastInDim S182x512x1024 ![] bcast_S_S182x512x1024 (id (constant S_ .f32 0x00000000#32)))) bitsLt_bf16_f32

/-- The rows, one below the other. -/
def flat (y : FVec Ideal S182x512x1024 .bf16) : Ax := shapeCast S93184x1024 y shapeCasts_S182x512x1024_S93184x1024

/-- The experts' rows. -/
def rows (e : Ae) (x : Ax) (wg wu wd : Aw) : FVec Ideal S182x512x1024 .f32 :=
  dot (act (dot (toks x) (take (layer wg) (column e))) (dot (toks x) (take (layer wu) (column e)))) (take (layer wd) (column e))

/-! ## What each stage holds at an index -/

theorem toks_apply (x : Ax) (b : Fin 182) (r : Fin 512) (j : Fin 1024) : toks x (ix3 b r j) = tok x b r j := by
  have e : toks x (ix3 b r j) = x (ix2 ⟨b.val * 512 + r.val, by omega⟩ j) := by
    pointwise [toks]
  have e1 : (⟨b.val * 512 + r.val, by omega⟩ : Fin 93184) = ⟨512 * b.val + r.val, by omega⟩ := Fin.ext (by simp only; omega)
  rw [e, e1]
  rfl

theorem layer_apply (w : Aw) (i : Fin 16) (j k : Fin 1024) : layer w (ix3 i j k) = w (ix4 0 i j k) := by
  pointwise [layer]

theorem column_apply (e : Ae) (b : Fin 182) : column e (ix2 b 0) = e (ix1 b) := by
  pointwise [column]

/-- The gather's dimensions. -/
abbrev gd : GatherDims S16x1024x1024 S182x1 S182x1024x1024 := gather_S16x1024x1024_S182x1_S182x1024x1024_12_0_n_n_0_1_110241024

theorem take_apply (w : FVec Ideal S16x1024x1024 .f32) (e : IVec S182x1 32) (b : Fin 182) (j k : Fin 1024) :
    take w e (ix3 b j k) = w (ix3 ⟨min (e (ix2 b 0)).toInt.toNat 15, by omega⟩ j k) := by
  have h0 : gd.start (ix3 b j k) e 0 + gd.batchCoord (ix3 b j k) 0 + gd.offCoord (ix3 b j k) 0 = min (e (ix2 b 0)).toInt.toNat 15 := by
    rw [GatherDims.batchCoord_eq_zero _ _ _ List.not_mem_nil, GatherDims.offCoord_eq_zero _ _ _ (fun h => ((GatherDims.mem_sKept _ _).mp h).1 (List.mem_singleton.mpr rfl))]
    simp only [Nat.add_zero]
    unfold GatherDims.start
    rw [dif_pos (show (0 : Fin 3) ∈ gd.startIndexMap from List.mem_singleton.mpr rfl)]
    have hs : gd.siIdx (ix3 b j k) ⟨List.idxOf (0 : Fin 3) gd.startIndexMap, List.idxOf_lt_length_iff.2 (List.mem_singleton.mpr rfl)⟩ = ix2 b 0 := by
      funext a
      match a with
      | ⟨0, _⟩ => rfl
      | ⟨1, _⟩ => rfl
    rw [hs]
    rfl
  have h1 : gd.start (ix3 b j k) e 1 + gd.batchCoord (ix3 b j k) 1 + gd.offCoord (ix3 b j k) 1 = j.val := by
    rw [GatherDims.batchCoord_eq_zero _ _ _ List.not_mem_nil]
    unfold GatherDims.start
    rw [dif_neg (show ¬ (1 : Fin 3) ∈ gd.startIndexMap from fun h => absurd (List.mem_singleton.mp h) (by decide)), Nat.zero_add]
    rfl
  have h2 : gd.start (ix3 b j k) e 2 + gd.batchCoord (ix3 b j k) 2 + gd.offCoord (ix3 b j k) 2 = k.val := by
    rw [GatherDims.batchCoord_eq_zero _ _ _ List.not_mem_nil]
    unfold GatherDims.start
    rw [dif_neg (show ¬ (2 : Fin 3) ∈ gd.startIndexMap from fun h => absurd (List.mem_singleton.mp h) (by decide)), Nat.zero_add]
    rfl
  unfold take Host.gather
  congr 1
  funext a
  match a with
  | ⟨0, _⟩ => exact Fin.ext h0
  | ⟨1, _⟩ => exact Fin.ext h1
  | ⟨2, _⟩ => exact Fin.ext h2

theorem dot_apply (h : FVec Ideal S182x512x1024 .f32) (w : FVec Ideal S182x1024x1024 .f32) (b : Fin 182) (r : Fin 512) (n : Fin 1024) :
    dot h w (ix3 b r n) = ∑ j : Fin 1024, h (ix3 b r j) * w (ix3 b j n) := by
  pointwise [dot]

theorem act_apply (g u : FVec Ideal S182x512x1024 .f32) (b : Fin 182) (r : Fin 512) (n : Fin 1024) :
    act g u (ix3 b r n) = g (ix3 b r n) * sgm (g (ix3 b r n)) * u (ix3 b r n) := by
  pointwise [act, sgm]

theorem used_apply (n : An) (b : Fin 182) : used n (ix3 b 0 0) = 1#1 ↔ (b.val : ℤ) < (n (ix1 0)).toInt := by
  have e : used n (ix3 b 0 0) = BitVec.ofBool ((BitVec.ofNat 32 b.val).slt (n (ix1 0))) := by
    pointwise [used]
    rfl
  have hb : (BitVec.ofNat 32 b.val).toInt = (b.val : ℤ) := by
    rw [BitVec.toInt_eq_toNat_cond, BitVec.toNat_ofNat, Nat.mod_eq_of_lt (by omega), if_pos (by omega)]
  rw [e]
  unfold BitVec.slt
  rw [hb]
  by_cases h : (b.val : ℤ) < (n (ix1 0)).toInt <;> simp [h]

theorem zero_eq : Ideal.ofBits .f32 0x00000000#32 = 0 := by
  simp [Ideal.ofBits, Ideal.ieee]

theorem mask_apply (n : An) (y : FVec Ideal S182x512x1024 .f32) (b : Fin 182) (r : Fin 512) (k : Fin 1024) :
    mask n y (ix3 b r k) = if (b.val : ℤ) < (n (ix1 0)).toInt then y (ix3 b r k) else 0 := by
  have e : mask n y (ix3 b r k) = if used n (ix3 b 0 0) = 1#1 then y (ix3 b r k) else Ideal.ofBits .f32 0x00000000#32 := by
    pointwise [mask]
    rw [← zero_eq]
    rfl
  rw [e, zero_eq]
  simp only [used_apply]

theorem flat_apply (y : FVec Ideal S182x512x1024 .bf16) (q : Fin 93184) (n : Fin 1024) :
    flat y (ix2 q n) = y (ix3 ⟨q.val / 512, by omega⟩ ⟨q.val % 512, by omega⟩ n) := by
  pointwise [flat]

/-! ## The stages put together -/

theorem rows_apply (e : Ae) (x : Ax) (wg wu wd : Aw) (b : Fin 182) (r : Fin 512) (n : Fin 1024) :
    rows e x wg wu wd (ix3 b r n)
      = ffn (tok x b r) (fun j k => wg (ix4 0 (expt e b) j k)) (fun j k => wu (ix4 0 (expt e b) j k)) (fun k => wd (ix4 0 (expt e b) k n)) := by
  have ht : ∀ (w : Aw) (j k : Fin 1024), take (layer w) (column e) (ix3 b j k) = w (ix4 0 (expt e b) j k) := by
    intro w j k
    rw [take_apply, layer_apply]
    simp only [column_apply]
    rfl
  have hd : ∀ (w : Aw) (k : Fin 1024), dot (toks x) (take (layer w) (column e)) (ix3 b r k) = ∑ j : Fin 1024, tok x b r j * w (ix4 0 (expt e b) j k) := by
    intro w k
    rw [dot_apply]
    exact Finset.sum_congr rfl fun j _ => by rw [toks_apply, ht]
  unfold rows ffn
  rw [dot_apply]
  exact Finset.sum_congr rfl fun k _ => by rw [act_apply, hd, hd, ht]

/-- The reference's result is the experts' rows. -/
theorem out_eq (e : Ae) (n : An) (x : Ax) (wg wu wd : Aw) : flat (mask n (rows e x wg wu wd)) = outArr e n x wg wu wd := by
  funext i
  idx_vars i
  show _ = tokOut e n x wg wu wd ⟨i0.val / 512, _⟩ ⟨i0.val % 512, _⟩ i1
  unfold tokOut
  rw [flat_apply, mask_apply, rows_apply]

variable (m : (ℓ : Loc nD τ sig) → Buf (Elt Ideal) ℓ) (c : Dev nD)

/-- The reference's arguments. -/
abbrev rE : Ae := m ((c.tc : Thread nD τ).loc main_arg0)
abbrev rN : An := m ((c.tc : Thread nD τ).loc main_arg1)
abbrev rX : Ax := m ((c.tc : Thread nD τ).loc main_arg2)
abbrev rG : Aw := m ((c.tc : Thread nD τ).loc main_arg3)
abbrev rU : Aw := m ((c.tc : Thread nD τ).loc main_arg4)
abbrev rD : Aw := m ((c.tc : Thread nD τ).loc main_arg5)

/-- The reference's run: its result, the arguments kept. -/
theorem run (ρ : Dev nD → PrngReg) :
    θ_run defs (onTc (τ := τ) (main (F := Ideal))) ⟨m, fun _ => 0, ρ⟩ fun r => ∀ c : Dev nD,
      r.2.mem ((c.tc : Thread nD τ).loc main_v23) = outArr (rE m c) (rN m c) (rX m c) (rG m c) (rU m c) (rD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1.trans (show _ = flat (mask (rN m c) (rows (rE m c) (rX m c) (rG m c) (rU m c) (rD m c))) from rfl)).trans (out_eq _ _ _ _ _ _), (h c).2⟩) (Value.run m ρ)

end Cert.Proof.Ex.Ref

end
-- ==== Proof.Ex.Claims.lean ====
module

public import proofs.«01_k».proof.Defs
public import proofs.«01_k».proof.Proof.Ex.BPre
public import proofs.«01_k».proof.Proof.Ex.Blocks
public import proofs.«01_k».proof.Proof.Ex.Ref
public import Idealize.ShloMosaic.Lib.Bf16PairInverse

@[expose] public section

set_option maxRecDepth 16384

noncomputable section

namespace Cert.Proof.Ex

open Idealize.ShloMosaic Idealize.ShloMosaic.TcCoe Idealize.SL.Sem

/-- What the precondition says of the ideal kernel's tables. -/
theorem tables (m : (ℓ : Loc Cert.ExpertsIdeal.nD Cert.ExpertsIdeal.τ Cert.ExpertsIdeal.sig) → Buf (Elt Ideal) ℓ)
    (h : Cert.Pre_ExpertsIdeal (hPre_tables := Cert.Pre_tables.Gen.facts) m) (c : Dev Cert.ExpertsIdeal.nD) : Cert.ExpertsIdeal.Ex.Tables (aE m c) (aN m c) :=
  Cert.ExpertsIdeal.Ex.tables_of _ _ _ _ _ _ (h c)

theorem ok (m : (ℓ : Loc Cert.ExpertsIdeal.nD Cert.ExpertsIdeal.τ Cert.ExpertsIdeal.sig) → Buf (Elt Ideal) ℓ)
    (h : Cert.Pre_ExpertsIdeal (hPre_tables := Cert.Pre_tables.Gen.facts) m) : Cert.ExpertsIdeal.Ex.Ok m :=
  Cert.ExpertsIdeal.Ex.ok_of _ (tables m h 0)

/-- The experts' kernel runs, leaves its arguments and ends with every counter at zero. -/
theorem frame_kernel : Cert.quiescent_Experts (hExperts := Cert.Experts.Gen.facts) (hPre_tables := Cert.Pre_tables.Gen.facts) := fun m ρ h =>
  (θ_run Cert.Experts.defs _ _).mono (fun _ r => ⟨fun c => by
    obtain ⟨h0, h1, h2, h3, h4, h5, -⟩ := r.1 c
    exact ⟨h0, h1, h2, h3, h4, h5⟩, r.2⟩) (Cert.Experts.Ex.frame m ρ (Cert.Experts.Ex.ok_of _ (Cert.Experts.Ex.tables_of _ _ _ _ _ _ (h 0))))

/-- The ideal kernel does so too. -/
theorem frame_ideal : Cert.quiescent_ExpertsIdeal (hExpertsIdeal := Cert.ExpertsIdeal.Gen.facts) (hPre_tables := Cert.Pre_tables.Gen.facts) := fun m ρ h =>
  (θ_run Cert.ExpertsIdeal.defs _ _).mono (fun _ r => ⟨fun c => by
    obtain ⟨h0, h1, h2, h3, h4, h5, -⟩ := r.1 c
    exact ⟨h0, h1, h2, h3, h4, h5⟩, r.2⟩) (Cert.ExpertsIdeal.Ex.frame m ρ (ok m h))

/-- The reference runs, leaves its arguments, and has no counter. -/
theorem frame_ref : Cert.quiescent_ExpertsRefIdeal (hExpertsRefIdeal := Cert.ExpertsRefIdeal.Gen.facts) := fun m ρ _ =>
  (θ_run Cert.ExpertsRefIdeal.defs _ _).mono (fun r h => ⟨fun c => (h c).2, sem_eq_zero_of_no_sems (by decide) r.2⟩) (Ref.run m ρ)

/-- So it does under the precondition. -/
theorem frame_ref_pre : Cert.quiescent_ExpertsRefIdeal_pre_tables (hExpertsRefIdeal := Cert.ExpertsRefIdeal.Gen.facts) (hPre_tables := Cert.Pre_tables.Gen.facts) := fun m ρ _ =>
  (θ_run Cert.ExpertsRefIdeal.defs _ _).mono (fun r h => ⟨fun c => (h c).2, sem_eq_zero_of_no_sems (by decide) r.2⟩) (Ref.run m ρ)

/-- The ideal kernel is the kernel, its packed words held as pairs of bfloat16: the rules' statements at the shapes it
    unpacks, packs and hands on. -/
theorem preserved : Cert.preserves_Experts_ExpertsIdeal :=
  open Cert.ExpertsIdeal IdealRules.bf16_pair in
  ⟨bufferStatement S93184x2x512 S93184x1x512, bufferStatement S512x2x512 S512x1x512, statement S512x2x512 S512x1x512, IdealRules.bf16_pack.statement S512x512,
    statement S1024x512 S512x512, selectZeroStatement S512x512⟩

/-- The kernel and the reference end with the same rows. -/
theorem equal : Cert.algebraic_ExpertsIdeal_ExpertsRefIdeal (hExpertsIdeal := Cert.ExpertsIdeal.Gen.facts) (hExpertsRefIdeal := Cert.ExpertsRefIdeal.Gen.facts)
    (hPre_tables := Cert.Pre_tables.Gen.facts) := fun m ρ m' ρ' hp hag =>
  ⟨fun c => outArr (aE m c) (aN m c) (aX m c) (aG m c) (aU m c) (aD m c),
    (θ_run Cert.ExpertsIdeal.defs _ _).mono (fun _ r c => by
      obtain ⟨h0, h1, h2, h3, h4, h5, h6⟩ := r.1 c
      exact ⟨by
        obtain rfl : c = 0 := Subsingleton.elim _ _
        exact h6.trans (result m (ok m hp) (tables m hp 0)), h0, h1, h2, h3, h4, h5⟩) (Cert.ExpertsIdeal.Ex.frame m ρ (ok m hp)),
    (θ_run Cert.ExpertsRefIdeal.defs _ _).mono (fun _ h c => by
      obtain ⟨h0, hk⟩ := h c
      obtain ⟨g0, g1, g2, g3, g4, g5⟩ := hag c
      have eE : Ref.rE m' c = aE m c := g0
      have eN : Ref.rN m' c = aN m c := g1
      have eX : Ref.rX m' c = aX m c := g2
      have eG : Ref.rG m' c = aG m c := g3
      have eU : Ref.rU m' c = aU m c := g4
      have eD : Ref.rD m' c = aD m c := g5
      rw [eE, eN, eX, eG, eU, eD] at h0
      exact ⟨h0, hk⟩) (Ref.run m' ρ')⟩

end Cert.Proof.Ex

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Mix
public import proofs.«01_k».proof.Proof.Gen.Experts
public import proofs.«01_k».proof.Proof.Gen.Experts.Launch
public import proofs.«01_k».proof.Proof.Gen.Experts.Skeleton
public import proofs.«01_k».proof.Proof.Gen.ExpertsIdeal
public import proofs.«01_k».proof.Proof.Gen.ExpertsRefIdeal
public import proofs.«01_k».proof.Proof.Gen.ExpertsRefIdeal.Run
public import proofs.«01_k».proof.Proof.Gen.Pre_tables
public import proofs.«01_k».proof.Proof.Gen.ExpertsIdeal.Launch
public import proofs.«01_k».proof.Proof.Gen.ExpertsIdeal.Skeleton
public import proofs.«01_k».proof.Proof.Gen.Mix.Frame
public import proofs.«01_k».proof.Proof.Gen.MixIdeal
public import proofs.«01_k».proof.Proof.Gen.MixIdeal.Value
public import proofs.«01_k».proof.Proof.Gen.MixRefIdeal
public import proofs.«01_k».proof.Proof.Gen.MixRefIdeal.Run
public import proofs.«01_k».proof.Proof.Gen.InProj
public import proofs.«01_k».proof.Proof.Gen.InProj.Frame
public import proofs.«01_k».proof.Proof.Gen.InProjIdeal
public import proofs.«01_k».proof.Proof.Gen.ProjRefIdeal
public import proofs.«01_k».proof.Proof.Gen.InProjIdeal.Value
public import proofs.«01_k».proof.Proof.Gen.ProjRefIdeal.Run
public import proofs.«01_k».proof.Proof.At.Claims
public import proofs.«01_k».proof.Proof.In.Claims
public import proofs.«01_k».proof.Proof.Mx.Claims
public import proofs.«01_k».proof.Proof.Ex.Claims

@[expose] public section

noncomputable section

namespace Cert.Proof

/-- Every claim of the certificate. -/
theorem claim : Cert.Claim :=
  ⟨Cert.Kernel.Gen.facts, Cert.KernelIdeal.Gen.facts, Cert.ReferenceIdeal.Gen.facts, Cert.InProj.Gen.facts,
    Cert.InProjIdeal.Gen.facts, Cert.ProjRefIdeal.Gen.facts, Cert.Mix.Gen.facts, Cert.MixIdeal.Gen.facts, Cert.MixRefIdeal.Gen.facts,
    Cert.Experts.Gen.facts, Cert.ExpertsIdeal.Gen.facts, Cert.ExpertsRefIdeal.Gen.facts, Cert.Pre_finite.Gen.facts, Cert.Pre_tables.Gen.facts,
    At.frame_kernel, At.frame_ideal, At.frame_ideal_pre, At.frame_ref, At.frame_ref_pre,
    In.frame_kernel, In.frame_ideal, In.frame_ref, Mx.frame_kernel, Mx.frame_ideal, Mx.frame_ref,
    Ex.frame_kernel, Ex.frame_ideal, Ex.frame_ref, Ex.frame_ref_pre,
    At.preserved, At.equal, In.preserved, In.equal, Mx.preserved, Mx.equal, Ex.preserved, Ex.equal⟩

end Cert.Proof

end
